-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "off" .f32 0x3651B8C5#32 ((1 / 319990 : ℝ) : EReal)
  ∧ IdealRules.named_const.Statement Cert.KernelIdeal.κ "gap" .f32 0x3F666632#32 ((28799 / 31999 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S2048x32000 : Shape := ⟨2, ![2048, 32000]⟩
abbrev S2048 : Shape := ⟨1, ![2048]⟩
abbrev S_ : Shape := ⟨0, ![]⟩

class Facts : Prop where
  bcast_S_S2048x32000 : S_.BroadcastsInDim S2048x32000 (![] : Fin 0 → Fin S2048x32000.rank)
  reducesTo_S2048x32000_S_d0_1 : S2048x32000.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x32000 .f32) (main_arg1 : IVec S2048 32) : IVec S_ 1 :=
  let main_v0 : FVec F S2048x32000 .f32 := Host.absf main_arg0
  let main_cst : FVec F S_ .f32 := constant S_ .f32 0x7F800000#32
  let main_v1 : FVec F S2048x32000 .f32 := broadcastInDim S2048x32000 ![] bcast_S_S2048x32000 main_cst
  let main_v2 : IVec S2048x32000 1 := cmpf .olt main_v0 main_v1
  let main_c : IVec S_ 1 := constantI S_ 1 1#1
  let main_v3 : IVec S_ 1 := (fun x v => Host.reduce IntOp.andi x v reducesTo_S2048x32000_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 32000#32
  let main_v6 : IVec S2048 32 := broadcastInDim S2048 ![] bcast_S_S2048 main_c_1
  let main_v7 : IVec S2048 1 := cmpi .slt main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Pre_in_range.lean ====
abbrev S2048x32000 : Shape := ⟨2, ![2048, 32000]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x32000 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 32000#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048x32000 : Shape := ⟨2, ![2048, 32000]⟩
abbrev S2048 : Shape := ⟨1, ![2048]⟩
abbrev S1x1 : Shape := ⟨2, ![1, 1]⟩
abbrev S128x32000 : Shape := ⟨2, ![128, 32000]⟩
abbrev S128x3200 : Shape := ⟨2, ![128, 3200]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S32x16 : Shape := ⟨2, ![32, 16]⟩
abbrev S64 : Shape := ⟨1, ![64]⟩
abbrev S64x16 : Shape := ⟨2, ![64, 16]⟩
abbrev S16 : Shape := ⟨1, ![16]⟩
abbrev S_ : Shape := ⟨0, ![]⟩
abbrev S1x16 : Shape := ⟨2, ![1, 16]⟩

abbrev nBuf : Table → Nat
  | .hbm => 10
  | .local .tc .vmem => 4
  | .local .scVector .vmem => 3
  | _ => 0

abbrev bufTy : (tb : Table) → Fin (nBuf tb) → BufTy
  | .hbm, ⟨0, _⟩ => ⟨S2048x32000, .f32⟩
  | .hbm, ⟨1, _⟩ => ⟨S2048, .i32⟩
  | .hbm, ⟨2, _⟩ => ⟨S1x1, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local .tc .vmem, ⟨0, _⟩ => ⟨S128x32000, .f32⟩
  | .local .tc .vmem, ⟨1, _⟩ => ⟨S128x32000, .f32⟩
  | .local .tc .vmem, ⟨2, _⟩ => ⟨S1x1, .f32⟩
  | .local .tc .vmem, ⟨3, _⟩ => ⟨S1x1, .f32⟩
  | .local .scVector .vmem, ⟨0, _⟩ => ⟨S64, .i32⟩
  | .local .scVector .vmem, ⟨1, _⟩ => ⟨S64x16, .f32⟩
  | .local .scVector .vmem, ⟨2, _⟩ => ⟨S16, .f32⟩
  | _, _ => ⟨S2048x32000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_arg0_scv : Ref sig .scVector := ⟨.hbm, 0, rfl⟩
abbrev main_arg1_scv : Ref sig .scVector := ⟨.hbm, 1, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v172 : BitVec 1 := Scalar.cmpi .eq arg0 c15_i32
  let v173 : BitVec 32 := Scalar.extui v172
  let c0_i32_46 : BitVec 32 := 0#32
  let v174 : BitVec 1 := Scalar.cmpi .ne v173 c0_i32_46
  v174

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k1_off2 (i : grid1.Coords) (v6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_5 : BitVec 32 := 0#32
  let v25 : BitVec 32 := Scalar.addi v2 c0_i32_5
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c16_i32 : BitVec 32 := 16#32
  let c0_i32_1 : BitVec 32 := 0#32
  let v13 : BitVec 1 := Scalar.cmpi .sgt c16_i32 c0_i32_1
  let v14 : BitVec 32 := Scalar.extui v13
  let c0_i32_2 : BitVec 32 := 0#32
  let v15 : BitVec 1 := Scalar.cmpi .slt c16_i32 c0_i32_2
  let v16 : BitVec 32 := Scalar.extui v15
  let v17 : BitVec 32 := Scalar.subi v14 v16
  let v18 : BitVec 1 := Scalar.cmpi .ne v12 v17
  let v19 : BitVec 32 := Scalar.remsi v6 c16_i32
  let c0_i32_3 : BitVec 32 := 0#32
  let v20 : BitVec 1 := Scalar.cmpi .ne v19 c0_i32_3
  let v21 : BitVec 1 := Scalar.andi v18 v20
  let v7 : BitVec 32 := Scalar.divsi v6 c16_i32
  let c1_i32 : BitVec 32 := 1#32
  let v22 : BitVec 32 := Scalar.subi v7 c1_i32
  let v23 : BitVec 32 := Scalar.select v21 v22 v7
  let c16_i32_4 : BitVec 32 := 16#32
  let v24 : BitVec 32 := Scalar.muli v23 c16_i32_4
  ![v25.toNat, v24.toNat]

def k1_off3 (i : grid1.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c1_i32_18 : BitVec 32 := 1#32
  let v55 : BitVec 32 := Scalar.addi v2 c1_i32_18
  let c0_i32_11 : BitVec 32 := 0#32
  let v38 : BitVec 1 := Scalar.cmpi .sgt v36 c0_i32_11
  let v39 : BitVec 32 := Scalar.extui v38
  let c0_i32_12 : BitVec 32 := 0#32
  let v40 : BitVec 1 := Scalar.cmpi .slt v36 c0_i32_12
  let v41 : BitVec 32 := Scalar.extui v40
  let v42 : BitVec 32 := Scalar.subi v39 v41
  let c16_i32_10 : BitVec 32 := 16#32
  let c0_i32_13 : BitVec 32 := 0#32
  let v43 : BitVec 1 := Scalar.cmpi .sgt c16_i32_10 c0_i32_13
  let v44 : BitVec 32 := Scalar.extui v43
  let c0_i32_14 : BitVec 32 := 0#32
  let v45 : BitVec 1 := Scalar.cmpi .slt c16_i32_10 c0_i32_14
  let v46 : BitVec 32 := Scalar.extui v45
  let v47 : BitVec 32 := Scalar.subi v44 v46
  let v48 : BitVec 1 := Scalar.cmpi .ne v42 v47
  let v49 : BitVec 32 := Scalar.remsi v36 c16_i32_10
  let c0_i32_15 : BitVec 32 := 0#32
  let v50 : BitVec 1 := Scalar.cmpi .ne v49 c0_i32_15
  let v51 : BitVec 1 := Scalar.andi v48 v50
  let v37 : BitVec 32 := Scalar.divsi v36 c16_i32_10
  let c1_i32_16 : BitVec 32 := 1#32
  let v52 : BitVec 32 := Scalar.subi v37 c1_i32_16
  let v53 : BitVec 32 := Scalar.select v51 v52 v37
  let c16_i32_17 : BitVec 32 := 16#32
  let v54 : BitVec 32 := Scalar.muli v53 c16_i32_17
  ![v55.toNat, v54.toNat]

def k1_off4 (i : grid1.Coords) (v66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_31 : BitVec 32 := 2#32
  let v85 : BitVec 32 := Scalar.addi v2 c2_i32_31
  let c0_i32_24 : BitVec 32 := 0#32
  let v68 : BitVec 1 := Scalar.cmpi .sgt v66 c0_i32_24
  let v69 : BitVec 32 := Scalar.extui v68
  let c0_i32_25 : BitVec 32 := 0#32
  let v70 : BitVec 1 := Scalar.cmpi .slt v66 c0_i32_25
  let v71 : BitVec 32 := Scalar.extui v70
  let v72 : BitVec 32 := Scalar.subi v69 v71
  let c16_i32_23 : BitVec 32 := 16#32
  let c0_i32_26 : BitVec 32 := 0#32
  let v73 : BitVec 1 := Scalar.cmpi .sgt c16_i32_23 c0_i32_26
  let v74 : BitVec 32 := Scalar.extui v73
  let c0_i32_27 : BitVec 32 := 0#32
  let v75 : BitVec 1 := Scalar.cmpi .slt c16_i32_23 c0_i32_27
  let v76 : BitVec 32 := Scalar.extui v75
  let v77 : BitVec 32 := Scalar.subi v74 v76
  let v78 : BitVec 1 := Scalar.cmpi .ne v72 v77
  let v79 : BitVec 32 := Scalar.remsi v66 c16_i32_23
  let c0_i32_28 : BitVec 32 := 0#32
  let v80 : BitVec 1 := Scalar.cmpi .ne v79 c0_i32_28
  let v81 : BitVec 1 := Scalar.andi v78 v80
  let v67 : BitVec 32 := Scalar.divsi v66 c16_i32_23
  let c1_i32_29 : BitVec 32 := 1#32
  let v82 : BitVec 32 := Scalar.subi v67 c1_i32_29
  let v83 : BitVec 32 := Scalar.select v81 v82 v67
  let c16_i32_30 : BitVec 32 := 16#32
  let v84 : BitVec 32 := Scalar.muli v83 c16_i32_30
  ![v85.toNat, v84.toNat]

def k1_off5 (i : grid1.Coords) (v96 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c3_i32 : BitVec 32 := 3#32
  let v115 : BitVec 32 := Scalar.addi v2 c3_i32
  let c0_i32_37 : BitVec 32 := 0#32
  let v98 : BitVec 1 := Scalar.cmpi .sgt v96 c0_i32_37
  let v99 : BitVec 32 := Scalar.extui v98
  let c0_i32_38 : BitVec 32 := 0#32
  let v100 : BitVec 1 := Scalar.cmpi .slt v96 c0_i32_38
  let v101 : BitVec 32 := Scalar.extui v100
  let v102 : BitVec 32 := Scalar.subi v99 v101
  let c16_i32_36 : BitVec 32 := 16#32
  let c0_i32_39 : BitVec 32 := 0#32
  let v103 : BitVec 1 := Scalar.cmpi .sgt c16_i32_36 c0_i32_39
  let v104 : BitVec 32 := Scalar.extui v103
  let c0_i32_40 : BitVec 32 := 0#32
  let v105 : BitVec 1 := Scalar.cmpi .slt c16_i32_36 c0_i32_40
  let v106 : BitVec 32 := Scalar.extui v105
  let v107 : BitVec 32 := Scalar.subi v104 v106
  let v108 : BitVec 1 := Scalar.cmpi .ne v102 v107
  let v109 : BitVec 32 := Scalar.remsi v96 c16_i32_36
  let c0_i32_41 : BitVec 32 := 0#32
  let v110 : BitVec 1 := Scalar.cmpi .ne v109 c0_i32_41
  let v111 : BitVec 1 := Scalar.andi v108 v110
  let v97 : BitVec 32 := Scalar.divsi v96 c16_i32_36
  let c1_i32_42 : BitVec 32 := 1#32
  let v112 : BitVec 32 := Scalar.subi v97 c1_i32_42
  let v113 : BitVec 32 := Scalar.select v111 v112 v97
  let c16_i32_43 : BitVec 32 := 16#32
  let v114 : BitVec 32 := Scalar.muli v113 c16_i32_43
  ![v115.toNat, v114.toNat]

def k1_off6 (i : grid1.Coords) (v126 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c4_i32 : BitVec 32 := 4#32
  let v145 : BitVec 32 := Scalar.addi v2 c4_i32
  let c0_i32_49 : BitVec 32 := 0#32
  let v128 : BitVec 1 := Scalar.cmpi .sgt v126 c0_i32_49
  let v129 : BitVec 32 := Scalar.extui v128
  let c0_i32_50 : BitVec 32 := 0#32
  let v130 : BitVec 1 := Scalar.cmpi .slt v126 c0_i32_50
  let v131 : BitVec 32 := Scalar.extui v130
  let v132 : BitVec 32 := Scalar.subi v129 v131
  let c16_i32_48 : BitVec 32 := 16#32
  let c0_i32_51 : BitVec 32 := 0#32
  let v133 : BitVec 1 := Scalar.cmpi .sgt c16_i32_48 c0_i32_51
  let v134 : BitVec 32 := Scalar.extui v133
  let c0_i32_52 : BitVec 32 := 0#32
  let v135 : BitVec 1 := Scalar.cmpi .slt c16_i32_48 c0_i32_52
  let v136 : BitVec 32 := Scalar.extui v135
  let v137 : BitVec 32 := Scalar.subi v134 v136
  let v138 : BitVec 1 := Scalar.cmpi .ne v132 v137
  let v139 : BitVec 32 := Scalar.remsi v126 c16_i32_48
  let c0_i32_53 : BitVec 32 := 0#32
  let v140 : BitVec 1 := Scalar.cmpi .ne v139 c0_i32_53
  let v141 : BitVec 1 := Scalar.andi v138 v140
  let v127 : BitVec 32 := Scalar.divsi v126 c16_i32_48
  let c1_i32_54 : BitVec 32 := 1#32
  let v142 : BitVec 32 := Scalar.subi v127 c1_i32_54
  let v143 : BitVec 32 := Scalar.select v141 v142 v127
  let c16_i32_55 : BitVec 32 := 16#32
  let v144 : BitVec 32 := Scalar.muli v143 c16_i32_55
  ![v145.toNat, v144.toNat]

def k1_off7 (i : grid1.Coords) (v156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c5_i32 : BitVec 32 := 5#32
  let v175 : BitVec 32 := Scalar.addi v2 c5_i32
  let c0_i32_61 : BitVec 32 := 0#32
  let v158 : BitVec 1 := Scalar.cmpi .sgt v156 c0_i32_61
  let v159 : BitVec 32 := Scalar.extui v158
  let c0_i32_62 : BitVec 32 := 0#32
  let v160 : BitVec 1 := Scalar.cmpi .slt v156 c0_i32_62
  let v161 : BitVec 32 := Scalar.extui v160
  let v162 : BitVec 32 := Scalar.subi v159 v161
  let c16_i32_60 : BitVec 32 := 16#32
  let c0_i32_63 : BitVec 32 := 0#32
  let v163 : BitVec 1 := Scalar.cmpi .sgt c16_i32_60 c0_i32_63
  let v164 : BitVec 32 := Scalar.extui v163
  let c0_i32_64 : BitVec 32 := 0#32
  let v165 : BitVec 1 := Scalar.cmpi .slt c16_i32_60 c0_i32_64
  let v166 : BitVec 32 := Scalar.extui v165
  let v167 : BitVec 32 := Scalar.subi v164 v166
  let v168 : BitVec 1 := Scalar.cmpi .ne v162 v167
  let v169 : BitVec 32 := Scalar.remsi v156 c16_i32_60
  let c0_i32_65 : BitVec 32 := 0#32
  let v170 : BitVec 1 := Scalar.cmpi .ne v169 c0_i32_65
  let v171 : BitVec 1 := Scalar.andi v168 v170
  let v157 : BitVec 32 := Scalar.divsi v156 c16_i32_60
  let c1_i32_66 : BitVec 32 := 1#32
  let v172 : BitVec 32 := Scalar.subi v157 c1_i32_66
  let v173 : BitVec 32 := Scalar.select v171 v172 v157
  let c16_i32_67 : BitVec 32 := 16#32
  let v174 : BitVec 32 := Scalar.muli v173 c16_i32_67
  ![v175.toNat, v174.toNat]

def k1_off8 (i : grid1.Coords) (v186 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c6_i32 : BitVec 32 := 6#32
  let v205 : BitVec 32 := Scalar.addi v2 c6_i32
  let c0_i32_73 : BitVec 32 := 0#32
  let v188 : BitVec 1 := Scalar.cmpi .sgt v186 c0_i32_73
  let v189 : BitVec 32 := Scalar.extui v188
  let c0_i32_74 : BitVec 32 := 0#32
  let v190 : BitVec 1 := Scalar.cmpi .slt v186 c0_i32_74
  let v191 : BitVec 32 := Scalar.extui v190
  let v192 : BitVec 32 := Scalar.subi v189 v191
  let c16_i32_72 : BitVec 32 := 16#32
  let c0_i32_75 : BitVec 32 := 0#32
  let v193 : BitVec 1 := Scalar.cmpi .sgt c16_i32_72 c0_i32_75
  let v194 : BitVec 32 := Scalar.extui v193
  let c0_i32_76 : BitVec 32 := 0#32
  let v195 : BitVec 1 := Scalar.cmpi .slt c16_i32_72 c0_i32_76
  let v196 : BitVec 32 := Scalar.extui v195
  let v197 : BitVec 32 := Scalar.subi v194 v196
  let v198 : BitVec 1 := Scalar.cmpi .ne v192 v197
  let v199 : BitVec 32 := Scalar.remsi v186 c16_i32_72
  let c0_i32_77 : BitVec 32 := 0#32
  let v200 : BitVec 1 := Scalar.cmpi .ne v199 c0_i32_77
  let v201 : BitVec 1 := Scalar.andi v198 v200
  let v187 : BitVec 32 := Scalar.divsi v186 c16_i32_72
  let c1_i32_78 : BitVec 32 := 1#32
  let v202 : BitVec 32 := Scalar.subi v187 c1_i32_78
  let v203 : BitVec 32 := Scalar.select v201 v202 v187
  let c16_i32_79 : BitVec 32 := 16#32
  let v204 : BitVec 32 := Scalar.muli v203 c16_i32_79
  ![v205.toNat, v204.toNat]

def k1_off9 (i : grid1.Coords) (v216 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c7_i32 : BitVec 32 := 7#32
  let v235 : BitVec 32 := Scalar.addi v2 c7_i32
  let c0_i32_85 : BitVec 32 := 0#32
  let v218 : BitVec 1 := Scalar.cmpi .sgt v216 c0_i32_85
  let v219 : BitVec 32 := Scalar.extui v218
  let c0_i32_86 : BitVec 32 := 0#32
  let v220 : BitVec 1 := Scalar.cmpi .slt v216 c0_i32_86
  let v221 : BitVec 32 := Scalar.extui v220
  let v222 : BitVec 32 := Scalar.subi v219 v221
  let c16_i32_84 : BitVec 32 := 16#32
  let c0_i32_87 : BitVec 32 := 0#32
  let v223 : BitVec 1 := Scalar.cmpi .sgt c16_i32_84 c0_i32_87
  let v224 : BitVec 32 := Scalar.extui v223
  let c0_i32_88 : BitVec 32 := 0#32
  let v225 : BitVec 1 := Scalar.cmpi .slt c16_i32_84 c0_i32_88
  let v226 : BitVec 32 := Scalar.extui v225
  let v227 : BitVec 32 := Scalar.subi v224 v226
  let v228 : BitVec 1 := Scalar.cmpi .ne v222 v227
  let v229 : BitVec 32 := Scalar.remsi v216 c16_i32_84
  let c0_i32_89 : BitVec 32 := 0#32
  let v230 : BitVec 1 := Scalar.cmpi .ne v229 c0_i32_89
  let v231 : BitVec 1 := Scalar.andi v228 v230
  let v217 : BitVec 32 := Scalar.divsi v216 c16_i32_84
  let c1_i32_90 : BitVec 32 := 1#32
  let v232 : BitVec 32 := Scalar.subi v217 c1_i32_90
  let v233 : BitVec 32 := Scalar.select v231 v232 v217
  let c16_i32_91 : BitVec 32 := 16#32
  let v234 : BitVec 32 := Scalar.muli v233 c16_i32_91
  ![v235.toNat, v234.toNat]

def k1_off10 (i : grid1.Coords) (v246 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v265 : BitVec 32 := Scalar.addi v2 c8_i32
  let c0_i32_97 : BitVec 32 := 0#32
  let v248 : BitVec 1 := Scalar.cmpi .sgt v246 c0_i32_97
  let v249 : BitVec 32 := Scalar.extui v248
  let c0_i32_98 : BitVec 32 := 0#32
  let v250 : BitVec 1 := Scalar.cmpi .slt v246 c0_i32_98
  let v251 : BitVec 32 := Scalar.extui v250
  let v252 : BitVec 32 := Scalar.subi v249 v251
  let c16_i32_96 : BitVec 32 := 16#32
  let c0_i32_99 : BitVec 32 := 0#32
  let v253 : BitVec 1 := Scalar.cmpi .sgt c16_i32_96 c0_i32_99
  let v254 : BitVec 32 := Scalar.extui v253
  let c0_i32_100 : BitVec 32 := 0#32
  let v255 : BitVec 1 := Scalar.cmpi .slt c16_i32_96 c0_i32_100
  let v256 : BitVec 32 := Scalar.extui v255
  let v257 : BitVec 32 := Scalar.subi v254 v256
  let v258 : BitVec 1 := Scalar.cmpi .ne v252 v257
  let v259 : BitVec 32 := Scalar.remsi v246 c16_i32_96
  let c0_i32_101 : BitVec 32 := 0#32
  let v260 : BitVec 1 := Scalar.cmpi .ne v259 c0_i32_101
  let v261 : BitVec 1 := Scalar.andi v258 v260
  let v247 : BitVec 32 := Scalar.divsi v246 c16_i32_96
  let c1_i32_102 : BitVec 32 := 1#32
  let v262 : BitVec 32 := Scalar.subi v247 c1_i32_102
  let v263 : BitVec 32 := Scalar.select v261 v262 v247
  let c16_i32_103 : BitVec 32 := 16#32
  let v264 : BitVec 32 := Scalar.muli v263 c16_i32_103
  ![v265.toNat, v264.toNat]

def k1_off11 (i : grid1.Coords) (v276 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c9_i32 : BitVec 32 := 9#32
  let v295 : BitVec 32 := Scalar.addi v2 c9_i32
  let c0_i32_109 : BitVec 32 := 0#32
  let v278 : BitVec 1 := Scalar.cmpi .sgt v276 c0_i32_109
  let v279 : BitVec 32 := Scalar.extui v278
  let c0_i32_110 : BitVec 32 := 0#32
  let v280 : BitVec 1 := Scalar.cmpi .slt v276 c0_i32_110
  let v281 : BitVec 32 := Scalar.extui v280
  let v282 : BitVec 32 := Scalar.subi v279 v281
  let c16_i32_108 : BitVec 32 := 16#32
  let c0_i32_111 : BitVec 32 := 0#32
  let v283 : BitVec 1 := Scalar.cmpi .sgt c16_i32_108 c0_i32_111
  let v284 : BitVec 32 := Scalar.extui v283
  let c0_i32_112 : BitVec 32 := 0#32
  let v285 : BitVec 1 := Scalar.cmpi .slt c16_i32_108 c0_i32_112
  let v286 : BitVec 32 := Scalar.extui v285
  let v287 : BitVec 32 := Scalar.subi v284 v286
  let v288 : BitVec 1 := Scalar.cmpi .ne v282 v287
  let v289 : BitVec 32 := Scalar.remsi v276 c16_i32_108
  let c0_i32_113 : BitVec 32 := 0#32
  let v290 : BitVec 1 := Scalar.cmpi .ne v289 c0_i32_113
  let v291 : BitVec 1 := Scalar.andi v288 v290
  let v277 : BitVec 32 := Scalar.divsi v276 c16_i32_108
  let c1_i32_114 : BitVec 32 := 1#32
  let v292 : BitVec 32 := Scalar.subi v277 c1_i32_114
  let v293 : BitVec 32 := Scalar.select v291 v292 v277
  let c16_i32_115 : BitVec 32 := 16#32
  let v294 : BitVec 32 := Scalar.muli v293 c16_i32_115
  ![v295.toNat, v294.toNat]

def k1_off12 (i : grid1.Coords) (v306 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c10_i32 : BitVec 32 := 10#32
  let v325 : BitVec 32 := Scalar.addi v2 c10_i32
  let c0_i32_121 : BitVec 32 := 0#32
  let v308 : BitVec 1 := Scalar.cmpi .sgt v306 c0_i32_121
  let v309 : BitVec 32 := Scalar.extui v308
  let c0_i32_122 : BitVec 32 := 0#32
  let v310 : BitVec 1 := Scalar.cmpi .slt v306 c0_i32_122
  let v311 : BitVec 32 := Scalar.extui v310
  let v312 : BitVec 32 := Scalar.subi v309 v311
  let c16_i32_120 : BitVec 32 := 16#32
  let c0_i32_123 : BitVec 32 := 0#32
  let v313 : BitVec 1 := Scalar.cmpi .sgt c16_i32_120 c0_i32_123
  let v314 : BitVec 32 := Scalar.extui v313
  let c0_i32_124 : BitVec 32 := 0#32
  let v315 : BitVec 1 := Scalar.cmpi .slt c16_i32_120 c0_i32_124
  let v316 : BitVec 32 := Scalar.extui v315
  let v317 : BitVec 32 := Scalar.subi v314 v316
  let v318 : BitVec 1 := Scalar.cmpi .ne v312 v317
  let v319 : BitVec 32 := Scalar.remsi v306 c16_i32_120
  let c0_i32_125 : BitVec 32 := 0#32
  let v320 : BitVec 1 := Scalar.cmpi .ne v319 c0_i32_125
  let v321 : BitVec 1 := Scalar.andi v318 v320
  let v307 : BitVec 32 := Scalar.divsi v306 c16_i32_120
  let c1_i32_126 : BitVec 32 := 1#32
  let v322 : BitVec 32 := Scalar.subi v307 c1_i32_126
  let v323 : BitVec 32 := Scalar.select v321 v322 v307
  let c16_i32_127 : BitVec 32 := 16#32
  let v324 : BitVec 32 := Scalar.muli v323 c16_i32_127
  ![v325.toNat, v324.toNat]

def k1_off13 (i : grid1.Coords) (v336 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c11_i32 : BitVec 32 := 11#32
  let v355 : BitVec 32 := Scalar.addi v2 c11_i32
  let c0_i32_133 : BitVec 32 := 0#32
  let v338 : BitVec 1 := Scalar.cmpi .sgt v336 c0_i32_133
  let v339 : BitVec 32 := Scalar.extui v338
  let c0_i32_134 : BitVec 32 := 0#32
  let v340 : BitVec 1 := Scalar.cmpi .slt v336 c0_i32_134
  let v341 : BitVec 32 := Scalar.extui v340
  let v342 : BitVec 32 := Scalar.subi v339 v341
  let c16_i32_132 : BitVec 32 := 16#32
  let c0_i32_135 : BitVec 32 := 0#32
  let v343 : BitVec 1 := Scalar.cmpi .sgt c16_i32_132 c0_i32_135
  let v344 : BitVec 32 := Scalar.extui v343
  let c0_i32_136 : BitVec 32 := 0#32
  let v345 : BitVec 1 := Scalar.cmpi .slt c16_i32_132 c0_i32_136
  let v346 : BitVec 32 := Scalar.extui v345
  let v347 : BitVec 32 := Scalar.subi v344 v346
  let v348 : BitVec 1 := Scalar.cmpi .ne v342 v347
  let v349 : BitVec 32 := Scalar.remsi v336 c16_i32_132
  let c0_i32_137 : BitVec 32 := 0#32
  let v350 : BitVec 1 := Scalar.cmpi .ne v349 c0_i32_137
  let v351 : BitVec 1 := Scalar.andi v348 v350
  let v337 : BitVec 32 := Scalar.divsi v336 c16_i32_132
  let c1_i32_138 : BitVec 32 := 1#32
  let v352 : BitVec 32 := Scalar.subi v337 c1_i32_138
  let v353 : BitVec 32 := Scalar.select v351 v352 v337
  let c16_i32_139 : BitVec 32 := 16#32
  let v354 : BitVec 32 := Scalar.muli v353 c16_i32_139
  ![v355.toNat, v354.toNat]

def k1_off14 (i : grid1.Coords) (v366 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c12_i32 : BitVec 32 := 12#32
  let v385 : BitVec 32 := Scalar.addi v2 c12_i32
  let c0_i32_145 : BitVec 32 := 0#32
  let v368 : BitVec 1 := Scalar.cmpi .sgt v366 c0_i32_145
  let v369 : BitVec 32 := Scalar.extui v368
  let c0_i32_146 : BitVec 32 := 0#32
  let v370 : BitVec 1 := Scalar.cmpi .slt v366 c0_i32_146
  let v371 : BitVec 32 := Scalar.extui v370
  let v372 : BitVec 32 := Scalar.subi v369 v371
  let c16_i32_144 : BitVec 32 := 16#32
  let c0_i32_147 : BitVec 32 := 0#32
  let v373 : BitVec 1 := Scalar.cmpi .sgt c16_i32_144 c0_i32_147
  let v374 : BitVec 32 := Scalar.extui v373
  let c0_i32_148 : BitVec 32 := 0#32
  let v375 : BitVec 1 := Scalar.cmpi .slt c16_i32_144 c0_i32_148
  let v376 : BitVec 32 := Scalar.extui v375
  let v377 : BitVec 32 := Scalar.subi v374 v376
  let v378 : BitVec 1 := Scalar.cmpi .ne v372 v377
  let v379 : BitVec 32 := Scalar.remsi v366 c16_i32_144
  let c0_i32_149 : BitVec 32 := 0#32
  let v380 : BitVec 1 := Scalar.cmpi .ne v379 c0_i32_149
  let v381 : BitVec 1 := Scalar.andi v378 v380
  let v367 : BitVec 32 := Scalar.divsi v366 c16_i32_144
  let c1_i32_150 : BitVec 32 := 1#32
  let v382 : BitVec 32 := Scalar.subi v367 c1_i32_150
  let v383 : BitVec 32 := Scalar.select v381 v382 v367
  let c16_i32_151 : BitVec 32 := 16#32
  let v384 : BitVec 32 := Scalar.muli v383 c16_i32_151
  ![v385.toNat, v384.toNat]

def k1_off15 (i : grid1.Coords) (v396 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c13_i32 : BitVec 32 := 13#32
  let v415 : BitVec 32 := Scalar.addi v2 c13_i32
  let c0_i32_157 : BitVec 32 := 0#32
  let v398 : BitVec 1 := Scalar.cmpi .sgt v396 c0_i32_157
  let v399 : BitVec 32 := Scalar.extui v398
  let c0_i32_158 : BitVec 32 := 0#32
  let v400 : BitVec 1 := Scalar.cmpi .slt v396 c0_i32_158
  let v401 : BitVec 32 := Scalar.extui v400
  let v402 : BitVec 32 := Scalar.subi v399 v401
  let c16_i32_156 : BitVec 32 := 16#32
  let c0_i32_159 : BitVec 32 := 0#32
  let v403 : BitVec 1 := Scalar.cmpi .sgt c16_i32_156 c0_i32_159
  let v404 : BitVec 32 := Scalar.extui v403
  let c0_i32_160 : BitVec 32 := 0#32
  let v405 : BitVec 1 := Scalar.cmpi .slt c16_i32_156 c0_i32_160
  let v406 : BitVec 32 := Scalar.extui v405
  let v407 : BitVec 32 := Scalar.subi v404 v406
  let v408 : BitVec 1 := Scalar.cmpi .ne v402 v407
  let v409 : BitVec 32 := Scalar.remsi v396 c16_i32_156
  let c0_i32_161 : BitVec 32 := 0#32
  let v410 : BitVec 1 := Scalar.cmpi .ne v409 c0_i32_161
  let v411 : BitVec 1 := Scalar.andi v408 v410
  let v397 : BitVec 32 := Scalar.divsi v396 c16_i32_156
  let c1_i32_162 : BitVec 32 := 1#32
  let v412 : BitVec 32 := Scalar.subi v397 c1_i32_162
  let v413 : BitVec 32 := Scalar.select v411 v412 v397
  let c16_i32_163 : BitVec 32 := 16#32
  let v414 : BitVec 32 := Scalar.muli v413 c16_i32_163
  ![v415.toNat, v414.toNat]

def k1_off16 (i : grid1.Coords) (v426 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c14_i32 : BitVec 32 := 14#32
  let v445 : BitVec 32 := Scalar.addi v2 c14_i32
  let c0_i32_169 : BitVec 32 := 0#32
  let v428 : BitVec 1 := Scalar.cmpi .sgt v426 c0_i32_169
  let v429 : BitVec 32 := Scalar.extui v428
  let c0_i32_170 : BitVec 32 := 0#32
  let v430 : BitVec 1 := Scalar.cmpi .slt v426 c0_i32_170
  let v431 : BitVec 32 := Scalar.extui v430
  let v432 : BitVec 32 := Scalar.subi v429 v431
  let c16_i32_168 : BitVec 32 := 16#32
  let c0_i32_171 : BitVec 32 := 0#32
  let v433 : BitVec 1 := Scalar.cmpi .sgt c16_i32_168 c0_i32_171
  let v434 : BitVec 32 := Scalar.extui v433
  let c0_i32_172 : BitVec 32 := 0#32
  let v435 : BitVec 1 := Scalar.cmpi .slt c16_i32_168 c0_i32_172
  let v436 : BitVec 32 := Scalar.extui v435
  let v437 : BitVec 32 := Scalar.subi v434 v436
  let v438 : BitVec 1 := Scalar.cmpi .ne v432 v437
  let v439 : BitVec 32 := Scalar.remsi v426 c16_i32_168
  let c0_i32_173 : BitVec 32 := 0#32
  let v440 : BitVec 1 := Scalar.cmpi .ne v439 c0_i32_173
  let v441 : BitVec 1 := Scalar.andi v438 v440
  let v427 : BitVec 32 := Scalar.divsi v426 c16_i32_168
  let c1_i32_174 : BitVec 32 := 1#32
  let v442 : BitVec 32 := Scalar.subi v427 c1_i32_174
  let v443 : BitVec 32 := Scalar.select v441 v442 v427
  let c16_i32_175 : BitVec 32 := 16#32
  let v444 : BitVec 32 := Scalar.muli v443 c16_i32_175
  ![v445.toNat, v444.toNat]

def k1_off17 (i : grid1.Coords) (v456 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c15_i32 : BitVec 32 := 15#32
  let v475 : BitVec 32 := Scalar.addi v2 c15_i32
  let c0_i32_181 : BitVec 32 := 0#32
  let v458 : BitVec 1 := Scalar.cmpi .sgt v456 c0_i32_181
  let v459 : BitVec 32 := Scalar.extui v458
  let c0_i32_182 : BitVec 32 := 0#32
  let v460 : BitVec 1 := Scalar.cmpi .slt v456 c0_i32_182
  let v461 : BitVec 32 := Scalar.extui v460
  let v462 : BitVec 32 := Scalar.subi v459 v461
  let c16_i32_180 : BitVec 32 := 16#32
  let c0_i32_183 : BitVec 32 := 0#32
  let v463 : BitVec 1 := Scalar.cmpi .sgt c16_i32_180 c0_i32_183
  let v464 : BitVec 32 := Scalar.extui v463
  let c0_i32_184 : BitVec 32 := 0#32
  let v465 : BitVec 1 := Scalar.cmpi .slt c16_i32_180 c0_i32_184
  let v466 : BitVec 32 := Scalar.extui v465
  let v467 : BitVec 32 := Scalar.subi v464 v466
  let v468 : BitVec 1 := Scalar.cmpi .ne v462 v467
  let v469 : BitVec 32 := Scalar.remsi v456 c16_i32_180
  let c0_i32_185 : BitVec 32 := 0#32
  let v470 : BitVec 1 := Scalar.cmpi .ne v469 c0_i32_185
  let v471 : BitVec 1 := Scalar.andi v468 v470
  let v457 : BitVec 32 := Scalar.divsi v456 c16_i32_180
  let c1_i32_186 : BitVec 32 := 1#32
  let v472 : BitVec 32 := Scalar.subi v457 c1_i32_186
  let v473 : BitVec 32 := Scalar.select v471 v472 v457
  let c16_i32_187 : BitVec 32 := 16#32
  let v474 : BitVec 32 := Scalar.muli v473 c16_i32_187
  ![v475.toNat, v474.toNat]

def k1_off18 (i : grid1.Coords) (v486 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_199 : BitVec 32 := 16#32
  let v505 : BitVec 32 := Scalar.addi v2 c16_i32_199
  let c0_i32_192 : BitVec 32 := 0#32
  let v488 : BitVec 1 := Scalar.cmpi .sgt v486 c0_i32_192
  let v489 : BitVec 32 := Scalar.extui v488
  let c0_i32_193 : BitVec 32 := 0#32
  let v490 : BitVec 1 := Scalar.cmpi .slt v486 c0_i32_193
  let v491 : BitVec 32 := Scalar.extui v490
  let v492 : BitVec 32 := Scalar.subi v489 v491
  let c16_i32_191 : BitVec 32 := 16#32
  let c0_i32_194 : BitVec 32 := 0#32
  let v493 : BitVec 1 := Scalar.cmpi .sgt c16_i32_191 c0_i32_194
  let v494 : BitVec 32 := Scalar.extui v493
  let c0_i32_195 : BitVec 32 := 0#32
  let v495 : BitVec 1 := Scalar.cmpi .slt c16_i32_191 c0_i32_195
  let v496 : BitVec 32 := Scalar.extui v495
  let v497 : BitVec 32 := Scalar.subi v494 v496
  let v498 : BitVec 1 := Scalar.cmpi .ne v492 v497
  let v499 : BitVec 32 := Scalar.remsi v486 c16_i32_191
  let c0_i32_196 : BitVec 32 := 0#32
  let v500 : BitVec 1 := Scalar.cmpi .ne v499 c0_i32_196
  let v501 : BitVec 1 := Scalar.andi v498 v500
  let v487 : BitVec 32 := Scalar.divsi v486 c16_i32_191
  let c1_i32_197 : BitVec 32 := 1#32
  let v502 : BitVec 32 := Scalar.subi v487 c1_i32_197
  let v503 : BitVec 32 := Scalar.select v501 v502 v487
  let c16_i32_198 : BitVec 32 := 16#32
  let v504 : BitVec 32 := Scalar.muli v503 c16_i32_198
  ![v505.toNat, v504.toNat]

def k1_off19 (i : grid1.Coords) (v516 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c17_i32 : BitVec 32 := 17#32
  let v535 : BitVec 32 := Scalar.addi v2 c17_i32
  let c0_i32_205 : BitVec 32 := 0#32
  let v518 : BitVec 1 := Scalar.cmpi .sgt v516 c0_i32_205
  let v519 : BitVec 32 := Scalar.extui v518
  let c0_i32_206 : BitVec 32 := 0#32
  let v520 : BitVec 1 := Scalar.cmpi .slt v516 c0_i32_206
  let v521 : BitVec 32 := Scalar.extui v520
  let v522 : BitVec 32 := Scalar.subi v519 v521
  let c16_i32_204 : BitVec 32 := 16#32
  let c0_i32_207 : BitVec 32 := 0#32
  let v523 : BitVec 1 := Scalar.cmpi .sgt c16_i32_204 c0_i32_207
  let v524 : BitVec 32 := Scalar.extui v523
  let c0_i32_208 : BitVec 32 := 0#32
  let v525 : BitVec 1 := Scalar.cmpi .slt c16_i32_204 c0_i32_208
  let v526 : BitVec 32 := Scalar.extui v525
  let v527 : BitVec 32 := Scalar.subi v524 v526
  let v528 : BitVec 1 := Scalar.cmpi .ne v522 v527
  let v529 : BitVec 32 := Scalar.remsi v516 c16_i32_204
  let c0_i32_209 : BitVec 32 := 0#32
  let v530 : BitVec 1 := Scalar.cmpi .ne v529 c0_i32_209
  let v531 : BitVec 1 := Scalar.andi v528 v530
  let v517 : BitVec 32 := Scalar.divsi v516 c16_i32_204
  let c1_i32_210 : BitVec 32 := 1#32
  let v532 : BitVec 32 := Scalar.subi v517 c1_i32_210
  let v533 : BitVec 32 := Scalar.select v531 v532 v517
  let c16_i32_211 : BitVec 32 := 16#32
  let v534 : BitVec 32 := Scalar.muli v533 c16_i32_211
  ![v535.toNat, v534.toNat]

def k1_off20 (i : grid1.Coords) (v546 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c18_i32 : BitVec 32 := 18#32
  let v565 : BitVec 32 := Scalar.addi v2 c18_i32
  let c0_i32_217 : BitVec 32 := 0#32
  let v548 : BitVec 1 := Scalar.cmpi .sgt v546 c0_i32_217
  let v549 : BitVec 32 := Scalar.extui v548
  let c0_i32_218 : BitVec 32 := 0#32
  let v550 : BitVec 1 := Scalar.cmpi .slt v546 c0_i32_218
  let v551 : BitVec 32 := Scalar.extui v550
  let v552 : BitVec 32 := Scalar.subi v549 v551
  let c16_i32_216 : BitVec 32 := 16#32
  let c0_i32_219 : BitVec 32 := 0#32
  let v553 : BitVec 1 := Scalar.cmpi .sgt c16_i32_216 c0_i32_219
  let v554 : BitVec 32 := Scalar.extui v553
  let c0_i32_220 : BitVec 32 := 0#32
  let v555 : BitVec 1 := Scalar.cmpi .slt c16_i32_216 c0_i32_220
  let v556 : BitVec 32 := Scalar.extui v555
  let v557 : BitVec 32 := Scalar.subi v554 v556
  let v558 : BitVec 1 := Scalar.cmpi .ne v552 v557
  let v559 : BitVec 32 := Scalar.remsi v546 c16_i32_216
  let c0_i32_221 : BitVec 32 := 0#32
  let v560 : BitVec 1 := Scalar.cmpi .ne v559 c0_i32_221
  let v561 : BitVec 1 := Scalar.andi v558 v560
  let v547 : BitVec 32 := Scalar.divsi v546 c16_i32_216
  let c1_i32_222 : BitVec 32 := 1#32
  let v562 : BitVec 32 := Scalar.subi v547 c1_i32_222
  let v563 : BitVec 32 := Scalar.select v561 v562 v547
  let c16_i32_223 : BitVec 32 := 16#32
  let v564 : BitVec 32 := Scalar.muli v563 c16_i32_223
  ![v565.toNat, v564.toNat]

def k1_off21 (i : grid1.Coords) (v576 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c19_i32 : BitVec 32 := 19#32
  let v595 : BitVec 32 := Scalar.addi v2 c19_i32
  let c0_i32_229 : BitVec 32 := 0#32
  let v578 : BitVec 1 := Scalar.cmpi .sgt v576 c0_i32_229
  let v579 : BitVec 32 := Scalar.extui v578
  let c0_i32_230 : BitVec 32 := 0#32
  let v580 : BitVec 1 := Scalar.cmpi .slt v576 c0_i32_230
  let v581 : BitVec 32 := Scalar.extui v580
  let v582 : BitVec 32 := Scalar.subi v579 v581
  let c16_i32_228 : BitVec 32 := 16#32
  let c0_i32_231 : BitVec 32 := 0#32
  let v583 : BitVec 1 := Scalar.cmpi .sgt c16_i32_228 c0_i32_231
  let v584 : BitVec 32 := Scalar.extui v583
  let c0_i32_232 : BitVec 32 := 0#32
  let v585 : BitVec 1 := Scalar.cmpi .slt c16_i32_228 c0_i32_232
  let v586 : BitVec 32 := Scalar.extui v585
  let v587 : BitVec 32 := Scalar.subi v584 v586
  let v588 : BitVec 1 := Scalar.cmpi .ne v582 v587
  let v589 : BitVec 32 := Scalar.remsi v576 c16_i32_228
  let c0_i32_233 : BitVec 32 := 0#32
  let v590 : BitVec 1 := Scalar.cmpi .ne v589 c0_i32_233
  let v591 : BitVec 1 := Scalar.andi v588 v590
  let v577 : BitVec 32 := Scalar.divsi v576 c16_i32_228
  let c1_i32_234 : BitVec 32 := 1#32
  let v592 : BitVec 32 := Scalar.subi v577 c1_i32_234
  let v593 : BitVec 32 := Scalar.select v591 v592 v577
  let c16_i32_235 : BitVec 32 := 16#32
  let v594 : BitVec 32 := Scalar.muli v593 c16_i32_235
  ![v595.toNat, v594.toNat]

def k1_off22 (i : grid1.Coords) (v606 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c20_i32 : BitVec 32 := 20#32
  let v625 : BitVec 32 := Scalar.addi v2 c20_i32
  let c0_i32_241 : BitVec 32 := 0#32
  let v608 : BitVec 1 := Scalar.cmpi .sgt v606 c0_i32_241
  let v609 : BitVec 32 := Scalar.extui v608
  let c0_i32_242 : BitVec 32 := 0#32
  let v610 : BitVec 1 := Scalar.cmpi .slt v606 c0_i32_242
  let v611 : BitVec 32 := Scalar.extui v610
  let v612 : BitVec 32 := Scalar.subi v609 v611
  let c16_i32_240 : BitVec 32 := 16#32
  let c0_i32_243 : BitVec 32 := 0#32
  let v613 : BitVec 1 := Scalar.cmpi .sgt c16_i32_240 c0_i32_243
  let v614 : BitVec 32 := Scalar.extui v613
  let c0_i32_244 : BitVec 32 := 0#32
  let v615 : BitVec 1 := Scalar.cmpi .slt c16_i32_240 c0_i32_244
  let v616 : BitVec 32 := Scalar.extui v615
  let v617 : BitVec 32 := Scalar.subi v614 v616
  let v618 : BitVec 1 := Scalar.cmpi .ne v612 v617
  let v619 : BitVec 32 := Scalar.remsi v606 c16_i32_240
  let c0_i32_245 : BitVec 32 := 0#32
  let v620 : BitVec 1 := Scalar.cmpi .ne v619 c0_i32_245
  let v621 : BitVec 1 := Scalar.andi v618 v620
  let v607 : BitVec 32 := Scalar.divsi v606 c16_i32_240
  let c1_i32_246 : BitVec 32 := 1#32
  let v622 : BitVec 32 := Scalar.subi v607 c1_i32_246
  let v623 : BitVec 32 := Scalar.select v621 v622 v607
  let c16_i32_247 : BitVec 32 := 16#32
  let v624 : BitVec 32 := Scalar.muli v623 c16_i32_247
  ![v625.toNat, v624.toNat]

def k1_off23 (i : grid1.Coords) (v636 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c21_i32 : BitVec 32 := 21#32
  let v655 : BitVec 32 := Scalar.addi v2 c21_i32
  let c0_i32_253 : BitVec 32 := 0#32
  let v638 : BitVec 1 := Scalar.cmpi .sgt v636 c0_i32_253
  let v639 : BitVec 32 := Scalar.extui v638
  let c0_i32_254 : BitVec 32 := 0#32
  let v640 : BitVec 1 := Scalar.cmpi .slt v636 c0_i32_254
  let v641 : BitVec 32 := Scalar.extui v640
  let v642 : BitVec 32 := Scalar.subi v639 v641
  let c16_i32_252 : BitVec 32 := 16#32
  let c0_i32_255 : BitVec 32 := 0#32
  let v643 : BitVec 1 := Scalar.cmpi .sgt c16_i32_252 c0_i32_255
  let v644 : BitVec 32 := Scalar.extui v643
  let c0_i32_256 : BitVec 32 := 0#32
  let v645 : BitVec 1 := Scalar.cmpi .slt c16_i32_252 c0_i32_256
  let v646 : BitVec 32 := Scalar.extui v645
  let v647 : BitVec 32 := Scalar.subi v644 v646
  let v648 : BitVec 1 := Scalar.cmpi .ne v642 v647
  let v649 : BitVec 32 := Scalar.remsi v636 c16_i32_252
  let c0_i32_257 : BitVec 32 := 0#32
  let v650 : BitVec 1 := Scalar.cmpi .ne v649 c0_i32_257
  let v651 : BitVec 1 := Scalar.andi v648 v650
  let v637 : BitVec 32 := Scalar.divsi v636 c16_i32_252
  let c1_i32_258 : BitVec 32 := 1#32
  let v652 : BitVec 32 := Scalar.subi v637 c1_i32_258
  let v653 : BitVec 32 := Scalar.select v651 v652 v637
  let c16_i32_259 : BitVec 32 := 16#32
  let v654 : BitVec 32 := Scalar.muli v653 c16_i32_259
  ![v655.toNat, v654.toNat]

def k1_off24 (i : grid1.Coords) (v666 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c22_i32 : BitVec 32 := 22#32
  let v685 : BitVec 32 := Scalar.addi v2 c22_i32
  let c0_i32_265 : BitVec 32 := 0#32
  let v668 : BitVec 1 := Scalar.cmpi .sgt v666 c0_i32_265
  let v669 : BitVec 32 := Scalar.extui v668
  let c0_i32_266 : BitVec 32 := 0#32
  let v670 : BitVec 1 := Scalar.cmpi .slt v666 c0_i32_266
  let v671 : BitVec 32 := Scalar.extui v670
  let v672 : BitVec 32 := Scalar.subi v669 v671
  let c16_i32_264 : BitVec 32 := 16#32
  let c0_i32_267 : BitVec 32 := 0#32
  let v673 : BitVec 1 := Scalar.cmpi .sgt c16_i32_264 c0_i32_267
  let v674 : BitVec 32 := Scalar.extui v673
  let c0_i32_268 : BitVec 32 := 0#32
  let v675 : BitVec 1 := Scalar.cmpi .slt c16_i32_264 c0_i32_268
  let v676 : BitVec 32 := Scalar.extui v675
  let v677 : BitVec 32 := Scalar.subi v674 v676
  let v678 : BitVec 1 := Scalar.cmpi .ne v672 v677
  let v679 : BitVec 32 := Scalar.remsi v666 c16_i32_264
  let c0_i32_269 : BitVec 32 := 0#32
  let v680 : BitVec 1 := Scalar.cmpi .ne v679 c0_i32_269
  let v681 : BitVec 1 := Scalar.andi v678 v680
  let v667 : BitVec 32 := Scalar.divsi v666 c16_i32_264
  let c1_i32_270 : BitVec 32 := 1#32
  let v682 : BitVec 32 := Scalar.subi v667 c1_i32_270
  let v683 : BitVec 32 := Scalar.select v681 v682 v667
  let c16_i32_271 : BitVec 32 := 16#32
  let v684 : BitVec 32 := Scalar.muli v683 c16_i32_271
  ![v685.toNat, v684.toNat]

def k1_off25 (i : grid1.Coords) (v696 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c23_i32 : BitVec 32 := 23#32
  let v715 : BitVec 32 := Scalar.addi v2 c23_i32
  let c0_i32_277 : BitVec 32 := 0#32
  let v698 : BitVec 1 := Scalar.cmpi .sgt v696 c0_i32_277
  let v699 : BitVec 32 := Scalar.extui v698
  let c0_i32_278 : BitVec 32 := 0#32
  let v700 : BitVec 1 := Scalar.cmpi .slt v696 c0_i32_278
  let v701 : BitVec 32 := Scalar.extui v700
  let v702 : BitVec 32 := Scalar.subi v699 v701
  let c16_i32_276 : BitVec 32 := 16#32
  let c0_i32_279 : BitVec 32 := 0#32
  let v703 : BitVec 1 := Scalar.cmpi .sgt c16_i32_276 c0_i32_279
  let v704 : BitVec 32 := Scalar.extui v703
  let c0_i32_280 : BitVec 32 := 0#32
  let v705 : BitVec 1 := Scalar.cmpi .slt c16_i32_276 c0_i32_280
  let v706 : BitVec 32 := Scalar.extui v705
  let v707 : BitVec 32 := Scalar.subi v704 v706
  let v708 : BitVec 1 := Scalar.cmpi .ne v702 v707
  let v709 : BitVec 32 := Scalar.remsi v696 c16_i32_276
  let c0_i32_281 : BitVec 32 := 0#32
  let v710 : BitVec 1 := Scalar.cmpi .ne v709 c0_i32_281
  let v711 : BitVec 1 := Scalar.andi v708 v710
  let v697 : BitVec 32 := Scalar.divsi v696 c16_i32_276
  let c1_i32_282 : BitVec 32 := 1#32
  let v712 : BitVec 32 := Scalar.subi v697 c1_i32_282
  let v713 : BitVec 32 := Scalar.select v711 v712 v697
  let c16_i32_283 : BitVec 32 := 16#32
  let v714 : BitVec 32 := Scalar.muli v713 c16_i32_283
  ![v715.toNat, v714.toNat]

def k1_off26 (i : grid1.Coords) (v726 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32 : BitVec 32 := 24#32
  let v745 : BitVec 32 := Scalar.addi v2 c24_i32
  let c0_i32_289 : BitVec 32 := 0#32
  let v728 : BitVec 1 := Scalar.cmpi .sgt v726 c0_i32_289
  let v729 : BitVec 32 := Scalar.extui v728
  let c0_i32_290 : BitVec 32 := 0#32
  let v730 : BitVec 1 := Scalar.cmpi .slt v726 c0_i32_290
  let v731 : BitVec 32 := Scalar.extui v730
  let v732 : BitVec 32 := Scalar.subi v729 v731
  let c16_i32_288 : BitVec 32 := 16#32
  let c0_i32_291 : BitVec 32 := 0#32
  let v733 : BitVec 1 := Scalar.cmpi .sgt c16_i32_288 c0_i32_291
  let v734 : BitVec 32 := Scalar.extui v733
  let c0_i32_292 : BitVec 32 := 0#32
  let v735 : BitVec 1 := Scalar.cmpi .slt c16_i32_288 c0_i32_292
  let v736 : BitVec 32 := Scalar.extui v735
  let v737 : BitVec 32 := Scalar.subi v734 v736
  let v738 : BitVec 1 := Scalar.cmpi .ne v732 v737
  let v739 : BitVec 32 := Scalar.remsi v726 c16_i32_288
  let c0_i32_293 : BitVec 32 := 0#32
  let v740 : BitVec 1 := Scalar.cmpi .ne v739 c0_i32_293
  let v741 : BitVec 1 := Scalar.andi v738 v740
  let v727 : BitVec 32 := Scalar.divsi v726 c16_i32_288
  let c1_i32_294 : BitVec 32 := 1#32
  let v742 : BitVec 32 := Scalar.subi v727 c1_i32_294
  let v743 : BitVec 32 := Scalar.select v741 v742 v727
  let c16_i32_295 : BitVec 32 := 16#32
  let v744 : BitVec 32 := Scalar.muli v743 c16_i32_295
  ![v745.toNat, v744.toNat]

def k1_off27 (i : grid1.Coords) (v756 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c25_i32 : BitVec 32 := 25#32
  let v775 : BitVec 32 := Scalar.addi v2 c25_i32
  let c0_i32_301 : BitVec 32 := 0#32
  let v758 : BitVec 1 := Scalar.cmpi .sgt v756 c0_i32_301
  let v759 : BitVec 32 := Scalar.extui v758
  let c0_i32_302 : BitVec 32 := 0#32
  let v760 : BitVec 1 := Scalar.cmpi .slt v756 c0_i32_302
  let v761 : BitVec 32 := Scalar.extui v760
  let v762 : BitVec 32 := Scalar.subi v759 v761
  let c16_i32_300 : BitVec 32 := 16#32
  let c0_i32_303 : BitVec 32 := 0#32
  let v763 : BitVec 1 := Scalar.cmpi .sgt c16_i32_300 c0_i32_303
  let v764 : BitVec 32 := Scalar.extui v763
  let c0_i32_304 : BitVec 32 := 0#32
  let v765 : BitVec 1 := Scalar.cmpi .slt c16_i32_300 c0_i32_304
  let v766 : BitVec 32 := Scalar.extui v765
  let v767 : BitVec 32 := Scalar.subi v764 v766
  let v768 : BitVec 1 := Scalar.cmpi .ne v762 v767
  let v769 : BitVec 32 := Scalar.remsi v756 c16_i32_300
  let c0_i32_305 : BitVec 32 := 0#32
  let v770 : BitVec 1 := Scalar.cmpi .ne v769 c0_i32_305
  let v771 : BitVec 1 := Scalar.andi v768 v770
  let v757 : BitVec 32 := Scalar.divsi v756 c16_i32_300
  let c1_i32_306 : BitVec 32 := 1#32
  let v772 : BitVec 32 := Scalar.subi v757 c1_i32_306
  let v773 : BitVec 32 := Scalar.select v771 v772 v757
  let c16_i32_307 : BitVec 32 := 16#32
  let v774 : BitVec 32 := Scalar.muli v773 c16_i32_307
  ![v775.toNat, v774.toNat]

def k1_off28 (i : grid1.Coords) (v786 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c26_i32 : BitVec 32 := 26#32
  let v805 : BitVec 32 := Scalar.addi v2 c26_i32
  let c0_i32_313 : BitVec 32 := 0#32
  let v788 : BitVec 1 := Scalar.cmpi .sgt v786 c0_i32_313
  let v789 : BitVec 32 := Scalar.extui v788
  let c0_i32_314 : BitVec 32 := 0#32
  let v790 : BitVec 1 := Scalar.cmpi .slt v786 c0_i32_314
  let v791 : BitVec 32 := Scalar.extui v790
  let v792 : BitVec 32 := Scalar.subi v789 v791
  let c16_i32_312 : BitVec 32 := 16#32
  let c0_i32_315 : BitVec 32 := 0#32
  let v793 : BitVec 1 := Scalar.cmpi .sgt c16_i32_312 c0_i32_315
  let v794 : BitVec 32 := Scalar.extui v793
  let c0_i32_316 : BitVec 32 := 0#32
  let v795 : BitVec 1 := Scalar.cmpi .slt c16_i32_312 c0_i32_316
  let v796 : BitVec 32 := Scalar.extui v795
  let v797 : BitVec 32 := Scalar.subi v794 v796
  let v798 : BitVec 1 := Scalar.cmpi .ne v792 v797
  let v799 : BitVec 32 := Scalar.remsi v786 c16_i32_312
  let c0_i32_317 : BitVec 32 := 0#32
  let v800 : BitVec 1 := Scalar.cmpi .ne v799 c0_i32_317
  let v801 : BitVec 1 := Scalar.andi v798 v800
  let v787 : BitVec 32 := Scalar.divsi v786 c16_i32_312
  let c1_i32_318 : BitVec 32 := 1#32
  let v802 : BitVec 32 := Scalar.subi v787 c1_i32_318
  let v803 : BitVec 32 := Scalar.select v801 v802 v787
  let c16_i32_319 : BitVec 32 := 16#32
  let v804 : BitVec 32 := Scalar.muli v803 c16_i32_319
  ![v805.toNat, v804.toNat]

def k1_off29 (i : grid1.Coords) (v816 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c27_i32 : BitVec 32 := 27#32
  let v835 : BitVec 32 := Scalar.addi v2 c27_i32
  let c0_i32_325 : BitVec 32 := 0#32
  let v818 : BitVec 1 := Scalar.cmpi .sgt v816 c0_i32_325
  let v819 : BitVec 32 := Scalar.extui v818
  let c0_i32_326 : BitVec 32 := 0#32
  let v820 : BitVec 1 := Scalar.cmpi .slt v816 c0_i32_326
  let v821 : BitVec 32 := Scalar.extui v820
  let v822 : BitVec 32 := Scalar.subi v819 v821
  let c16_i32_324 : BitVec 32 := 16#32
  let c0_i32_327 : BitVec 32 := 0#32
  let v823 : BitVec 1 := Scalar.cmpi .sgt c16_i32_324 c0_i32_327
  let v824 : BitVec 32 := Scalar.extui v823
  let c0_i32_328 : BitVec 32 := 0#32
  let v825 : BitVec 1 := Scalar.cmpi .slt c16_i32_324 c0_i32_328
  let v826 : BitVec 32 := Scalar.extui v825
  let v827 : BitVec 32 := Scalar.subi v824 v826
  let v828 : BitVec 1 := Scalar.cmpi .ne v822 v827
  let v829 : BitVec 32 := Scalar.remsi v816 c16_i32_324
  let c0_i32_329 : BitVec 32 := 0#32
  let v830 : BitVec 1 := Scalar.cmpi .ne v829 c0_i32_329
  let v831 : BitVec 1 := Scalar.andi v828 v830
  let v817 : BitVec 32 := Scalar.divsi v816 c16_i32_324
  let c1_i32_330 : BitVec 32 := 1#32
  let v832 : BitVec 32 := Scalar.subi v817 c1_i32_330
  let v833 : BitVec 32 := Scalar.select v831 v832 v817
  let c16_i32_331 : BitVec 32 := 16#32
  let v834 : BitVec 32 := Scalar.muli v833 c16_i32_331
  ![v835.toNat, v834.toNat]

def k1_off30 (i : grid1.Coords) (v846 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c28_i32 : BitVec 32 := 28#32
  let v865 : BitVec 32 := Scalar.addi v2 c28_i32
  let c0_i32_337 : BitVec 32 := 0#32
  let v848 : BitVec 1 := Scalar.cmpi .sgt v846 c0_i32_337
  let v849 : BitVec 32 := Scalar.extui v848
  let c0_i32_338 : BitVec 32 := 0#32
  let v850 : BitVec 1 := Scalar.cmpi .slt v846 c0_i32_338
  let v851 : BitVec 32 := Scalar.extui v850
  let v852 : BitVec 32 := Scalar.subi v849 v851
  let c16_i32_336 : BitVec 32 := 16#32
  let c0_i32_339 : BitVec 32 := 0#32
  let v853 : BitVec 1 := Scalar.cmpi .sgt c16_i32_336 c0_i32_339
  let v854 : BitVec 32 := Scalar.extui v853
  let c0_i32_340 : BitVec 32 := 0#32
  let v855 : BitVec 1 := Scalar.cmpi .slt c16_i32_336 c0_i32_340
  let v856 : BitVec 32 := Scalar.extui v855
  let v857 : BitVec 32 := Scalar.subi v854 v856
  let v858 : BitVec 1 := Scalar.cmpi .ne v852 v857
  let v859 : BitVec 32 := Scalar.remsi v846 c16_i32_336
  let c0_i32_341 : BitVec 32 := 0#32
  let v860 : BitVec 1 := Scalar.cmpi .ne v859 c0_i32_341
  let v861 : BitVec 1 := Scalar.andi v858 v860
  let v847 : BitVec 32 := Scalar.divsi v846 c16_i32_336
  let c1_i32_342 : BitVec 32 := 1#32
  let v862 : BitVec 32 := Scalar.subi v847 c1_i32_342
  let v863 : BitVec 32 := Scalar.select v861 v862 v847
  let c16_i32_343 : BitVec 32 := 16#32
  let v864 : BitVec 32 := Scalar.muli v863 c16_i32_343
  ![v865.toNat, v864.toNat]

def k1_off31 (i : grid1.Coords) (v876 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c29_i32 : BitVec 32 := 29#32
  let v895 : BitVec 32 := Scalar.addi v2 c29_i32
  let c0_i32_349 : BitVec 32 := 0#32
  let v878 : BitVec 1 := Scalar.cmpi .sgt v876 c0_i32_349
  let v879 : BitVec 32 := Scalar.extui v878
  let c0_i32_350 : BitVec 32 := 0#32
  let v880 : BitVec 1 := Scalar.cmpi .slt v876 c0_i32_350
  let v881 : BitVec 32 := Scalar.extui v880
  let v882 : BitVec 32 := Scalar.subi v879 v881
  let c16_i32_348 : BitVec 32 := 16#32
  let c0_i32_351 : BitVec 32 := 0#32
  let v883 : BitVec 1 := Scalar.cmpi .sgt c16_i32_348 c0_i32_351
  let v884 : BitVec 32 := Scalar.extui v883
  let c0_i32_352 : BitVec 32 := 0#32
  let v885 : BitVec 1 := Scalar.cmpi .slt c16_i32_348 c0_i32_352
  let v886 : BitVec 32 := Scalar.extui v885
  let v887 : BitVec 32 := Scalar.subi v884 v886
  let v888 : BitVec 1 := Scalar.cmpi .ne v882 v887
  let v889 : BitVec 32 := Scalar.remsi v876 c16_i32_348
  let c0_i32_353 : BitVec 32 := 0#32
  let v890 : BitVec 1 := Scalar.cmpi .ne v889 c0_i32_353
  let v891 : BitVec 1 := Scalar.andi v888 v890
  let v877 : BitVec 32 := Scalar.divsi v876 c16_i32_348
  let c1_i32_354 : BitVec 32 := 1#32
  let v892 : BitVec 32 := Scalar.subi v877 c1_i32_354
  let v893 : BitVec 32 := Scalar.select v891 v892 v877
  let c16_i32_355 : BitVec 32 := 16#32
  let v894 : BitVec 32 := Scalar.muli v893 c16_i32_355
  ![v895.toNat, v894.toNat]

def k1_off32 (i : grid1.Coords) (v906 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c30_i32 : BitVec 32 := 30#32
  let v925 : BitVec 32 := Scalar.addi v2 c30_i32
  let c0_i32_361 : BitVec 32 := 0#32
  let v908 : BitVec 1 := Scalar.cmpi .sgt v906 c0_i32_361
  let v909 : BitVec 32 := Scalar.extui v908
  let c0_i32_362 : BitVec 32 := 0#32
  let v910 : BitVec 1 := Scalar.cmpi .slt v906 c0_i32_362
  let v911 : BitVec 32 := Scalar.extui v910
  let v912 : BitVec 32 := Scalar.subi v909 v911
  let c16_i32_360 : BitVec 32 := 16#32
  let c0_i32_363 : BitVec 32 := 0#32
  let v913 : BitVec 1 := Scalar.cmpi .sgt c16_i32_360 c0_i32_363
  let v914 : BitVec 32 := Scalar.extui v913
  let c0_i32_364 : BitVec 32 := 0#32
  let v915 : BitVec 1 := Scalar.cmpi .slt c16_i32_360 c0_i32_364
  let v916 : BitVec 32 := Scalar.extui v915
  let v917 : BitVec 32 := Scalar.subi v914 v916
  let v918 : BitVec 1 := Scalar.cmpi .ne v912 v917
  let v919 : BitVec 32 := Scalar.remsi v906 c16_i32_360
  let c0_i32_365 : BitVec 32 := 0#32
  let v920 : BitVec 1 := Scalar.cmpi .ne v919 c0_i32_365
  let v921 : BitVec 1 := Scalar.andi v918 v920
  let v907 : BitVec 32 := Scalar.divsi v906 c16_i32_360
  let c1_i32_366 : BitVec 32 := 1#32
  let v922 : BitVec 32 := Scalar.subi v907 c1_i32_366
  let v923 : BitVec 32 := Scalar.select v921 v922 v907
  let c16_i32_367 : BitVec 32 := 16#32
  let v924 : BitVec 32 := Scalar.muli v923 c16_i32_367
  ![v925.toNat, v924.toNat]

def k1_off33 (i : grid1.Coords) (v936 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c31_i32 : BitVec 32 := 31#32
  let v955 : BitVec 32 := Scalar.addi v2 c31_i32
  let c0_i32_373 : BitVec 32 := 0#32
  let v938 : BitVec 1 := Scalar.cmpi .sgt v936 c0_i32_373
  let v939 : BitVec 32 := Scalar.extui v938
  let c0_i32_374 : BitVec 32 := 0#32
  let v940 : BitVec 1 := Scalar.cmpi .slt v936 c0_i32_374
  let v941 : BitVec 32 := Scalar.extui v940
  let v942 : BitVec 32 := Scalar.subi v939 v941
  let c16_i32_372 : BitVec 32 := 16#32
  let c0_i32_375 : BitVec 32 := 0#32
  let v943 : BitVec 1 := Scalar.cmpi .sgt c16_i32_372 c0_i32_375
  let v944 : BitVec 32 := Scalar.extui v943
  let c0_i32_376 : BitVec 32 := 0#32
  let v945 : BitVec 1 := Scalar.cmpi .slt c16_i32_372 c0_i32_376
  let v946 : BitVec 32 := Scalar.extui v945
  let v947 : BitVec 32 := Scalar.subi v944 v946
  let v948 : BitVec 1 := Scalar.cmpi .ne v942 v947
  let v949 : BitVec 32 := Scalar.remsi v936 c16_i32_372
  let c0_i32_377 : BitVec 32 := 0#32
  let v950 : BitVec 1 := Scalar.cmpi .ne v949 c0_i32_377
  let v951 : BitVec 1 := Scalar.andi v948 v950
  let v937 : BitVec 32 := Scalar.divsi v936 c16_i32_372
  let c1_i32_378 : BitVec 32 := 1#32
  let v952 : BitVec 32 := Scalar.subi v937 c1_i32_378
  let v953 : BitVec 32 := Scalar.select v951 v952 v937
  let c16_i32_379 : BitVec 32 := 16#32
  let v954 : BitVec 32 := Scalar.muli v953 c16_i32_379
  ![v955.toNat, v954.toNat]

def k1_off34 (i : grid1.Coords) (v966 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v985 : BitVec 32 := Scalar.addi v2 c32_i32
  let c0_i32_384 : BitVec 32 := 0#32
  let v968 : BitVec 1 := Scalar.cmpi .sgt v966 c0_i32_384
  let v969 : BitVec 32 := Scalar.extui v968
  let c0_i32_385 : BitVec 32 := 0#32
  let v970 : BitVec 1 := Scalar.cmpi .slt v966 c0_i32_385
  let v971 : BitVec 32 := Scalar.extui v970
  let v972 : BitVec 32 := Scalar.subi v969 v971
  let c16_i32_383 : BitVec 32 := 16#32
  let c0_i32_386 : BitVec 32 := 0#32
  let v973 : BitVec 1 := Scalar.cmpi .sgt c16_i32_383 c0_i32_386
  let v974 : BitVec 32 := Scalar.extui v973
  let c0_i32_387 : BitVec 32 := 0#32
  let v975 : BitVec 1 := Scalar.cmpi .slt c16_i32_383 c0_i32_387
  let v976 : BitVec 32 := Scalar.extui v975
  let v977 : BitVec 32 := Scalar.subi v974 v976
  let v978 : BitVec 1 := Scalar.cmpi .ne v972 v977
  let v979 : BitVec 32 := Scalar.remsi v966 c16_i32_383
  let c0_i32_388 : BitVec 32 := 0#32
  let v980 : BitVec 1 := Scalar.cmpi .ne v979 c0_i32_388
  let v981 : BitVec 1 := Scalar.andi v978 v980
  let v967 : BitVec 32 := Scalar.divsi v966 c16_i32_383
  let c1_i32_389 : BitVec 32 := 1#32
  let v982 : BitVec 32 := Scalar.subi v967 c1_i32_389
  let v983 : BitVec 32 := Scalar.select v981 v982 v967
  let c16_i32_390 : BitVec 32 := 16#32
  let v984 : BitVec 32 := Scalar.muli v983 c16_i32_390
  ![v985.toNat, v984.toNat]

def k1_off35 (i : grid1.Coords) (v996 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c33_i32 : BitVec 32 := 33#32
  let v1015 : BitVec 32 := Scalar.addi v2 c33_i32
  let c0_i32_396 : BitVec 32 := 0#32
  let v998 : BitVec 1 := Scalar.cmpi .sgt v996 c0_i32_396
  let v999 : BitVec 32 := Scalar.extui v998
  let c0_i32_397 : BitVec 32 := 0#32
  let v1000 : BitVec 1 := Scalar.cmpi .slt v996 c0_i32_397
  let v1001 : BitVec 32 := Scalar.extui v1000
  let v1002 : BitVec 32 := Scalar.subi v999 v1001
  let c16_i32_395 : BitVec 32 := 16#32
  let c0_i32_398 : BitVec 32 := 0#32
  let v1003 : BitVec 1 := Scalar.cmpi .sgt c16_i32_395 c0_i32_398
  let v1004 : BitVec 32 := Scalar.extui v1003
  let c0_i32_399 : BitVec 32 := 0#32
  let v1005 : BitVec 1 := Scalar.cmpi .slt c16_i32_395 c0_i32_399
  let v1006 : BitVec 32 := Scalar.extui v1005
  let v1007 : BitVec 32 := Scalar.subi v1004 v1006
  let v1008 : BitVec 1 := Scalar.cmpi .ne v1002 v1007
  let v1009 : BitVec 32 := Scalar.remsi v996 c16_i32_395
  let c0_i32_400 : BitVec 32 := 0#32
  let v1010 : BitVec 1 := Scalar.cmpi .ne v1009 c0_i32_400
  let v1011 : BitVec 1 := Scalar.andi v1008 v1010
  let v997 : BitVec 32 := Scalar.divsi v996 c16_i32_395
  let c1_i32_401 : BitVec 32 := 1#32
  let v1012 : BitVec 32 := Scalar.subi v997 c1_i32_401
  let v1013 : BitVec 32 := Scalar.select v1011 v1012 v997
  let c16_i32_402 : BitVec 32 := 16#32
  let v1014 : BitVec 32 := Scalar.muli v1013 c16_i32_402
  ![v1015.toNat, v1014.toNat]

def k1_off36 (i : grid1.Coords) (v1026 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c34_i32 : BitVec 32 := 34#32
  let v1045 : BitVec 32 := Scalar.addi v2 c34_i32
  let c0_i32_408 : BitVec 32 := 0#32
  let v1028 : BitVec 1 := Scalar.cmpi .sgt v1026 c0_i32_408
  let v1029 : BitVec 32 := Scalar.extui v1028
  let c0_i32_409 : BitVec 32 := 0#32
  let v1030 : BitVec 1 := Scalar.cmpi .slt v1026 c0_i32_409
  let v1031 : BitVec 32 := Scalar.extui v1030
  let v1032 : BitVec 32 := Scalar.subi v1029 v1031
  let c16_i32_407 : BitVec 32 := 16#32
  let c0_i32_410 : BitVec 32 := 0#32
  let v1033 : BitVec 1 := Scalar.cmpi .sgt c16_i32_407 c0_i32_410
  let v1034 : BitVec 32 := Scalar.extui v1033
  let c0_i32_411 : BitVec 32 := 0#32
  let v1035 : BitVec 1 := Scalar.cmpi .slt c16_i32_407 c0_i32_411
  let v1036 : BitVec 32 := Scalar.extui v1035
  let v1037 : BitVec 32 := Scalar.subi v1034 v1036
  let v1038 : BitVec 1 := Scalar.cmpi .ne v1032 v1037
  let v1039 : BitVec 32 := Scalar.remsi v1026 c16_i32_407
  let c0_i32_412 : BitVec 32 := 0#32
  let v1040 : BitVec 1 := Scalar.cmpi .ne v1039 c0_i32_412
  let v1041 : BitVec 1 := Scalar.andi v1038 v1040
  let v1027 : BitVec 32 := Scalar.divsi v1026 c16_i32_407
  let c1_i32_413 : BitVec 32 := 1#32
  let v1042 : BitVec 32 := Scalar.subi v1027 c1_i32_413
  let v1043 : BitVec 32 := Scalar.select v1041 v1042 v1027
  let c16_i32_414 : BitVec 32 := 16#32
  let v1044 : BitVec 32 := Scalar.muli v1043 c16_i32_414
  ![v1045.toNat, v1044.toNat]

def k1_off37 (i : grid1.Coords) (v1056 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c35_i32 : BitVec 32 := 35#32
  let v1075 : BitVec 32 := Scalar.addi v2 c35_i32
  let c0_i32_420 : BitVec 32 := 0#32
  let v1058 : BitVec 1 := Scalar.cmpi .sgt v1056 c0_i32_420
  let v1059 : BitVec 32 := Scalar.extui v1058
  let c0_i32_421 : BitVec 32 := 0#32
  let v1060 : BitVec 1 := Scalar.cmpi .slt v1056 c0_i32_421
  let v1061 : BitVec 32 := Scalar.extui v1060
  let v1062 : BitVec 32 := Scalar.subi v1059 v1061
  let c16_i32_419 : BitVec 32 := 16#32
  let c0_i32_422 : BitVec 32 := 0#32
  let v1063 : BitVec 1 := Scalar.cmpi .sgt c16_i32_419 c0_i32_422
  let v1064 : BitVec 32 := Scalar.extui v1063
  let c0_i32_423 : BitVec 32 := 0#32
  let v1065 : BitVec 1 := Scalar.cmpi .slt c16_i32_419 c0_i32_423
  let v1066 : BitVec 32 := Scalar.extui v1065
  let v1067 : BitVec 32 := Scalar.subi v1064 v1066
  let v1068 : BitVec 1 := Scalar.cmpi .ne v1062 v1067
  let v1069 : BitVec 32 := Scalar.remsi v1056 c16_i32_419
  let c0_i32_424 : BitVec 32 := 0#32
  let v1070 : BitVec 1 := Scalar.cmpi .ne v1069 c0_i32_424
  let v1071 : BitVec 1 := Scalar.andi v1068 v1070
  let v1057 : BitVec 32 := Scalar.divsi v1056 c16_i32_419
  let c1_i32_425 : BitVec 32 := 1#32
  let v1072 : BitVec 32 := Scalar.subi v1057 c1_i32_425
  let v1073 : BitVec 32 := Scalar.select v1071 v1072 v1057
  let c16_i32_426 : BitVec 32 := 16#32
  let v1074 : BitVec 32 := Scalar.muli v1073 c16_i32_426
  ![v1075.toNat, v1074.toNat]

def k1_off38 (i : grid1.Coords) (v1086 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c36_i32 : BitVec 32 := 36#32
  let v1105 : BitVec 32 := Scalar.addi v2 c36_i32
  let c0_i32_432 : BitVec 32 := 0#32
  let v1088 : BitVec 1 := Scalar.cmpi .sgt v1086 c0_i32_432
  let v1089 : BitVec 32 := Scalar.extui v1088
  let c0_i32_433 : BitVec 32 := 0#32
  let v1090 : BitVec 1 := Scalar.cmpi .slt v1086 c0_i32_433
  let v1091 : BitVec 32 := Scalar.extui v1090
  let v1092 : BitVec 32 := Scalar.subi v1089 v1091
  let c16_i32_431 : BitVec 32 := 16#32
  let c0_i32_434 : BitVec 32 := 0#32
  let v1093 : BitVec 1 := Scalar.cmpi .sgt c16_i32_431 c0_i32_434
  let v1094 : BitVec 32 := Scalar.extui v1093
  let c0_i32_435 : BitVec 32 := 0#32
  let v1095 : BitVec 1 := Scalar.cmpi .slt c16_i32_431 c0_i32_435
  let v1096 : BitVec 32 := Scalar.extui v1095
  let v1097 : BitVec 32 := Scalar.subi v1094 v1096
  let v1098 : BitVec 1 := Scalar.cmpi .ne v1092 v1097
  let v1099 : BitVec 32 := Scalar.remsi v1086 c16_i32_431
  let c0_i32_436 : BitVec 32 := 0#32
  let v1100 : BitVec 1 := Scalar.cmpi .ne v1099 c0_i32_436
  let v1101 : BitVec 1 := Scalar.andi v1098 v1100
  let v1087 : BitVec 32 := Scalar.divsi v1086 c16_i32_431
  let c1_i32_437 : BitVec 32 := 1#32
  let v1102 : BitVec 32 := Scalar.subi v1087 c1_i32_437
  let v1103 : BitVec 32 := Scalar.select v1101 v1102 v1087
  let c16_i32_438 : BitVec 32 := 16#32
  let v1104 : BitVec 32 := Scalar.muli v1103 c16_i32_438
  ![v1105.toNat, v1104.toNat]

def k1_off39 (i : grid1.Coords) (v1116 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c37_i32 : BitVec 32 := 37#32
  let v1135 : BitVec 32 := Scalar.addi v2 c37_i32
  let c0_i32_444 : BitVec 32 := 0#32
  let v1118 : BitVec 1 := Scalar.cmpi .sgt v1116 c0_i32_444
  let v1119 : BitVec 32 := Scalar.extui v1118
  let c0_i32_445 : BitVec 32 := 0#32
  let v1120 : BitVec 1 := Scalar.cmpi .slt v1116 c0_i32_445
  let v1121 : BitVec 32 := Scalar.extui v1120
  let v1122 : BitVec 32 := Scalar.subi v1119 v1121
  let c16_i32_443 : BitVec 32 := 16#32
  let c0_i32_446 : BitVec 32 := 0#32
  let v1123 : BitVec 1 := Scalar.cmpi .sgt c16_i32_443 c0_i32_446
  let v1124 : BitVec 32 := Scalar.extui v1123
  let c0_i32_447 : BitVec 32 := 0#32
  let v1125 : BitVec 1 := Scalar.cmpi .slt c16_i32_443 c0_i32_447
  let v1126 : BitVec 32 := Scalar.extui v1125
  let v1127 : BitVec 32 := Scalar.subi v1124 v1126
  let v1128 : BitVec 1 := Scalar.cmpi .ne v1122 v1127
  let v1129 : BitVec 32 := Scalar.remsi v1116 c16_i32_443
  let c0_i32_448 : BitVec 32 := 0#32
  let v1130 : BitVec 1 := Scalar.cmpi .ne v1129 c0_i32_448
  let v1131 : BitVec 1 := Scalar.andi v1128 v1130
  let v1117 : BitVec 32 := Scalar.divsi v1116 c16_i32_443
  let c1_i32_449 : BitVec 32 := 1#32
  let v1132 : BitVec 32 := Scalar.subi v1117 c1_i32_449
  let v1133 : BitVec 32 := Scalar.select v1131 v1132 v1117
  let c16_i32_450 : BitVec 32 := 16#32
  let v1134 : BitVec 32 := Scalar.muli v1133 c16_i32_450
  ![v1135.toNat, v1134.toNat]

def k1_off40 (i : grid1.Coords) (v1146 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c38_i32 : BitVec 32 := 38#32
  let v1165 : BitVec 32 := Scalar.addi v2 c38_i32
  let c0_i32_456 : BitVec 32 := 0#32
  let v1148 : BitVec 1 := Scalar.cmpi .sgt v1146 c0_i32_456
  let v1149 : BitVec 32 := Scalar.extui v1148
  let c0_i32_457 : BitVec 32 := 0#32
  let v1150 : BitVec 1 := Scalar.cmpi .slt v1146 c0_i32_457
  let v1151 : BitVec 32 := Scalar.extui v1150
  let v1152 : BitVec 32 := Scalar.subi v1149 v1151
  let c16_i32_455 : BitVec 32 := 16#32
  let c0_i32_458 : BitVec 32 := 0#32
  let v1153 : BitVec 1 := Scalar.cmpi .sgt c16_i32_455 c0_i32_458
  let v1154 : BitVec 32 := Scalar.extui v1153
  let c0_i32_459 : BitVec 32 := 0#32
  let v1155 : BitVec 1 := Scalar.cmpi .slt c16_i32_455 c0_i32_459
  let v1156 : BitVec 32 := Scalar.extui v1155
  let v1157 : BitVec 32 := Scalar.subi v1154 v1156
  let v1158 : BitVec 1 := Scalar.cmpi .ne v1152 v1157
  let v1159 : BitVec 32 := Scalar.remsi v1146 c16_i32_455
  let c0_i32_460 : BitVec 32 := 0#32
  let v1160 : BitVec 1 := Scalar.cmpi .ne v1159 c0_i32_460
  let v1161 : BitVec 1 := Scalar.andi v1158 v1160
  let v1147 : BitVec 32 := Scalar.divsi v1146 c16_i32_455
  let c1_i32_461 : BitVec 32 := 1#32
  let v1162 : BitVec 32 := Scalar.subi v1147 c1_i32_461
  let v1163 : BitVec 32 := Scalar.select v1161 v1162 v1147
  let c16_i32_462 : BitVec 32 := 16#32
  let v1164 : BitVec 32 := Scalar.muli v1163 c16_i32_462
  ![v1165.toNat, v1164.toNat]

def k1_off41 (i : grid1.Coords) (v1176 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c39_i32 : BitVec 32 := 39#32
  let v1195 : BitVec 32 := Scalar.addi v2 c39_i32
  let c0_i32_468 : BitVec 32 := 0#32
  let v1178 : BitVec 1 := Scalar.cmpi .sgt v1176 c0_i32_468
  let v1179 : BitVec 32 := Scalar.extui v1178
  let c0_i32_469 : BitVec 32 := 0#32
  let v1180 : BitVec 1 := Scalar.cmpi .slt v1176 c0_i32_469
  let v1181 : BitVec 32 := Scalar.extui v1180
  let v1182 : BitVec 32 := Scalar.subi v1179 v1181
  let c16_i32_467 : BitVec 32 := 16#32
  let c0_i32_470 : BitVec 32 := 0#32
  let v1183 : BitVec 1 := Scalar.cmpi .sgt c16_i32_467 c0_i32_470
  let v1184 : BitVec 32 := Scalar.extui v1183
  let c0_i32_471 : BitVec 32 := 0#32
  let v1185 : BitVec 1 := Scalar.cmpi .slt c16_i32_467 c0_i32_471
  let v1186 : BitVec 32 := Scalar.extui v1185
  let v1187 : BitVec 32 := Scalar.subi v1184 v1186
  let v1188 : BitVec 1 := Scalar.cmpi .ne v1182 v1187
  let v1189 : BitVec 32 := Scalar.remsi v1176 c16_i32_467
  let c0_i32_472 : BitVec 32 := 0#32
  let v1190 : BitVec 1 := Scalar.cmpi .ne v1189 c0_i32_472
  let v1191 : BitVec 1 := Scalar.andi v1188 v1190
  let v1177 : BitVec 32 := Scalar.divsi v1176 c16_i32_467
  let c1_i32_473 : BitVec 32 := 1#32
  let v1192 : BitVec 32 := Scalar.subi v1177 c1_i32_473
  let v1193 : BitVec 32 := Scalar.select v1191 v1192 v1177
  let c16_i32_474 : BitVec 32 := 16#32
  let v1194 : BitVec 32 := Scalar.muli v1193 c16_i32_474
  ![v1195.toNat, v1194.toNat]

def k1_off42 (i : grid1.Coords) (v1206 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32 : BitVec 32 := 40#32
  let v1225 : BitVec 32 := Scalar.addi v2 c40_i32
  let c0_i32_480 : BitVec 32 := 0#32
  let v1208 : BitVec 1 := Scalar.cmpi .sgt v1206 c0_i32_480
  let v1209 : BitVec 32 := Scalar.extui v1208
  let c0_i32_481 : BitVec 32 := 0#32
  let v1210 : BitVec 1 := Scalar.cmpi .slt v1206 c0_i32_481
  let v1211 : BitVec 32 := Scalar.extui v1210
  let v1212 : BitVec 32 := Scalar.subi v1209 v1211
  let c16_i32_479 : BitVec 32 := 16#32
  let c0_i32_482 : BitVec 32 := 0#32
  let v1213 : BitVec 1 := Scalar.cmpi .sgt c16_i32_479 c0_i32_482
  let v1214 : BitVec 32 := Scalar.extui v1213
  let c0_i32_483 : BitVec 32 := 0#32
  let v1215 : BitVec 1 := Scalar.cmpi .slt c16_i32_479 c0_i32_483
  let v1216 : BitVec 32 := Scalar.extui v1215
  let v1217 : BitVec 32 := Scalar.subi v1214 v1216
  let v1218 : BitVec 1 := Scalar.cmpi .ne v1212 v1217
  let v1219 : BitVec 32 := Scalar.remsi v1206 c16_i32_479
  let c0_i32_484 : BitVec 32 := 0#32
  let v1220 : BitVec 1 := Scalar.cmpi .ne v1219 c0_i32_484
  let v1221 : BitVec 1 := Scalar.andi v1218 v1220
  let v1207 : BitVec 32 := Scalar.divsi v1206 c16_i32_479
  let c1_i32_485 : BitVec 32 := 1#32
  let v1222 : BitVec 32 := Scalar.subi v1207 c1_i32_485
  let v1223 : BitVec 32 := Scalar.select v1221 v1222 v1207
  let c16_i32_486 : BitVec 32 := 16#32
  let v1224 : BitVec 32 := Scalar.muli v1223 c16_i32_486
  ![v1225.toNat, v1224.toNat]

def k1_off43 (i : grid1.Coords) (v1236 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c41_i32 : BitVec 32 := 41#32
  let v1255 : BitVec 32 := Scalar.addi v2 c41_i32
  let c0_i32_492 : BitVec 32 := 0#32
  let v1238 : BitVec 1 := Scalar.cmpi .sgt v1236 c0_i32_492
  let v1239 : BitVec 32 := Scalar.extui v1238
  let c0_i32_493 : BitVec 32 := 0#32
  let v1240 : BitVec 1 := Scalar.cmpi .slt v1236 c0_i32_493
  let v1241 : BitVec 32 := Scalar.extui v1240
  let v1242 : BitVec 32 := Scalar.subi v1239 v1241
  let c16_i32_491 : BitVec 32 := 16#32
  let c0_i32_494 : BitVec 32 := 0#32
  let v1243 : BitVec 1 := Scalar.cmpi .sgt c16_i32_491 c0_i32_494
  let v1244 : BitVec 32 := Scalar.extui v1243
  let c0_i32_495 : BitVec 32 := 0#32
  let v1245 : BitVec 1 := Scalar.cmpi .slt c16_i32_491 c0_i32_495
  let v1246 : BitVec 32 := Scalar.extui v1245
  let v1247 : BitVec 32 := Scalar.subi v1244 v1246
  let v1248 : BitVec 1 := Scalar.cmpi .ne v1242 v1247
  let v1249 : BitVec 32 := Scalar.remsi v1236 c16_i32_491
  let c0_i32_496 : BitVec 32 := 0#32
  let v1250 : BitVec 1 := Scalar.cmpi .ne v1249 c0_i32_496
  let v1251 : BitVec 1 := Scalar.andi v1248 v1250
  let v1237 : BitVec 32 := Scalar.divsi v1236 c16_i32_491
  let c1_i32_497 : BitVec 32 := 1#32
  let v1252 : BitVec 32 := Scalar.subi v1237 c1_i32_497
  let v1253 : BitVec 32 := Scalar.select v1251 v1252 v1237
  let c16_i32_498 : BitVec 32 := 16#32
  let v1254 : BitVec 32 := Scalar.muli v1253 c16_i32_498
  ![v1255.toNat, v1254.toNat]

def k1_off44 (i : grid1.Coords) (v1266 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c42_i32 : BitVec 32 := 42#32
  let v1285 : BitVec 32 := Scalar.addi v2 c42_i32
  let c0_i32_504 : BitVec 32 := 0#32
  let v1268 : BitVec 1 := Scalar.cmpi .sgt v1266 c0_i32_504
  let v1269 : BitVec 32 := Scalar.extui v1268
  let c0_i32_505 : BitVec 32 := 0#32
  let v1270 : BitVec 1 := Scalar.cmpi .slt v1266 c0_i32_505
  let v1271 : BitVec 32 := Scalar.extui v1270
  let v1272 : BitVec 32 := Scalar.subi v1269 v1271
  let c16_i32_503 : BitVec 32 := 16#32
  let c0_i32_506 : BitVec 32 := 0#32
  let v1273 : BitVec 1 := Scalar.cmpi .sgt c16_i32_503 c0_i32_506
  let v1274 : BitVec 32 := Scalar.extui v1273
  let c0_i32_507 : BitVec 32 := 0#32
  let v1275 : BitVec 1 := Scalar.cmpi .slt c16_i32_503 c0_i32_507
  let v1276 : BitVec 32 := Scalar.extui v1275
  let v1277 : BitVec 32 := Scalar.subi v1274 v1276
  let v1278 : BitVec 1 := Scalar.cmpi .ne v1272 v1277
  let v1279 : BitVec 32 := Scalar.remsi v1266 c16_i32_503
  let c0_i32_508 : BitVec 32 := 0#32
  let v1280 : BitVec 1 := Scalar.cmpi .ne v1279 c0_i32_508
  let v1281 : BitVec 1 := Scalar.andi v1278 v1280
  let v1267 : BitVec 32 := Scalar.divsi v1266 c16_i32_503
  let c1_i32_509 : BitVec 32 := 1#32
  let v1282 : BitVec 32 := Scalar.subi v1267 c1_i32_509
  let v1283 : BitVec 32 := Scalar.select v1281 v1282 v1267
  let c16_i32_510 : BitVec 32 := 16#32
  let v1284 : BitVec 32 := Scalar.muli v1283 c16_i32_510
  ![v1285.toNat, v1284.toNat]

def k1_off45 (i : grid1.Coords) (v1296 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c43_i32 : BitVec 32 := 43#32
  let v1315 : BitVec 32 := Scalar.addi v2 c43_i32
  let c0_i32_516 : BitVec 32 := 0#32
  let v1298 : BitVec 1 := Scalar.cmpi .sgt v1296 c0_i32_516
  let v1299 : BitVec 32 := Scalar.extui v1298
  let c0_i32_517 : BitVec 32 := 0#32
  let v1300 : BitVec 1 := Scalar.cmpi .slt v1296 c0_i32_517
  let v1301 : BitVec 32 := Scalar.extui v1300
  let v1302 : BitVec 32 := Scalar.subi v1299 v1301
  let c16_i32_515 : BitVec 32 := 16#32
  let c0_i32_518 : BitVec 32 := 0#32
  let v1303 : BitVec 1 := Scalar.cmpi .sgt c16_i32_515 c0_i32_518
  let v1304 : BitVec 32 := Scalar.extui v1303
  let c0_i32_519 : BitVec 32 := 0#32
  let v1305 : BitVec 1 := Scalar.cmpi .slt c16_i32_515 c0_i32_519
  let v1306 : BitVec 32 := Scalar.extui v1305
  let v1307 : BitVec 32 := Scalar.subi v1304 v1306
  let v1308 : BitVec 1 := Scalar.cmpi .ne v1302 v1307
  let v1309 : BitVec 32 := Scalar.remsi v1296 c16_i32_515
  let c0_i32_520 : BitVec 32 := 0#32
  let v1310 : BitVec 1 := Scalar.cmpi .ne v1309 c0_i32_520
  let v1311 : BitVec 1 := Scalar.andi v1308 v1310
  let v1297 : BitVec 32 := Scalar.divsi v1296 c16_i32_515
  let c1_i32_521 : BitVec 32 := 1#32
  let v1312 : BitVec 32 := Scalar.subi v1297 c1_i32_521
  let v1313 : BitVec 32 := Scalar.select v1311 v1312 v1297
  let c16_i32_522 : BitVec 32 := 16#32
  let v1314 : BitVec 32 := Scalar.muli v1313 c16_i32_522
  ![v1315.toNat, v1314.toNat]

def k1_off46 (i : grid1.Coords) (v1326 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c44_i32 : BitVec 32 := 44#32
  let v1345 : BitVec 32 := Scalar.addi v2 c44_i32
  let c0_i32_528 : BitVec 32 := 0#32
  let v1328 : BitVec 1 := Scalar.cmpi .sgt v1326 c0_i32_528
  let v1329 : BitVec 32 := Scalar.extui v1328
  let c0_i32_529 : BitVec 32 := 0#32
  let v1330 : BitVec 1 := Scalar.cmpi .slt v1326 c0_i32_529
  let v1331 : BitVec 32 := Scalar.extui v1330
  let v1332 : BitVec 32 := Scalar.subi v1329 v1331
  let c16_i32_527 : BitVec 32 := 16#32
  let c0_i32_530 : BitVec 32 := 0#32
  let v1333 : BitVec 1 := Scalar.cmpi .sgt c16_i32_527 c0_i32_530
  let v1334 : BitVec 32 := Scalar.extui v1333
  let c0_i32_531 : BitVec 32 := 0#32
  let v1335 : BitVec 1 := Scalar.cmpi .slt c16_i32_527 c0_i32_531
  let v1336 : BitVec 32 := Scalar.extui v1335
  let v1337 : BitVec 32 := Scalar.subi v1334 v1336
  let v1338 : BitVec 1 := Scalar.cmpi .ne v1332 v1337
  let v1339 : BitVec 32 := Scalar.remsi v1326 c16_i32_527
  let c0_i32_532 : BitVec 32 := 0#32
  let v1340 : BitVec 1 := Scalar.cmpi .ne v1339 c0_i32_532
  let v1341 : BitVec 1 := Scalar.andi v1338 v1340
  let v1327 : BitVec 32 := Scalar.divsi v1326 c16_i32_527
  let c1_i32_533 : BitVec 32 := 1#32
  let v1342 : BitVec 32 := Scalar.subi v1327 c1_i32_533
  let v1343 : BitVec 32 := Scalar.select v1341 v1342 v1327
  let c16_i32_534 : BitVec 32 := 16#32
  let v1344 : BitVec 32 := Scalar.muli v1343 c16_i32_534
  ![v1345.toNat, v1344.toNat]

def k1_off47 (i : grid1.Coords) (v1356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c45_i32 : BitVec 32 := 45#32
  let v1375 : BitVec 32 := Scalar.addi v2 c45_i32
  let c0_i32_540 : BitVec 32 := 0#32
  let v1358 : BitVec 1 := Scalar.cmpi .sgt v1356 c0_i32_540
  let v1359 : BitVec 32 := Scalar.extui v1358
  let c0_i32_541 : BitVec 32 := 0#32
  let v1360 : BitVec 1 := Scalar.cmpi .slt v1356 c0_i32_541
  let v1361 : BitVec 32 := Scalar.extui v1360
  let v1362 : BitVec 32 := Scalar.subi v1359 v1361
  let c16_i32_539 : BitVec 32 := 16#32
  let c0_i32_542 : BitVec 32 := 0#32
  let v1363 : BitVec 1 := Scalar.cmpi .sgt c16_i32_539 c0_i32_542
  let v1364 : BitVec 32 := Scalar.extui v1363
  let c0_i32_543 : BitVec 32 := 0#32
  let v1365 : BitVec 1 := Scalar.cmpi .slt c16_i32_539 c0_i32_543
  let v1366 : BitVec 32 := Scalar.extui v1365
  let v1367 : BitVec 32 := Scalar.subi v1364 v1366
  let v1368 : BitVec 1 := Scalar.cmpi .ne v1362 v1367
  let v1369 : BitVec 32 := Scalar.remsi v1356 c16_i32_539
  let c0_i32_544 : BitVec 32 := 0#32
  let v1370 : BitVec 1 := Scalar.cmpi .ne v1369 c0_i32_544
  let v1371 : BitVec 1 := Scalar.andi v1368 v1370
  let v1357 : BitVec 32 := Scalar.divsi v1356 c16_i32_539
  let c1_i32_545 : BitVec 32 := 1#32
  let v1372 : BitVec 32 := Scalar.subi v1357 c1_i32_545
  let v1373 : BitVec 32 := Scalar.select v1371 v1372 v1357
  let c16_i32_546 : BitVec 32 := 16#32
  let v1374 : BitVec 32 := Scalar.muli v1373 c16_i32_546
  ![v1375.toNat, v1374.toNat]

def k1_off48 (i : grid1.Coords) (v1386 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c46_i32 : BitVec 32 := 46#32
  let v1405 : BitVec 32 := Scalar.addi v2 c46_i32
  let c0_i32_552 : BitVec 32 := 0#32
  let v1388 : BitVec 1 := Scalar.cmpi .sgt v1386 c0_i32_552
  let v1389 : BitVec 32 := Scalar.extui v1388
  let c0_i32_553 : BitVec 32 := 0#32
  let v1390 : BitVec 1 := Scalar.cmpi .slt v1386 c0_i32_553
  let v1391 : BitVec 32 := Scalar.extui v1390
  let v1392 : BitVec 32 := Scalar.subi v1389 v1391
  let c16_i32_551 : BitVec 32 := 16#32
  let c0_i32_554 : BitVec 32 := 0#32
  let v1393 : BitVec 1 := Scalar.cmpi .sgt c16_i32_551 c0_i32_554
  let v1394 : BitVec 32 := Scalar.extui v1393
  let c0_i32_555 : BitVec 32 := 0#32
  let v1395 : BitVec 1 := Scalar.cmpi .slt c16_i32_551 c0_i32_555
  let v1396 : BitVec 32 := Scalar.extui v1395
  let v1397 : BitVec 32 := Scalar.subi v1394 v1396
  let v1398 : BitVec 1 := Scalar.cmpi .ne v1392 v1397
  let v1399 : BitVec 32 := Scalar.remsi v1386 c16_i32_551
  let c0_i32_556 : BitVec 32 := 0#32
  let v1400 : BitVec 1 := Scalar.cmpi .ne v1399 c0_i32_556
  let v1401 : BitVec 1 := Scalar.andi v1398 v1400
  let v1387 : BitVec 32 := Scalar.divsi v1386 c16_i32_551
  let c1_i32_557 : BitVec 32 := 1#32
  let v1402 : BitVec 32 := Scalar.subi v1387 c1_i32_557
  let v1403 : BitVec 32 := Scalar.select v1401 v1402 v1387
  let c16_i32_558 : BitVec 32 := 16#32
  let v1404 : BitVec 32 := Scalar.muli v1403 c16_i32_558
  ![v1405.toNat, v1404.toNat]

def k1_off49 (i : grid1.Coords) (v1416 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c47_i32 : BitVec 32 := 47#32
  let v1435 : BitVec 32 := Scalar.addi v2 c47_i32
  let c0_i32_564 : BitVec 32 := 0#32
  let v1418 : BitVec 1 := Scalar.cmpi .sgt v1416 c0_i32_564
  let v1419 : BitVec 32 := Scalar.extui v1418
  let c0_i32_565 : BitVec 32 := 0#32
  let v1420 : BitVec 1 := Scalar.cmpi .slt v1416 c0_i32_565
  let v1421 : BitVec 32 := Scalar.extui v1420
  let v1422 : BitVec 32 := Scalar.subi v1419 v1421
  let c16_i32_563 : BitVec 32 := 16#32
  let c0_i32_566 : BitVec 32 := 0#32
  let v1423 : BitVec 1 := Scalar.cmpi .sgt c16_i32_563 c0_i32_566
  let v1424 : BitVec 32 := Scalar.extui v1423
  let c0_i32_567 : BitVec 32 := 0#32
  let v1425 : BitVec 1 := Scalar.cmpi .slt c16_i32_563 c0_i32_567
  let v1426 : BitVec 32 := Scalar.extui v1425
  let v1427 : BitVec 32 := Scalar.subi v1424 v1426
  let v1428 : BitVec 1 := Scalar.cmpi .ne v1422 v1427
  let v1429 : BitVec 32 := Scalar.remsi v1416 c16_i32_563
  let c0_i32_568 : BitVec 32 := 0#32
  let v1430 : BitVec 1 := Scalar.cmpi .ne v1429 c0_i32_568
  let v1431 : BitVec 1 := Scalar.andi v1428 v1430
  let v1417 : BitVec 32 := Scalar.divsi v1416 c16_i32_563
  let c1_i32_569 : BitVec 32 := 1#32
  let v1432 : BitVec 32 := Scalar.subi v1417 c1_i32_569
  let v1433 : BitVec 32 := Scalar.select v1431 v1432 v1417
  let c16_i32_570 : BitVec 32 := 16#32
  let v1434 : BitVec 32 := Scalar.muli v1433 c16_i32_570
  ![v1435.toNat, v1434.toNat]

def k1_off50 (i : grid1.Coords) (v1446 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32 : BitVec 32 := 48#32
  let v1465 : BitVec 32 := Scalar.addi v2 c48_i32
  let c0_i32_575 : BitVec 32 := 0#32
  let v1448 : BitVec 1 := Scalar.cmpi .sgt v1446 c0_i32_575
  let v1449 : BitVec 32 := Scalar.extui v1448
  let c0_i32_576 : BitVec 32 := 0#32
  let v1450 : BitVec 1 := Scalar.cmpi .slt v1446 c0_i32_576
  let v1451 : BitVec 32 := Scalar.extui v1450
  let v1452 : BitVec 32 := Scalar.subi v1449 v1451
  let c16_i32_574 : BitVec 32 := 16#32
  let c0_i32_577 : BitVec 32 := 0#32
  let v1453 : BitVec 1 := Scalar.cmpi .sgt c16_i32_574 c0_i32_577
  let v1454 : BitVec 32 := Scalar.extui v1453
  let c0_i32_578 : BitVec 32 := 0#32
  let v1455 : BitVec 1 := Scalar.cmpi .slt c16_i32_574 c0_i32_578
  let v1456 : BitVec 32 := Scalar.extui v1455
  let v1457 : BitVec 32 := Scalar.subi v1454 v1456
  let v1458 : BitVec 1 := Scalar.cmpi .ne v1452 v1457
  let v1459 : BitVec 32 := Scalar.remsi v1446 c16_i32_574
  let c0_i32_579 : BitVec 32 := 0#32
  let v1460 : BitVec 1 := Scalar.cmpi .ne v1459 c0_i32_579
  let v1461 : BitVec 1 := Scalar.andi v1458 v1460
  let v1447 : BitVec 32 := Scalar.divsi v1446 c16_i32_574
  let c1_i32_580 : BitVec 32 := 1#32
  let v1462 : BitVec 32 := Scalar.subi v1447 c1_i32_580
  let v1463 : BitVec 32 := Scalar.select v1461 v1462 v1447
  let c16_i32_581 : BitVec 32 := 16#32
  let v1464 : BitVec 32 := Scalar.muli v1463 c16_i32_581
  ![v1465.toNat, v1464.toNat]

def k1_off51 (i : grid1.Coords) (v1476 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c49_i32 : BitVec 32 := 49#32
  let v1495 : BitVec 32 := Scalar.addi v2 c49_i32
  let c0_i32_587 : BitVec 32 := 0#32
  let v1478 : BitVec 1 := Scalar.cmpi .sgt v1476 c0_i32_587
  let v1479 : BitVec 32 := Scalar.extui v1478
  let c0_i32_588 : BitVec 32 := 0#32
  let v1480 : BitVec 1 := Scalar.cmpi .slt v1476 c0_i32_588
  let v1481 : BitVec 32 := Scalar.extui v1480
  let v1482 : BitVec 32 := Scalar.subi v1479 v1481
  let c16_i32_586 : BitVec 32 := 16#32
  let c0_i32_589 : BitVec 32 := 0#32
  let v1483 : BitVec 1 := Scalar.cmpi .sgt c16_i32_586 c0_i32_589
  let v1484 : BitVec 32 := Scalar.extui v1483
  let c0_i32_590 : BitVec 32 := 0#32
  let v1485 : BitVec 1 := Scalar.cmpi .slt c16_i32_586 c0_i32_590
  let v1486 : BitVec 32 := Scalar.extui v1485
  let v1487 : BitVec 32 := Scalar.subi v1484 v1486
  let v1488 : BitVec 1 := Scalar.cmpi .ne v1482 v1487
  let v1489 : BitVec 32 := Scalar.remsi v1476 c16_i32_586
  let c0_i32_591 : BitVec 32 := 0#32
  let v1490 : BitVec 1 := Scalar.cmpi .ne v1489 c0_i32_591
  let v1491 : BitVec 1 := Scalar.andi v1488 v1490
  let v1477 : BitVec 32 := Scalar.divsi v1476 c16_i32_586
  let c1_i32_592 : BitVec 32 := 1#32
  let v1492 : BitVec 32 := Scalar.subi v1477 c1_i32_592
  let v1493 : BitVec 32 := Scalar.select v1491 v1492 v1477
  let c16_i32_593 : BitVec 32 := 16#32
  let v1494 : BitVec 32 := Scalar.muli v1493 c16_i32_593
  ![v1495.toNat, v1494.toNat]

def k1_off52 (i : grid1.Coords) (v1506 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c50_i32 : BitVec 32 := 50#32
  let v1525 : BitVec 32 := Scalar.addi v2 c50_i32
  let c0_i32_599 : BitVec 32 := 0#32
  let v1508 : BitVec 1 := Scalar.cmpi .sgt v1506 c0_i32_599
  let v1509 : BitVec 32 := Scalar.extui v1508
  let c0_i32_600 : BitVec 32 := 0#32
  let v1510 : BitVec 1 := Scalar.cmpi .slt v1506 c0_i32_600
  let v1511 : BitVec 32 := Scalar.extui v1510
  let v1512 : BitVec 32 := Scalar.subi v1509 v1511
  let c16_i32_598 : BitVec 32 := 16#32
  let c0_i32_601 : BitVec 32 := 0#32
  let v1513 : BitVec 1 := Scalar.cmpi .sgt c16_i32_598 c0_i32_601
  let v1514 : BitVec 32 := Scalar.extui v1513
  let c0_i32_602 : BitVec 32 := 0#32
  let v1515 : BitVec 1 := Scalar.cmpi .slt c16_i32_598 c0_i32_602
  let v1516 : BitVec 32 := Scalar.extui v1515
  let v1517 : BitVec 32 := Scalar.subi v1514 v1516
  let v1518 : BitVec 1 := Scalar.cmpi .ne v1512 v1517
  let v1519 : BitVec 32 := Scalar.remsi v1506 c16_i32_598
  let c0_i32_603 : BitVec 32 := 0#32
  let v1520 : BitVec 1 := Scalar.cmpi .ne v1519 c0_i32_603
  let v1521 : BitVec 1 := Scalar.andi v1518 v1520
  let v1507 : BitVec 32 := Scalar.divsi v1506 c16_i32_598
  let c1_i32_604 : BitVec 32 := 1#32
  let v1522 : BitVec 32 := Scalar.subi v1507 c1_i32_604
  let v1523 : BitVec 32 := Scalar.select v1521 v1522 v1507
  let c16_i32_605 : BitVec 32 := 16#32
  let v1524 : BitVec 32 := Scalar.muli v1523 c16_i32_605
  ![v1525.toNat, v1524.toNat]

def k1_off53 (i : grid1.Coords) (v1536 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c51_i32 : BitVec 32 := 51#32
  let v1555 : BitVec 32 := Scalar.addi v2 c51_i32
  let c0_i32_611 : BitVec 32 := 0#32
  let v1538 : BitVec 1 := Scalar.cmpi .sgt v1536 c0_i32_611
  let v1539 : BitVec 32 := Scalar.extui v1538
  let c0_i32_612 : BitVec 32 := 0#32
  let v1540 : BitVec 1 := Scalar.cmpi .slt v1536 c0_i32_612
  let v1541 : BitVec 32 := Scalar.extui v1540
  let v1542 : BitVec 32 := Scalar.subi v1539 v1541
  let c16_i32_610 : BitVec 32 := 16#32
  let c0_i32_613 : BitVec 32 := 0#32
  let v1543 : BitVec 1 := Scalar.cmpi .sgt c16_i32_610 c0_i32_613
  let v1544 : BitVec 32 := Scalar.extui v1543
  let c0_i32_614 : BitVec 32 := 0#32
  let v1545 : BitVec 1 := Scalar.cmpi .slt c16_i32_610 c0_i32_614
  let v1546 : BitVec 32 := Scalar.extui v1545
  let v1547 : BitVec 32 := Scalar.subi v1544 v1546
  let v1548 : BitVec 1 := Scalar.cmpi .ne v1542 v1547
  let v1549 : BitVec 32 := Scalar.remsi v1536 c16_i32_610
  let c0_i32_615 : BitVec 32 := 0#32
  let v1550 : BitVec 1 := Scalar.cmpi .ne v1549 c0_i32_615
  let v1551 : BitVec 1 := Scalar.andi v1548 v1550
  let v1537 : BitVec 32 := Scalar.divsi v1536 c16_i32_610
  let c1_i32_616 : BitVec 32 := 1#32
  let v1552 : BitVec 32 := Scalar.subi v1537 c1_i32_616
  let v1553 : BitVec 32 := Scalar.select v1551 v1552 v1537
  let c16_i32_617 : BitVec 32 := 16#32
  let v1554 : BitVec 32 := Scalar.muli v1553 c16_i32_617
  ![v1555.toNat, v1554.toNat]

def k1_off54 (i : grid1.Coords) (v1566 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c52_i32 : BitVec 32 := 52#32
  let v1585 : BitVec 32 := Scalar.addi v2 c52_i32
  let c0_i32_623 : BitVec 32 := 0#32
  let v1568 : BitVec 1 := Scalar.cmpi .sgt v1566 c0_i32_623
  let v1569 : BitVec 32 := Scalar.extui v1568
  let c0_i32_624 : BitVec 32 := 0#32
  let v1570 : BitVec 1 := Scalar.cmpi .slt v1566 c0_i32_624
  let v1571 : BitVec 32 := Scalar.extui v1570
  let v1572 : BitVec 32 := Scalar.subi v1569 v1571
  let c16_i32_622 : BitVec 32 := 16#32
  let c0_i32_625 : BitVec 32 := 0#32
  let v1573 : BitVec 1 := Scalar.cmpi .sgt c16_i32_622 c0_i32_625
  let v1574 : BitVec 32 := Scalar.extui v1573
  let c0_i32_626 : BitVec 32 := 0#32
  let v1575 : BitVec 1 := Scalar.cmpi .slt c16_i32_622 c0_i32_626
  let v1576 : BitVec 32 := Scalar.extui v1575
  let v1577 : BitVec 32 := Scalar.subi v1574 v1576
  let v1578 : BitVec 1 := Scalar.cmpi .ne v1572 v1577
  let v1579 : BitVec 32 := Scalar.remsi v1566 c16_i32_622
  let c0_i32_627 : BitVec 32 := 0#32
  let v1580 : BitVec 1 := Scalar.cmpi .ne v1579 c0_i32_627
  let v1581 : BitVec 1 := Scalar.andi v1578 v1580
  let v1567 : BitVec 32 := Scalar.divsi v1566 c16_i32_622
  let c1_i32_628 : BitVec 32 := 1#32
  let v1582 : BitVec 32 := Scalar.subi v1567 c1_i32_628
  let v1583 : BitVec 32 := Scalar.select v1581 v1582 v1567
  let c16_i32_629 : BitVec 32 := 16#32
  let v1584 : BitVec 32 := Scalar.muli v1583 c16_i32_629
  ![v1585.toNat, v1584.toNat]

def k1_off55 (i : grid1.Coords) (v1596 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c53_i32 : BitVec 32 := 53#32
  let v1615 : BitVec 32 := Scalar.addi v2 c53_i32
  let c0_i32_635 : BitVec 32 := 0#32
  let v1598 : BitVec 1 := Scalar.cmpi .sgt v1596 c0_i32_635
  let v1599 : BitVec 32 := Scalar.extui v1598
  let c0_i32_636 : BitVec 32 := 0#32
  let v1600 : BitVec 1 := Scalar.cmpi .slt v1596 c0_i32_636
  let v1601 : BitVec 32 := Scalar.extui v1600
  let v1602 : BitVec 32 := Scalar.subi v1599 v1601
  let c16_i32_634 : BitVec 32 := 16#32
  let c0_i32_637 : BitVec 32 := 0#32
  let v1603 : BitVec 1 := Scalar.cmpi .sgt c16_i32_634 c0_i32_637
  let v1604 : BitVec 32 := Scalar.extui v1603
  let c0_i32_638 : BitVec 32 := 0#32
  let v1605 : BitVec 1 := Scalar.cmpi .slt c16_i32_634 c0_i32_638
  let v1606 : BitVec 32 := Scalar.extui v1605
  let v1607 : BitVec 32 := Scalar.subi v1604 v1606
  let v1608 : BitVec 1 := Scalar.cmpi .ne v1602 v1607
  let v1609 : BitVec 32 := Scalar.remsi v1596 c16_i32_634
  let c0_i32_639 : BitVec 32 := 0#32
  let v1610 : BitVec 1 := Scalar.cmpi .ne v1609 c0_i32_639
  let v1611 : BitVec 1 := Scalar.andi v1608 v1610
  let v1597 : BitVec 32 := Scalar.divsi v1596 c16_i32_634
  let c1_i32_640 : BitVec 32 := 1#32
  let v1612 : BitVec 32 := Scalar.subi v1597 c1_i32_640
  let v1613 : BitVec 32 := Scalar.select v1611 v1612 v1597
  let c16_i32_641 : BitVec 32 := 16#32
  let v1614 : BitVec 32 := Scalar.muli v1613 c16_i32_641
  ![v1615.toNat, v1614.toNat]

def k1_off56 (i : grid1.Coords) (v1626 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c54_i32 : BitVec 32 := 54#32
  let v1645 : BitVec 32 := Scalar.addi v2 c54_i32
  let c0_i32_647 : BitVec 32 := 0#32
  let v1628 : BitVec 1 := Scalar.cmpi .sgt v1626 c0_i32_647
  let v1629 : BitVec 32 := Scalar.extui v1628
  let c0_i32_648 : BitVec 32 := 0#32
  let v1630 : BitVec 1 := Scalar.cmpi .slt v1626 c0_i32_648
  let v1631 : BitVec 32 := Scalar.extui v1630
  let v1632 : BitVec 32 := Scalar.subi v1629 v1631
  let c16_i32_646 : BitVec 32 := 16#32
  let c0_i32_649 : BitVec 32 := 0#32
  let v1633 : BitVec 1 := Scalar.cmpi .sgt c16_i32_646 c0_i32_649
  let v1634 : BitVec 32 := Scalar.extui v1633
  let c0_i32_650 : BitVec 32 := 0#32
  let v1635 : BitVec 1 := Scalar.cmpi .slt c16_i32_646 c0_i32_650
  let v1636 : BitVec 32 := Scalar.extui v1635
  let v1637 : BitVec 32 := Scalar.subi v1634 v1636
  let v1638 : BitVec 1 := Scalar.cmpi .ne v1632 v1637
  let v1639 : BitVec 32 := Scalar.remsi v1626 c16_i32_646
  let c0_i32_651 : BitVec 32 := 0#32
  let v1640 : BitVec 1 := Scalar.cmpi .ne v1639 c0_i32_651
  let v1641 : BitVec 1 := Scalar.andi v1638 v1640
  let v1627 : BitVec 32 := Scalar.divsi v1626 c16_i32_646
  let c1_i32_652 : BitVec 32 := 1#32
  let v1642 : BitVec 32 := Scalar.subi v1627 c1_i32_652
  let v1643 : BitVec 32 := Scalar.select v1641 v1642 v1627
  let c16_i32_653 : BitVec 32 := 16#32
  let v1644 : BitVec 32 := Scalar.muli v1643 c16_i32_653
  ![v1645.toNat, v1644.toNat]

def k1_off57 (i : grid1.Coords) (v1656 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c55_i32 : BitVec 32 := 55#32
  let v1675 : BitVec 32 := Scalar.addi v2 c55_i32
  let c0_i32_659 : BitVec 32 := 0#32
  let v1658 : BitVec 1 := Scalar.cmpi .sgt v1656 c0_i32_659
  let v1659 : BitVec 32 := Scalar.extui v1658
  let c0_i32_660 : BitVec 32 := 0#32
  let v1660 : BitVec 1 := Scalar.cmpi .slt v1656 c0_i32_660
  let v1661 : BitVec 32 := Scalar.extui v1660
  let v1662 : BitVec 32 := Scalar.subi v1659 v1661
  let c16_i32_658 : BitVec 32 := 16#32
  let c0_i32_661 : BitVec 32 := 0#32
  let v1663 : BitVec 1 := Scalar.cmpi .sgt c16_i32_658 c0_i32_661
  let v1664 : BitVec 32 := Scalar.extui v1663
  let c0_i32_662 : BitVec 32 := 0#32
  let v1665 : BitVec 1 := Scalar.cmpi .slt c16_i32_658 c0_i32_662
  let v1666 : BitVec 32 := Scalar.extui v1665
  let v1667 : BitVec 32 := Scalar.subi v1664 v1666
  let v1668 : BitVec 1 := Scalar.cmpi .ne v1662 v1667
  let v1669 : BitVec 32 := Scalar.remsi v1656 c16_i32_658
  let c0_i32_663 : BitVec 32 := 0#32
  let v1670 : BitVec 1 := Scalar.cmpi .ne v1669 c0_i32_663
  let v1671 : BitVec 1 := Scalar.andi v1668 v1670
  let v1657 : BitVec 32 := Scalar.divsi v1656 c16_i32_658
  let c1_i32_664 : BitVec 32 := 1#32
  let v1672 : BitVec 32 := Scalar.subi v1657 c1_i32_664
  let v1673 : BitVec 32 := Scalar.select v1671 v1672 v1657
  let c16_i32_665 : BitVec 32 := 16#32
  let v1674 : BitVec 32 := Scalar.muli v1673 c16_i32_665
  ![v1675.toNat, v1674.toNat]

def k1_off58 (i : grid1.Coords) (v1686 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32 : BitVec 32 := 56#32
  let v1705 : BitVec 32 := Scalar.addi v2 c56_i32
  let c0_i32_671 : BitVec 32 := 0#32
  let v1688 : BitVec 1 := Scalar.cmpi .sgt v1686 c0_i32_671
  let v1689 : BitVec 32 := Scalar.extui v1688
  let c0_i32_672 : BitVec 32 := 0#32
  let v1690 : BitVec 1 := Scalar.cmpi .slt v1686 c0_i32_672
  let v1691 : BitVec 32 := Scalar.extui v1690
  let v1692 : BitVec 32 := Scalar.subi v1689 v1691
  let c16_i32_670 : BitVec 32 := 16#32
  let c0_i32_673 : BitVec 32 := 0#32
  let v1693 : BitVec 1 := Scalar.cmpi .sgt c16_i32_670 c0_i32_673
  let v1694 : BitVec 32 := Scalar.extui v1693
  let c0_i32_674 : BitVec 32 := 0#32
  let v1695 : BitVec 1 := Scalar.cmpi .slt c16_i32_670 c0_i32_674
  let v1696 : BitVec 32 := Scalar.extui v1695
  let v1697 : BitVec 32 := Scalar.subi v1694 v1696
  let v1698 : BitVec 1 := Scalar.cmpi .ne v1692 v1697
  let v1699 : BitVec 32 := Scalar.remsi v1686 c16_i32_670
  let c0_i32_675 : BitVec 32 := 0#32
  let v1700 : BitVec 1 := Scalar.cmpi .ne v1699 c0_i32_675
  let v1701 : BitVec 1 := Scalar.andi v1698 v1700
  let v1687 : BitVec 32 := Scalar.divsi v1686 c16_i32_670
  let c1_i32_676 : BitVec 32 := 1#32
  let v1702 : BitVec 32 := Scalar.subi v1687 c1_i32_676
  let v1703 : BitVec 32 := Scalar.select v1701 v1702 v1687
  let c16_i32_677 : BitVec 32 := 16#32
  let v1704 : BitVec 32 := Scalar.muli v1703 c16_i32_677
  ![v1705.toNat, v1704.toNat]

def k1_off59 (i : grid1.Coords) (v1716 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c57_i32 : BitVec 32 := 57#32
  let v1735 : BitVec 32 := Scalar.addi v2 c57_i32
  let c0_i32_683 : BitVec 32 := 0#32
  let v1718 : BitVec 1 := Scalar.cmpi .sgt v1716 c0_i32_683
  let v1719 : BitVec 32 := Scalar.extui v1718
  let c0_i32_684 : BitVec 32 := 0#32
  let v1720 : BitVec 1 := Scalar.cmpi .slt v1716 c0_i32_684
  let v1721 : BitVec 32 := Scalar.extui v1720
  let v1722 : BitVec 32 := Scalar.subi v1719 v1721
  let c16_i32_682 : BitVec 32 := 16#32
  let c0_i32_685 : BitVec 32 := 0#32
  let v1723 : BitVec 1 := Scalar.cmpi .sgt c16_i32_682 c0_i32_685
  let v1724 : BitVec 32 := Scalar.extui v1723
  let c0_i32_686 : BitVec 32 := 0#32
  let v1725 : BitVec 1 := Scalar.cmpi .slt c16_i32_682 c0_i32_686
  let v1726 : BitVec 32 := Scalar.extui v1725
  let v1727 : BitVec 32 := Scalar.subi v1724 v1726
  let v1728 : BitVec 1 := Scalar.cmpi .ne v1722 v1727
  let v1729 : BitVec 32 := Scalar.remsi v1716 c16_i32_682
  let c0_i32_687 : BitVec 32 := 0#32
  let v1730 : BitVec 1 := Scalar.cmpi .ne v1729 c0_i32_687
  let v1731 : BitVec 1 := Scalar.andi v1728 v1730
  let v1717 : BitVec 32 := Scalar.divsi v1716 c16_i32_682
  let c1_i32_688 : BitVec 32 := 1#32
  let v1732 : BitVec 32 := Scalar.subi v1717 c1_i32_688
  let v1733 : BitVec 32 := Scalar.select v1731 v1732 v1717
  let c16_i32_689 : BitVec 32 := 16#32
  let v1734 : BitVec 32 := Scalar.muli v1733 c16_i32_689
  ![v1735.toNat, v1734.toNat]

def k1_off60 (i : grid1.Coords) (v1746 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c58_i32 : BitVec 32 := 58#32
  let v1765 : BitVec 32 := Scalar.addi v2 c58_i32
  let c0_i32_695 : BitVec 32 := 0#32
  let v1748 : BitVec 1 := Scalar.cmpi .sgt v1746 c0_i32_695
  let v1749 : BitVec 32 := Scalar.extui v1748
  let c0_i32_696 : BitVec 32 := 0#32
  let v1750 : BitVec 1 := Scalar.cmpi .slt v1746 c0_i32_696
  let v1751 : BitVec 32 := Scalar.extui v1750
  let v1752 : BitVec 32 := Scalar.subi v1749 v1751
  let c16_i32_694 : BitVec 32 := 16#32
  let c0_i32_697 : BitVec 32 := 0#32
  let v1753 : BitVec 1 := Scalar.cmpi .sgt c16_i32_694 c0_i32_697
  let v1754 : BitVec 32 := Scalar.extui v1753
  let c0_i32_698 : BitVec 32 := 0#32
  let v1755 : BitVec 1 := Scalar.cmpi .slt c16_i32_694 c0_i32_698
  let v1756 : BitVec 32 := Scalar.extui v1755
  let v1757 : BitVec 32 := Scalar.subi v1754 v1756
  let v1758 : BitVec 1 := Scalar.cmpi .ne v1752 v1757
  let v1759 : BitVec 32 := Scalar.remsi v1746 c16_i32_694
  let c0_i32_699 : BitVec 32 := 0#32
  let v1760 : BitVec 1 := Scalar.cmpi .ne v1759 c0_i32_699
  let v1761 : BitVec 1 := Scalar.andi v1758 v1760
  let v1747 : BitVec 32 := Scalar.divsi v1746 c16_i32_694
  let c1_i32_700 : BitVec 32 := 1#32
  let v1762 : BitVec 32 := Scalar.subi v1747 c1_i32_700
  let v1763 : BitVec 32 := Scalar.select v1761 v1762 v1747
  let c16_i32_701 : BitVec 32 := 16#32
  let v1764 : BitVec 32 := Scalar.muli v1763 c16_i32_701
  ![v1765.toNat, v1764.toNat]

def k1_off61 (i : grid1.Coords) (v1776 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c59_i32 : BitVec 32 := 59#32
  let v1795 : BitVec 32 := Scalar.addi v2 c59_i32
  let c0_i32_707 : BitVec 32 := 0#32
  let v1778 : BitVec 1 := Scalar.cmpi .sgt v1776 c0_i32_707
  let v1779 : BitVec 32 := Scalar.extui v1778
  let c0_i32_708 : BitVec 32 := 0#32
  let v1780 : BitVec 1 := Scalar.cmpi .slt v1776 c0_i32_708
  let v1781 : BitVec 32 := Scalar.extui v1780
  let v1782 : BitVec 32 := Scalar.subi v1779 v1781
  let c16_i32_706 : BitVec 32 := 16#32
  let c0_i32_709 : BitVec 32 := 0#32
  let v1783 : BitVec 1 := Scalar.cmpi .sgt c16_i32_706 c0_i32_709
  let v1784 : BitVec 32 := Scalar.extui v1783
  let c0_i32_710 : BitVec 32 := 0#32
  let v1785 : BitVec 1 := Scalar.cmpi .slt c16_i32_706 c0_i32_710
  let v1786 : BitVec 32 := Scalar.extui v1785
  let v1787 : BitVec 32 := Scalar.subi v1784 v1786
  let v1788 : BitVec 1 := Scalar.cmpi .ne v1782 v1787
  let v1789 : BitVec 32 := Scalar.remsi v1776 c16_i32_706
  let c0_i32_711 : BitVec 32 := 0#32
  let v1790 : BitVec 1 := Scalar.cmpi .ne v1789 c0_i32_711
  let v1791 : BitVec 1 := Scalar.andi v1788 v1790
  let v1777 : BitVec 32 := Scalar.divsi v1776 c16_i32_706
  let c1_i32_712 : BitVec 32 := 1#32
  let v1792 : BitVec 32 := Scalar.subi v1777 c1_i32_712
  let v1793 : BitVec 32 := Scalar.select v1791 v1792 v1777
  let c16_i32_713 : BitVec 32 := 16#32
  let v1794 : BitVec 32 := Scalar.muli v1793 c16_i32_713
  ![v1795.toNat, v1794.toNat]

def k1_off62 (i : grid1.Coords) (v1806 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c60_i32 : BitVec 32 := 60#32
  let v1825 : BitVec 32 := Scalar.addi v2 c60_i32
  let c0_i32_719 : BitVec 32 := 0#32
  let v1808 : BitVec 1 := Scalar.cmpi .sgt v1806 c0_i32_719
  let v1809 : BitVec 32 := Scalar.extui v1808
  let c0_i32_720 : BitVec 32 := 0#32
  let v1810 : BitVec 1 := Scalar.cmpi .slt v1806 c0_i32_720
  let v1811 : BitVec 32 := Scalar.extui v1810
  let v1812 : BitVec 32 := Scalar.subi v1809 v1811
  let c16_i32_718 : BitVec 32 := 16#32
  let c0_i32_721 : BitVec 32 := 0#32
  let v1813 : BitVec 1 := Scalar.cmpi .sgt c16_i32_718 c0_i32_721
  let v1814 : BitVec 32 := Scalar.extui v1813
  let c0_i32_722 : BitVec 32 := 0#32
  let v1815 : BitVec 1 := Scalar.cmpi .slt c16_i32_718 c0_i32_722
  let v1816 : BitVec 32 := Scalar.extui v1815
  let v1817 : BitVec 32 := Scalar.subi v1814 v1816
  let v1818 : BitVec 1 := Scalar.cmpi .ne v1812 v1817
  let v1819 : BitVec 32 := Scalar.remsi v1806 c16_i32_718
  let c0_i32_723 : BitVec 32 := 0#32
  let v1820 : BitVec 1 := Scalar.cmpi .ne v1819 c0_i32_723
  let v1821 : BitVec 1 := Scalar.andi v1818 v1820
  let v1807 : BitVec 32 := Scalar.divsi v1806 c16_i32_718
  let c1_i32_724 : BitVec 32 := 1#32
  let v1822 : BitVec 32 := Scalar.subi v1807 c1_i32_724
  let v1823 : BitVec 32 := Scalar.select v1821 v1822 v1807
  let c16_i32_725 : BitVec 32 := 16#32
  let v1824 : BitVec 32 := Scalar.muli v1823 c16_i32_725
  ![v1825.toNat, v1824.toNat]

def k1_off63 (i : grid1.Coords) (v1836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c61_i32 : BitVec 32 := 61#32
  let v1855 : BitVec 32 := Scalar.addi v2 c61_i32
  let c0_i32_731 : BitVec 32 := 0#32
  let v1838 : BitVec 1 := Scalar.cmpi .sgt v1836 c0_i32_731
  let v1839 : BitVec 32 := Scalar.extui v1838
  let c0_i32_732 : BitVec 32 := 0#32
  let v1840 : BitVec 1 := Scalar.cmpi .slt v1836 c0_i32_732
  let v1841 : BitVec 32 := Scalar.extui v1840
  let v1842 : BitVec 32 := Scalar.subi v1839 v1841
  let c16_i32_730 : BitVec 32 := 16#32
  let c0_i32_733 : BitVec 32 := 0#32
  let v1843 : BitVec 1 := Scalar.cmpi .sgt c16_i32_730 c0_i32_733
  let v1844 : BitVec 32 := Scalar.extui v1843
  let c0_i32_734 : BitVec 32 := 0#32
  let v1845 : BitVec 1 := Scalar.cmpi .slt c16_i32_730 c0_i32_734
  let v1846 : BitVec 32 := Scalar.extui v1845
  let v1847 : BitVec 32 := Scalar.subi v1844 v1846
  let v1848 : BitVec 1 := Scalar.cmpi .ne v1842 v1847
  let v1849 : BitVec 32 := Scalar.remsi v1836 c16_i32_730
  let c0_i32_735 : BitVec 32 := 0#32
  let v1850 : BitVec 1 := Scalar.cmpi .ne v1849 c0_i32_735
  let v1851 : BitVec 1 := Scalar.andi v1848 v1850
  let v1837 : BitVec 32 := Scalar.divsi v1836 c16_i32_730
  let c1_i32_736 : BitVec 32 := 1#32
  let v1852 : BitVec 32 := Scalar.subi v1837 c1_i32_736
  let v1853 : BitVec 32 := Scalar.select v1851 v1852 v1837
  let c16_i32_737 : BitVec 32 := 16#32
  let v1854 : BitVec 32 := Scalar.muli v1853 c16_i32_737
  ![v1855.toNat, v1854.toNat]

def k1_off64 (i : grid1.Coords) (v1866 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c62_i32 : BitVec 32 := 62#32
  let v1885 : BitVec 32 := Scalar.addi v2 c62_i32
  let c0_i32_743 : BitVec 32 := 0#32
  let v1868 : BitVec 1 := Scalar.cmpi .sgt v1866 c0_i32_743
  let v1869 : BitVec 32 := Scalar.extui v1868
  let c0_i32_744 : BitVec 32 := 0#32
  let v1870 : BitVec 1 := Scalar.cmpi .slt v1866 c0_i32_744
  let v1871 : BitVec 32 := Scalar.extui v1870
  let v1872 : BitVec 32 := Scalar.subi v1869 v1871
  let c16_i32_742 : BitVec 32 := 16#32
  let c0_i32_745 : BitVec 32 := 0#32
  let v1873 : BitVec 1 := Scalar.cmpi .sgt c16_i32_742 c0_i32_745
  let v1874 : BitVec 32 := Scalar.extui v1873
  let c0_i32_746 : BitVec 32 := 0#32
  let v1875 : BitVec 1 := Scalar.cmpi .slt c16_i32_742 c0_i32_746
  let v1876 : BitVec 32 := Scalar.extui v1875
  let v1877 : BitVec 32 := Scalar.subi v1874 v1876
  let v1878 : BitVec 1 := Scalar.cmpi .ne v1872 v1877
  let v1879 : BitVec 32 := Scalar.remsi v1866 c16_i32_742
  let c0_i32_747 : BitVec 32 := 0#32
  let v1880 : BitVec 1 := Scalar.cmpi .ne v1879 c0_i32_747
  let v1881 : BitVec 1 := Scalar.andi v1878 v1880
  let v1867 : BitVec 32 := Scalar.divsi v1866 c16_i32_742
  let c1_i32_748 : BitVec 32 := 1#32
  let v1882 : BitVec 32 := Scalar.subi v1867 c1_i32_748
  let v1883 : BitVec 32 := Scalar.select v1881 v1882 v1867
  let c16_i32_749 : BitVec 32 := 16#32
  let v1884 : BitVec 32 := Scalar.muli v1883 c16_i32_749
  ![v1885.toNat, v1884.toNat]

def k1_off65 (i : grid1.Coords) (v1896 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c63_i32 : BitVec 32 := 63#32
  let v1915 : BitVec 32 := Scalar.addi v2 c63_i32
  let c0_i32_755 : BitVec 32 := 0#32
  let v1898 : BitVec 1 := Scalar.cmpi .sgt v1896 c0_i32_755
  let v1899 : BitVec 32 := Scalar.extui v1898
  let c0_i32_756 : BitVec 32 := 0#32
  let v1900 : BitVec 1 := Scalar.cmpi .slt v1896 c0_i32_756
  let v1901 : BitVec 32 := Scalar.extui v1900
  let v1902 : BitVec 32 := Scalar.subi v1899 v1901
  let c16_i32_754 : BitVec 32 := 16#32
  let c0_i32_757 : BitVec 32 := 0#32
  let v1903 : BitVec 1 := Scalar.cmpi .sgt c16_i32_754 c0_i32_757
  let v1904 : BitVec 32 := Scalar.extui v1903
  let c0_i32_758 : BitVec 32 := 0#32
  let v1905 : BitVec 1 := Scalar.cmpi .slt c16_i32_754 c0_i32_758
  let v1906 : BitVec 32 := Scalar.extui v1905
  let v1907 : BitVec 32 := Scalar.subi v1904 v1906
  let v1908 : BitVec 1 := Scalar.cmpi .ne v1902 v1907
  let v1909 : BitVec 32 := Scalar.remsi v1896 c16_i32_754
  let c0_i32_759 : BitVec 32 := 0#32
  let v1910 : BitVec 1 := Scalar.cmpi .ne v1909 c0_i32_759
  let v1911 : BitVec 1 := Scalar.andi v1908 v1910
  let v1897 : BitVec 32 := Scalar.divsi v1896 c16_i32_754
  let c1_i32_760 : BitVec 32 := 1#32
  let v1912 : BitVec 32 := Scalar.subi v1897 c1_i32_760
  let v1913 : BitVec 32 := Scalar.select v1911 v1912 v1897
  let c16_i32_761 : BitVec 32 := 16#32
  let v1914 : BitVec 32 := Scalar.muli v1913 c16_i32_761
  ![v1915.toNat, v1914.toNat]

def k1_chk64 (i : grid1.Coords) (v1896 : BitVec 32) : Prop :=
  (∀ a, (k1_off65 i v1896) a + S1x16.size a ≤ S2048x32000.size a)
theorem k1_off65_inb : ∀ (i : grid1.Coords) (v1896 : BitVec 32) (k1_hw64 : k1_chk64 i v1896), ∀ a, (k1_off65 i v1896) a + S1x16.size a ≤ S2048x32000.size a := fun i v1896 k1_hw64 => k1_hw64

def k1_off66 (i : grid1.Coords) (v6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_5 : BitVec 32 := 0#32
  let v25 : BitVec 32 := Scalar.addi v2 c0_i32_5
  let c0_i32 : BitVec 32 := 0#32
  let v8 : BitVec 1 := Scalar.cmpi .sgt v6 c0_i32
  let v9 : BitVec 32 := Scalar.extui v8
  let c0_i32_0 : BitVec 32 := 0#32
  let v10 : BitVec 1 := Scalar.cmpi .slt v6 c0_i32_0
  let v11 : BitVec 32 := Scalar.extui v10
  let v12 : BitVec 32 := Scalar.subi v9 v11
  let c16_i32 : BitVec 32 := 16#32
  let c0_i32_1 : BitVec 32 := 0#32
  let v13 : BitVec 1 := Scalar.cmpi .sgt c16_i32 c0_i32_1
  let v14 : BitVec 32 := Scalar.extui v13
  let c0_i32_2 : BitVec 32 := 0#32
  let v15 : BitVec 1 := Scalar.cmpi .slt c16_i32 c0_i32_2
  let v16 : BitVec 32 := Scalar.extui v15
  let v17 : BitVec 32 := Scalar.subi v14 v16
  let v18 : BitVec 1 := Scalar.cmpi .ne v12 v17
  let v19 : BitVec 32 := Scalar.remsi v6 c16_i32
  let c0_i32_3 : BitVec 32 := 0#32
  let v20 : BitVec 1 := Scalar.cmpi .ne v19 c0_i32_3
  let v21 : BitVec 1 := Scalar.andi v18 v20
  let v7 : BitVec 32 := Scalar.divsi v6 c16_i32
  let c1_i32 : BitVec 32 := 1#32
  let v22 : BitVec 32 := Scalar.subi v7 c1_i32
  let v23 : BitVec 32 := Scalar.select v21 v22 v7
  let c16_i32_4 : BitVec 32 := 16#32
  let v24 : BitVec 32 := Scalar.muli v23 c16_i32_4
  ![v25.toNat, v24.toNat]

def k1_chk1 (i : grid1.Coords) (v6 : BitVec 32) : Prop :=
  (∀ a, (k1_off2 i v6) a + S1x16.size a ≤ S2048x32000.size a) ∧
  (∀ a, (k1_off66 i v6) a + S1x16.size a ≤ S2048x32000.size a)
theorem k1_off2_inb : ∀ (i : grid1.Coords) (v6 : BitVec 32) (k1_hw1 : k1_chk1 i v6), ∀ a, (k1_off2 i v6) a + S1x16.size a ≤ S2048x32000.size a := fun i v6 k1_hw1 => k1_hw1.1
theorem k1_off66_inb : ∀ (i : grid1.Coords) (v6 : BitVec 32) (k1_hw1 : k1_chk1 i v6), ∀ a, (k1_off66 i v6) a + S1x16.size a ≤ S2048x32000.size a := fun i v6 k1_hw1 => k1_hw1.2

def k1_off67 (i : grid1.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c1_i32_18 : BitVec 32 := 1#32
  let v55 : BitVec 32 := Scalar.addi v2 c1_i32_18
  let c0_i32_11 : BitVec 32 := 0#32
  let v38 : BitVec 1 := Scalar.cmpi .sgt v36 c0_i32_11
  let v39 : BitVec 32 := Scalar.extui v38
  let c0_i32_12 : BitVec 32 := 0#32
  let v40 : BitVec 1 := Scalar.cmpi .slt v36 c0_i32_12
  let v41 : BitVec 32 := Scalar.extui v40
  let v42 : BitVec 32 := Scalar.subi v39 v41
  let c16_i32_10 : BitVec 32 := 16#32
  let c0_i32_13 : BitVec 32 := 0#32
  let v43 : BitVec 1 := Scalar.cmpi .sgt c16_i32_10 c0_i32_13
  let v44 : BitVec 32 := Scalar.extui v43
  let c0_i32_14 : BitVec 32 := 0#32
  let v45 : BitVec 1 := Scalar.cmpi .slt c16_i32_10 c0_i32_14
  let v46 : BitVec 32 := Scalar.extui v45
  let v47 : BitVec 32 := Scalar.subi v44 v46
  let v48 : BitVec 1 := Scalar.cmpi .ne v42 v47
  let v49 : BitVec 32 := Scalar.remsi v36 c16_i32_10
  let c0_i32_15 : BitVec 32 := 0#32
  let v50 : BitVec 1 := Scalar.cmpi .ne v49 c0_i32_15
  let v51 : BitVec 1 := Scalar.andi v48 v50
  let v37 : BitVec 32 := Scalar.divsi v36 c16_i32_10
  let c1_i32_16 : BitVec 32 := 1#32
  let v52 : BitVec 32 := Scalar.subi v37 c1_i32_16
  let v53 : BitVec 32 := Scalar.select v51 v52 v37
  let c16_i32_17 : BitVec 32 := 16#32
  let v54 : BitVec 32 := Scalar.muli v53 c16_i32_17
  ![v55.toNat, v54.toNat]

def k1_chk2 (i : grid1.Coords) (v36 : BitVec 32) : Prop :=
  (∀ a, (k1_off3 i v36) a + S1x16.size a ≤ S2048x32000.size a) ∧
  (∀ a, (k1_off67 i v36) a + S1x16.size a ≤ S2048x32000.size a)
theorem k1_off3_inb : ∀ (i : grid1.Coords) (v36 : BitVec 32) (k1_hw2 : k1_chk2 i v36), ∀ a, (k1_off3 i v36) a + S1x16.size a ≤ S2048x32000.size a := fun i v36 k1_hw2 => k1_hw2.1
theorem k1_off67_inb : ∀ (i : grid1.Coords) (v36 : BitVec 32) (k1_hw2 : k1_chk2 i v36), ∀ a, (k1_off67 i v36) a + S1x16.size a ≤ S2048x32000.size a := fun i v36 k1_hw2 => k1_hw2.2

def k1_off68 (i : grid1.Coords) (v66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_31 : BitVec 32 := 2#32
  let v85 : BitVec 32 := Scalar.addi v2 c2_i32_31
  let c0_i32_24 : BitVec 32 := 0#32
  let v68 : BitVec 1 := Scalar.cmpi .sgt v66 c0_i32_24
  let v69 : BitVec 32 := Scalar.extui v68
  let c0_i32_25 : BitVec 32 := 0#32
  let v70 : BitVec 1 := Scalar.cmpi .slt v66 c0_i32_25
  let v71 : BitVec 32 := Scalar.extui v70
  let v72 : BitVec 32 := Scalar.subi v69 v71
  let c16_i32_23 : BitVec 32 := 16#32
  let c0_i32_26 : BitVec 32 := 0#32
  let v73 : BitVec 1 := Scalar.cmpi .sgt c16_i32_23 c0_i32_26
  let v74 : BitVec 32 := Scalar.extui v73
  let c0_i32_27 : BitVec 32 := 0#32
  let v75 : BitVec 1 := Scalar.cmpi .slt c16_i32_23 c0_i32_27
  let v76 : BitVec 32 := Scalar.extui v75
  let v77 : BitVec 32 := Scalar.subi v74 v76
  let v78 : BitVec 1 := Scalar.cmpi .ne v72 v77
  let v79 : BitVec 32 := Scalar.remsi v66 c16_i32_23
  let c0_i32_28 : BitVec 32 := 0#32
  let v80 : BitVec 1 := Scalar.cmpi .ne v79 c0_i32_28
  let v81 : BitVec 1 := Scalar.andi v78 v80
  let v67 : BitVec 32 := Scalar.divsi v66 c16_i32_23
  let c1_i32_29 : BitVec 32 := 1#32
  let v82 : BitVec 32 := Scalar.subi v67 c1_i32_29
  let v83 : BitVec 32 := Scalar.select v81 v82 v67
  let c16_i32_30 : BitVec 32 := 16#32
  let v84 : BitVec 32 := Scalar.muli v83 c16_i32_30
  ![v85.toNat, v84.toNat]

def k1_chk3 (i : grid1.Coords) (v66 : BitVec 32) : Prop :=
  (∀ a, (k1_off4 i v66) a + S1x16.size a ≤ S2048x32000.size a) ∧
  (∀ a, (k1_off68 i v66) a + S1x16.size a ≤ S2048x32000.size a)
theorem k1_off4_inb : ∀ (i : grid1.Coords) (v66 : BitVec 32) (k1_hw3 : k1_chk3 i v66), ∀ a, (k1_off4 i v66) a + S1x16.size a ≤ S2048x32000.size a := fun i v66 k1_hw3 => k1_hw3.1
theorem k1_off68_inb : ∀ (i : grid1.Coords) (v66 : BitVec 32) (k1_hw3 : k1_chk3 i v66), ∀ a, (k1_off68 i v66) a + S1x16.size a ≤ S2048x32000.size a := fun i v66 k1_hw3 => k1_hw3.2

def k1_off69 (i : grid1.Coords) (v96 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c3_i32 : BitVec 32 := 3#32
  let v115 : BitVec 32 := Scalar.addi v2 c3_i32
  let c0_i32_37 : BitVec 32 := 0#32
  let v98 : BitVec 1 := Scalar.cmpi .sgt v96 c0_i32_37
  let v99 : BitVec 32 := Scalar.extui v98
  let c0_i32_38 : BitVec 32 := 0#32
  let v100 : BitVec 1 := Scalar.cmpi .slt v96 c0_i32_38
  let v101 : BitVec 32 := Scalar.extui v100
  let v102 : BitVec 32 := Scalar.subi v99 v101
  let c16_i32_36 : BitVec 32 := 16#32
  let c0_i32_39 : BitVec 32 := 0#32
  let v103 : BitVec 1 := Scalar.cmpi .sgt c16_i32_36 c0_i32_39
  let v104 : BitVec 32 := Scalar.extui v103
  let c0_i32_40 : BitVec 32 := 0#32
  let v105 : BitVec 1 := Scalar.cmpi .slt c16_i32_36 c0_i32_40
  let v106 : BitVec 32 := Scalar.extui v105
  let v107 : BitVec 32 := Scalar.subi v104 v106
  let v108 : BitVec 1 := Scalar.cmpi .ne v102 v107
  let v109 : BitVec 32 := Scalar.remsi v96 c16_i32_36
  let c0_i32_41 : BitVec 32 := 0#32
  let v110 : BitVec 1 := Scalar.cmpi .ne v109 c0_i32_41
  let v111 : BitVec 1 := Scalar.andi v108 v110
  let v97 : BitVec 32 := Scalar.divsi v96 c16_i32_36
  let c1_i32_42 : BitVec 32 := 1#32
  let v112 : BitVec 32 := Scalar.subi v97 c1_i32_42
  let v113 : BitVec 32 := Scalar.select v111 v112 v97
  let c16_i32_43 : BitVec 32 := 16#32
  let v114 : BitVec 32 := Scalar.muli v113 c16_i32_43
  ![v115.toNat, v114.toNat]

def k1_chk4 (i : grid1.Coords) (v96 : BitVec 32) : Prop :=
  (∀ a, (k1_off5 i v96) a + S1x16.size a ≤ S2048x32000.size a) ∧
  (∀ a, (k1_off69 i v96) a + S1x16.size a ≤ S2048x32000.size a)
theorem k1_off5_inb : ∀ (i : grid1.Coords) (v96 : BitVec 32) (k1_hw4 : k1_chk4 i v96), ∀ a, (k1_off5 i v96) a + S1x16.size a ≤ S2048x32000.size a := fun i v96 k1_hw4 => k1_hw4.1
theorem k1_off69_inb : ∀ (i : grid1.Coords) (v96 : BitVec 32) (k1_hw4 : k1_chk4 i v96), ∀ a, (k1_off69 i v96) a + S1x16.size a ≤ S2048x32000.size a := fun i v96 k1_hw4 => k1_hw4.2

def k1_off70 (i : grid1.Coords) (v126 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c4_i32 : BitVec 32 := 4#32
  let v145 : BitVec 32 := Scalar.addi v2 c4_i32
  let c0_i32_49 : BitVec 32 := 0#32
  let v128 : BitVec 1 := Scalar.cmpi .sgt v126 c0_i32_49
  let v129 : BitVec 32 := Scalar.extui v128
  let c0_i32_50 : BitVec 32 := 0#32
  let v130 : BitVec 1 := Scalar.cmpi .slt v126 c0_i32_50
  let v131 : BitVec 32 := Scalar.extui v130
  let v132 : BitVec 32 := Scalar.subi v129 v131
  let c16_i32_48 : BitVec 32 := 16#32
  let c0_i32_51 : BitVec 32 := 0#32
  let v133 : BitVec 1 := Scalar.cmpi .sgt c16_i32_48 c0_i32_51
  let v134 : BitVec 32 := Scalar.extui v133
  let c0_i32_52 : BitVec 32 := 0#32
  let v135 : BitVec 1 := Scalar.cmpi .slt c16_i32_48 c0_i32_52
  let v136 : BitVec 32 := Scalar.extui v135
  let v137 : BitVec 32 := Scalar.subi v134 v136
  let v138 : BitVec 1 := Scalar.cmpi .ne v132 v137
  let v139 : BitVec 32 := Scalar.remsi v126 c16_i32_48
  let c0_i32_53 : BitVec 32 := 0#32
  let v140 : BitVec 1 := Scalar.cmpi .ne v139 c0_i32_53
  let v141 : BitVec 1 := Scalar.andi v138 v140
  let v127 : BitVec 32 := Scalar.divsi v126 c16_i32_48
  let c1_i32_54 : BitVec 32 := 1#32
  let v142 : BitVec 32 := Scalar.subi v127 c1_i32_54
  let v143 : BitVec 32 := Scalar.select v141 v142 v127
  let c16_i32_55 : BitVec 32 := 16#32
  let v144 : BitVec 32 := Scalar.muli v143 c16_i32_55
  ![v145.toNat, v144.toNat]

def k1_chk5 (i : grid1.Coords) (v126 : BitVec 32) : Prop :=
  (∀ a, (k1_off6 i v126) a + S1x16.size a ≤ S2048x32000.size a) ∧
  (∀ a, (k1_off70 i v126) a + S1x16.size a ≤ S2048x32000.size a)
theorem k1_off6_inb : ∀ (i : grid1.Coords) (v126 : BitVec 32) (k1_hw5 : k1_chk5 i v126), ∀ a, (k1_off6 i v126) a + S1x16.size a ≤ S2048x32000.size a := fun i v126 k1_hw5 => k1_hw5.1
theorem k1_off70_inb : ∀ (i : grid1.Coords) (v126 : BitVec 32) (k1_hw5 : k1_chk5 i v126), ∀ a, (k1_off70 i v126) a + S1x16.size a ≤ S2048x32000.size a := fun i v126 k1_hw5 => k1_hw5.2

def k1_off71 (i : grid1.Coords) (v156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c5_i32 : BitVec 32 := 5#32
  let v175 : BitVec 32 := Scalar.addi v2 c5_i32
  let c0_i32_61 : BitVec 32 := 0#32
  let v158 : BitVec 1 := Scalar.cmpi .sgt v156 c0_i32_61
  let v159 : BitVec 32 := Scalar.extui v158
  let c0_i32_62 : BitVec 32 := 0#32
  let v160 : BitVec 1 := Scalar.cmpi .slt v156 c0_i32_62
  let v161 : BitVec 32 := Scalar.extui v160
  let v162 : BitVec 32 := Scalar.subi v159 v161
  let c16_i32_60 : BitVec 32 := 16#32
  let c0_i32_63 : BitVec 32 := 0#32
  let v163 : BitVec 1 := Scalar.cmpi .sgt c16_i32_60 c0_i32_63
  let v164 : BitVec 32 := Scalar.extui v163
  let c0_i32_64 : BitVec 32 := 0#32
  let v165 : BitVec 1 := Scalar.cmpi .slt c16_i32_60 c0_i32_64
  let v166 : BitVec 32 := Scalar.extui v165
  let v167 : BitVec 32 := Scalar.subi v164 v166
  let v168 : BitVec 1 := Scalar.cmpi .ne v162 v167
  let v169 : BitVec 32 := Scalar.remsi v156 c16_i32_60
  let c0_i32_65 : BitVec 32 := 0#32
  let v170 : BitVec 1 := Scalar.cmpi .ne v169 c0_i32_65
  let v171 : BitVec 1 := Scalar.andi v168 v170
  let v157 : BitVec 32 := Scalar.divsi v156 c16_i32_60
  let c1_i32_66 : BitVec 32 := 1#32
  let v172 : BitVec 32 := Scalar.subi v157 c1_i32_66
  let v173 : BitVec 32 := Scalar.select v171 v172 v157
  let c16_i32_67 : BitVec 32 := 16#32
  let v174 : BitVec 32 := Scalar.muli v173 c16_i32_67
  ![v175.toNat, v174.toNat]

def k1_chk6 (i : grid1.Coords) (v156 : BitVec 32) : Prop :=
  (∀ a, (k1_off7 i v156) a + S1x16.size a ≤ S2048x32000.size a) ∧
  (∀ a, (k1_off71 i v156) a + S1x16.size a ≤ S2048x32000.size a)
theorem k1_off7_inb : ∀ (i : grid1.Coords) (v156 : BitVec 32) (k1_hw6 : k1_chk6 i v156), ∀ a, (k1_off7 i v156) a + S1x16.size a ≤ S2048x32000.size a := fun i v156 k1_hw6 => k1_hw6.1
theorem k1_off71_inb : ∀ (i : grid1.Coords) (v156 : BitVec 32) (k1_hw6 : k1_chk6 i v156), ∀ a, (k1_off71 i v156) a + S1x16.size a ≤ S2048x32000.size a := fun i v156 k1_hw6 => k1_hw6.2

def k1_off72 (i : grid1.Coords) (v186 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c6_i32 : BitVec 32 := 6#32
  let v205 : BitVec 32 := Scalar.addi v2 c6_i32
  let c0_i32_73 : BitVec 32 := 0#32
  let v188 : BitVec 1 := Scalar.cmpi .sgt v186 c0_i32_73
  let v189 : BitVec 32 := Scalar.extui v188
  let c0_i32_74 : BitVec 32 := 0#32
  let v190 : BitVec 1 := Scalar.cmpi .slt v186 c0_i32_74
  let v191 : BitVec 32 := Scalar.extui v190
  let v192 : BitVec 32 := Scalar.subi v189 v191
  let c16_i32_72 : BitVec 32 := 16#32
  let c0_i32_75 : BitVec 32 := 0#32
  let v193 : BitVec 1 := Scalar.cmpi .sgt c16_i32_72 c0_i32_75
  let v194 : BitVec 32 := Scalar.extui v193
  let c0_i32_76 : BitVec 32 := 0#32
  let v195 : BitVec 1 := Scalar.cmpi .slt c16_i32_72 c0_i32_76
  let v196 : BitVec 32 := Scalar.extui v195
  let v197 : BitVec 32 := Scalar.subi v194 v196
  let v198 : BitVec 1 := Scalar.cmpi .ne v192 v197
  let v199 : BitVec 32 := Scalar.remsi v186 c16_i32_72
  let c0_i32_77 : BitVec 32 := 0#32
  let v200 : BitVec 1 := Scalar.cmpi .ne v199 c0_i32_77
  let v201 : BitVec 1 := Scalar.andi v198 v200
  let v187 : BitVec 32 := Scalar.divsi v186 c16_i32_72
  let c1_i32_78 : BitVec 32 := 1#32
  let v202 : BitVec 32 := Scalar.subi v187 c1_i32_78
  let v203 : BitVec 32 := Scalar.select v201 v202 v187
  let c16_i32_79 : BitVec 32 := 16#32
  let v204 : BitVec 32 := Scalar.muli v203 c16_i32_79
  ![v205.toNat, v204.toNat]

def k1_chk7 (i : grid1.Coords) (v186 : BitVec 32) : Prop :=
  (∀ a, (k1_off8 i v186) a + S1x16.size a ≤ S2048x32000.size a) ∧
  (∀ a, (k1_off72 i v186) a + S1x16.size a ≤ S2048x32000.size a)
theorem k1_off8_inb : ∀ (i : grid1.Coords) (v186 : BitVec 32) (k1_hw7 : k1_chk7 i v186), ∀ a, (k1_off8 i v186) a + S1x16.size a ≤ S2048x32000.size a := fun i v186 k1_hw7 => k1_hw7.1
theorem k1_off72_inb : ∀ (i : grid1.Coords) (v186 : BitVec 32) (k1_hw7 : k1_chk7 i v186), ∀ a, (k1_off72 i v186) a + S1x16.size a ≤ S2048x32000.size a := fun i v186 k1_hw7 => k1_hw7.2

def k1_off73 (i : grid1.Coords) (v216 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c7_i32 : BitVec 32 := 7#32
  let v235 : BitVec 32 := Scalar.addi v2 c7_i32
  let c0_i32_85 : BitVec 32 := 0#32
  let v218 : BitVec 1 := Scalar.cmpi .sgt v216 c0_i32_85
  let v219 : BitVec 32 := Scalar.extui v218
  let c0_i32_86 : BitVec 32 := 0#32
  let v220 : BitVec 1 := Scalar.cmpi .slt v216 c0_i32_86
  let v221 : BitVec 32 := Scalar.extui v220
  let v222 : BitVec 32 := Scalar.subi v219 v221
  let c16_i32_84 : BitVec 32 := 16#32
  let c0_i32_87 : BitVec 32 := 0#32
  let v223 : BitVec 1 := Scalar.cmpi .sgt c16_i32_84 c0_i32_87
  let v224 : BitVec 32 := Scalar.extui v223
  let c0_i32_88 : BitVec 32 := 0#32
  let v225 : BitVec 1 := Scalar.cmpi .slt c16_i32_84 c0_i32_88
  let v226 : BitVec 32 := Scalar.extui v225
  let v227 : BitVec 32 := Scalar.subi v224 v226
  let v228 : BitVec 1 := Scalar.cmpi .ne v222 v227
  let v229 : BitVec 32 := Scalar.remsi v216 c16_i32_84
  let c0_i32_89 : BitVec 32 := 0#32
  let v230 : BitVec 1 := Scalar.cmpi .ne v229 c0_i32_89
  let v231 : BitVec 1 := Scalar.andi v228 v230
  let v217 : BitVec 32 := Scalar.divsi v216 c16_i32_84
  let c1_i32_90 : BitVec 32 := 1#32
  let v232 : BitVec 32 := Scalar.subi v217 c1_i32_90
  let v233 : BitVec 32 := Scalar.select v231 v232 v217
  let c16_i32_91 : BitVec 32 := 16#32
  let v234 : BitVec 32 := Scalar.muli v233 c16_i32_91
  ![v235.toNat, v234.toNat]

def k1_chk8 (i : grid1.Coords) (v216 : BitVec 32) : Prop :=
  (∀ a, (k1_off9 i v216) a + S1x16.size a ≤ S2048x32000.size a) ∧
  (∀ a, (k1_off73 i v216) a + S1x16.size a ≤ S2048x32000.size a)
theorem k1_off9_inb : ∀ (i : grid1.Coords) (v216 : BitVec 32) (k1_hw8 : k1_chk8 i v216), ∀ a, (k1_off9 i v216) a + S1x16.size a ≤ S2048x32000.size a := fun i v216 k1_hw8 => k1_hw8.1
theorem k1_off73_inb : ∀ (i : grid1.Coords) (v216 : BitVec 32) (k1_hw8 : k1_chk8 i v216), ∀ a, (k1_off73 i v216) a + S1x16.size a ≤ S2048x32000.size a := fun i v216 k1_hw8 => k1_hw8.2

def k1_off74 (i : grid1.Coords) (v246 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v265 : BitVec 32 := Scalar.addi v2 c8_i32
  let c0_i32_97 : BitVec 32 := 0#32
  let v248 : BitVec 1 := Scalar.cmpi .sgt v246 c0_i32_97
  let v249 : BitVec 32 := Scalar.extui v248
  let c0_i32_98 : BitVec 32 := 0#32
  let v250 : BitVec 1 := Scalar.cmpi .slt v246 c0_i32_98
  let v251 : BitVec 32 := Scalar.extui v250
  let v252 : BitVec 32 := Scalar.subi v249 v251
  let c16_i32_96 : BitVec 32 := 16#32
  let c0_i32_99 : BitVec 32 := 0#32
  let v253 : BitVec 1 := Scalar.cmpi .sgt c16_i32_96 c0_i32_99
  let v254 : BitVec 32 := Scalar.extui v253
  let c0_i32_100 : BitVec 32 := 0#32
  let v255 : BitVec 1 := Scalar.cmpi .slt c16_i32_96 c0_i32_100
  let v256 : BitVec 32 := Scalar.extui v255
  let v257 : BitVec 32 := Scalar.subi v254 v256
  let v258 : BitVec 1 := Scalar.cmpi .ne v252 v257
  let v259 : BitVec 32 := Scalar.remsi v246 c16_i32_96
  let c0_i32_101 : BitVec 32 := 0#32
  let v260 : BitVec 1 := Scalar.cmpi .ne v259 c0_i32_101
  let v261 : BitVec 1 := Scalar.andi v258 v260
  let v247 : BitVec 32 := Scalar.divsi v246 c16_i32_96
  let c1_i32_102 : BitVec 32 := 1#32
  let v262 : BitVec 32 := Scalar.subi v247 c1_i32_102
  let v263 : BitVec 32 := Scalar.select v261 v262 v247
  let c16_i32_103 : BitVec 32 := 16#32
  let v264 : BitVec 32 := Scalar.muli v263 c16_i32_103
  ![v265.toNat, v264.toNat]

def k1_chk9 (i : grid1.Coords) (v246 : BitVec 32) : Prop :=
  (∀ a, (k1_off10 i v246) a + S1x16.size a ≤ S2048x32000.size a) ∧
  (∀ a, (k1_off74 i v246) a + S1x16.size a ≤ S2048x32000.size a)
theorem k1_off10_inb : ∀ (i : grid1.Coords) (v246 : BitVec 32) (k1_hw9 : k1_chk9 i v246), ∀ a, (k1_off10 i v246) a + S1x16.size a ≤ S2048x32000.size a := fun i v246 k1_hw9 => k1_hw9.1
theorem k1_off74_inb : ∀ (i : grid1.Coords) (v246 : BitVec 32) (k1_hw9 : k1_chk9 i v246), ∀ a, (k1_off74 i v246) a + S1x16.size a ≤ S2048x32000.size a := fun i v246 k1_hw9 => k1_hw9.2

def k1_off75 (i : grid1.Coords) (v276 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c9_i32 : BitVec 32 := 9#32
  let v295 : BitVec 32 := Scalar.addi v2 c9_i32
  let c0_i32_109 : BitVec 32 := 0#32
  let v278 : BitVec 1 := Scalar.cmpi .sgt v276 c0_i32_109
  let v279 : BitVec 32 := Scalar.extui v278
  let c0_i32_110 : BitVec 32 := 0#32
  let v280 : BitVec 1 := Scalar.cmpi .slt v276 c0_i32_110
  let v281 : BitVec 32 := Scalar.extui v280
  let v282 : BitVec 32 := Scalar.subi v279 v281
  let c16_i32_108 : BitVec 32 := 16#32
  let c0_i32_111 : BitVec 32 := 0#32
  let v283 : BitVec 1 := Scalar.cmpi .sgt c16_i32_108 c0_i32_111
  let v284 : BitVec 32 := Scalar.extui v283
  let c0_i32_112 : BitVec 32 := 0#32
  let v285 : BitVec 1 := Scalar.cmpi .slt c16_i32_108 c0_i32_112
  let v286 : BitVec 32 := Scalar.extui v285
  let v287 : BitVec 32 := Scalar.subi v284 v286
  let v288 : BitVec 1 := Scalar.cmpi .ne v282 v287
  let v289 : BitVec 32 := Scalar.remsi v276 c16_i32_108
  let c0_i32_113 : BitVec 32 := 0#32
  let v290 : BitVec 1 := Scalar.cmpi .ne v289 c0_i32_113
  let v291 : BitVec 1 := Scalar.andi v288 v290
  let v277 : BitVec 32 := Scalar.divsi v276 c16_i32_108
  let c1_i32_114 : BitVec 32 := 1#32
  let v292 : BitVec 32 := Scalar.subi v277 c1_i32_114
  let v293 : BitVec 32 := Scalar.select v291 v292 v277
  let c16_i32_115 : BitVec 32 := 16#32
  let v294 : BitVec 32 := Scalar.muli v293 c16_i32_115
  ![v295.toNat, v294.toNat]

def k1_chk10 (i : grid1.Coords) (v276 : BitVec 32) : Prop :=
  (∀ a, (k1_off11 i v276) a + S1x16.size a ≤ S2048x32000.size a) ∧
  (∀ a, (k1_off75 i v276) a + S1x16.size a ≤ S2048x32000.size a)
theorem k1_off11_inb : ∀ (i : grid1.Coords) (v276 : BitVec 32) (k1_hw10 : k1_chk10 i v276), ∀ a, (k1_off11 i v276) a + S1x16.size a ≤ S2048x32000.size a := fun i v276 k1_hw10 => k1_hw10.1
theorem k1_off75_inb : ∀ (i : grid1.Coords) (v276 : BitVec 32) (k1_hw10 : k1_chk10 i v276), ∀ a, (k1_off75 i v276) a + S1x16.size a ≤ S2048x32000.size a := fun i v276 k1_hw10 => k1_hw10.2

def k1_off76 (i : grid1.Coords) (v306 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c10_i32 : BitVec 32 := 10#32
  let v325 : BitVec 32 := Scalar.addi v2 c10_i32
  let c0_i32_121 : BitVec 32 := 0#32
  let v308 : BitVec 1 := Scalar.cmpi .sgt v306 c0_i32_121
  let v309 : BitVec 32 := Scalar.extui v308
  let c0_i32_122 : BitVec 32 := 0#32
  let v310 : BitVec 1 := Scalar.cmpi .slt v306 c0_i32_122
  let v311 : BitVec 32 := Scalar.extui v310
  let v312 : BitVec 32 := Scalar.subi v309 v311
  let c16_i32_120 : BitVec 32 := 16#32
  let c0_i32_123 : BitVec 32 := 0#32
  let v313 : BitVec 1 := Scalar.cmpi .sgt c16_i32_120 c0_i32_123
  let v314 : BitVec 32 := Scalar.extui v313
  let c0_i32_124 : BitVec 32 := 0#32
  let v315 : BitVec 1 := Scalar.cmpi .slt c16_i32_120 c0_i32_124
  let v316 : BitVec 32 := Scalar.extui v315
  let v317 : BitVec 32 := Scalar.subi v314 v316
  let v318 : BitVec 1 := Scalar.cmpi .ne v312 v317
  let v319 : BitVec 32 := Scalar.remsi v306 c16_i32_120
  let c0_i32_125 : BitVec 32 := 0#32
  let v320 : BitVec 1 := Scalar.cmpi .ne v319 c0_i32_125
  let v321 : BitVec 1 := Scalar.andi v318 v320
  let v307 : BitVec 32 := Scalar.divsi v306 c16_i32_120
  let c1_i32_126 : BitVec 32 := 1#32
  let v322 : BitVec 32 := Scalar.subi v307 c1_i32_126
  let v323 : BitVec 32 := Scalar.select v321 v322 v307
  let c16_i32_127 : BitVec 32 := 16#32
  let v324 : BitVec 32 := Scalar.muli v323 c16_i32_127
  ![v325.toNat, v324.toNat]

def k1_chk11 (i : grid1.Coords) (v306 : BitVec 32) : Prop :=
  (∀ a, (k1_off12 i v306) a + S1x16.size a ≤ S2048x32000.size a) ∧
  (∀ a, (k1_off76 i v306) a + S1x16.size a ≤ S2048x32000.size a)
theorem k1_off12_inb : ∀ (i : grid1.Coords) (v306 : BitVec 32) (k1_hw11 : k1_chk11 i v306), ∀ a, (k1_off12 i v306) a + S1x16.size a ≤ S2048x32000.size a := fun i v306 k1_hw11 => k1_hw11.1
theorem k1_off76_inb : ∀ (i : grid1.Coords) (v306 : BitVec 32) (k1_hw11 : k1_chk11 i v306), ∀ a, (k1_off76 i v306) a + S1x16.size a ≤ S2048x32000.size a := fun i v306 k1_hw11 => k1_hw11.2

def k1_off77 (i : grid1.Coords) (v336 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c11_i32 : BitVec 32 := 11#32
  let v355 : BitVec 32 := Scalar.addi v2 c11_i32
  let c0_i32_133 : BitVec 32 := 0#32
  let v338 : BitVec 1 := Scalar.cmpi .sgt v336 c0_i32_133
  let v339 : BitVec 32 := Scalar.extui v338
  let c0_i32_134 : BitVec 32 := 0#32
  let v340 : BitVec 1 := Scalar.cmpi .slt v336 c0_i32_134
  let v341 : BitVec 32 := Scalar.extui v340
  let v342 : BitVec 32 := Scalar.subi v339 v341
  let c16_i32_132 : BitVec 32 := 16#32
  let c0_i32_135 : BitVec 32 := 0#32
  let v343 : BitVec 1 := Scalar.cmpi .sgt c16_i32_132 c0_i32_135
  let v344 : BitVec 32 := Scalar.extui v343
  let c0_i32_136 : BitVec 32 := 0#32
  let v345 : BitVec 1 := Scalar.cmpi .slt c16_i32_132 c0_i32_136
  let v346 : BitVec 32 := Scalar.extui v345
  let v347 : BitVec 32 := Scalar.subi v344 v346
  let v348 : BitVec 1 := Scalar.cmpi .ne v342 v347
  let v349 : BitVec 32 := Scalar.remsi v336 c16_i32_132
  let c0_i32_137 : BitVec 32 := 0#32
  let v350 : BitVec 1 := Scalar.cmpi .ne v349 c0_i32_137
  let v351 : BitVec 1 := Scalar.andi v348 v350
  let v337 : BitVec 32 := Scalar.divsi v336 c16_i32_132
  let c1_i32_138 : BitVec 32 := 1#32
  let v352 : BitVec 32 := Scalar.subi v337 c1_i32_138
  let v353 : BitVec 32 := Scalar.select v351 v352 v337
  let c16_i32_139 : BitVec 32 := 16#32
  let v354 : BitVec 32 := Scalar.muli v353 c16_i32_139
  ![v355.toNat, v354.toNat]

def k1_chk12 (i : grid1.Coords) (v336 : BitVec 32) : Prop :=
  (∀ a, (k1_off13 i v336) a + S1x16.size a ≤ S2048x32000.size a) ∧
  (∀ a, (k1_off77 i v336) a + S1x16.size a ≤ S2048x32000.size a)
theorem k1_off13_inb : ∀ (i : grid1.Coords) (v336 : BitVec 32) (k1_hw12 : k1_chk12 i v336), ∀ a, (k1_off13 i v336) a + S1x16.size a ≤ S2048x32000.size a := fun i v336 k1_hw12 => k1_hw12.1
theorem k1_off77_inb : ∀ (i : grid1.Coords) (v336 : BitVec 32) (k1_hw12 : k1_chk12 i v336), ∀ a, (k1_off77 i v336) a + S1x16.size a ≤ S2048x32000.size a := fun i v336 k1_hw12 => k1_hw12.2

def k1_off78 (i : grid1.Coords) (v366 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c12_i32 : BitVec 32 := 12#32
  let v385 : BitVec 32 := Scalar.addi v2 c12_i32
  let c0_i32_145 : BitVec 32 := 0#32
  let v368 : BitVec 1 := Scalar.cmpi .sgt v366 c0_i32_145
  let v369 : BitVec 32 := Scalar.extui v368
  let c0_i32_146 : BitVec 32 := 0#32
  let v370 : BitVec 1 := Scalar.cmpi .slt v366 c0_i32_146
  let v371 : BitVec 32 := Scalar.extui v370
  let v372 : BitVec 32 := Scalar.subi v369 v371
  let c16_i32_144 : BitVec 32 := 16#32
  let c0_i32_147 : BitVec 32 := 0#32
  let v373 : BitVec 1 := Scalar.cmpi .sgt c16_i32_144 c0_i32_147
  let v374 : BitVec 32 := Scalar.extui v373
  let c0_i32_148 : BitVec 32 := 0#32
  let v375 : BitVec 1 := Scalar.cmpi .slt c16_i32_144 c0_i32_148
  let v376 : BitVec 32 := Scalar.extui v375
  let v377 : BitVec 32 := Scalar.subi v374 v376
  let v378 : BitVec 1 := Scalar.cmpi .ne v372 v377
  let v379 : BitVec 32 := Scalar.remsi v366 c16_i32_144
  let c0_i32_149 : BitVec 32 := 0#32
  let v380 : BitVec 1 := Scalar.cmpi .ne v379 c0_i32_149
  let v381 : BitVec 1 := Scalar.andi v378 v380
  let v367 : BitVec 32 := Scalar.divsi v366 c16_i32_144
  let c1_i32_150 : BitVec 32 := 1#32
  let v382 : BitVec 32 := Scalar.subi v367 c1_i32_150
  let v383 : BitVec 32 := Scalar.select v381 v382 v367
  let c16_i32_151 : BitVec 32 := 16#32
  let v384 : BitVec 32 := Scalar.muli v383 c16_i32_151
  ![v385.toNat, v384.toNat]

def k1_chk13 (i : grid1.Coords) (v366 : BitVec 32) : Prop :=
  (∀ a, (k1_off14 i v366) a + S1x16.size a ≤ S2048x32000.size a) ∧
  (∀ a, (k1_off78 i v366) a + S1x16.size a ≤ S2048x32000.size a)
theorem k1_off14_inb : ∀ (i : grid1.Coords) (v366 : BitVec 32) (k1_hw13 : k1_chk13 i v366), ∀ a, (k1_off14 i v366) a + S1x16.size a ≤ S2048x32000.size a := fun i v366 k1_hw13 => k1_hw13.1
theorem k1_off78_inb : ∀ (i : grid1.Coords) (v366 : BitVec 32) (k1_hw13 : k1_chk13 i v366), ∀ a, (k1_off78 i v366) a + S1x16.size a ≤ S2048x32000.size a := fun i v366 k1_hw13 => k1_hw13.2

def k1_off79 (i : grid1.Coords) (v396 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c13_i32 : BitVec 32 := 13#32
  let v415 : BitVec 32 := Scalar.addi v2 c13_i32
  let c0_i32_157 : BitVec 32 := 0#32
  let v398 : BitVec 1 := Scalar.cmpi .sgt v396 c0_i32_157
  let v399 : BitVec 32 := Scalar.extui v398
  let c0_i32_158 : BitVec 32 := 0#32
  let v400 : BitVec 1 := Scalar.cmpi .slt v396 c0_i32_158
  let v401 : BitVec 32 := Scalar.extui v400
  let v402 : BitVec 32 := Scalar.subi v399 v401
  let c16_i32_156 : BitVec 32 := 16#32
  let c0_i32_159 : BitVec 32 := 0#32
  let v403 : BitVec 1 := Scalar.cmpi .sgt c16_i32_156 c0_i32_159
  let v404 : BitVec 32 := Scalar.extui v403
  let c0_i32_160 : BitVec 32 := 0#32
  let v405 : BitVec 1 := Scalar.cmpi .slt c16_i32_156 c0_i32_160
  let v406 : BitVec 32 := Scalar.extui v405
  let v407 : BitVec 32 := Scalar.subi v404 v406
  let v408 : BitVec 1 := Scalar.cmpi .ne v402 v407
  let v409 : BitVec 32 := Scalar.remsi v396 c16_i32_156
  let c0_i32_161 : BitVec 32 := 0#32
  let v410 : BitVec 1 := Scalar.cmpi .ne v409 c0_i32_161
  let v411 : BitVec 1 := Scalar.andi v408 v410
  let v397 : BitVec 32 := Scalar.divsi v396 c16_i32_156
  let c1_i32_162 : BitVec 32 := 1#32
  let v412 : BitVec 32 := Scalar.subi v397 c1_i32_162
  let v413 : BitVec 32 := Scalar.select v411 v412 v397
  let c16_i32_163 : BitVec 32 := 16#32
  let v414 : BitVec 32 := Scalar.muli v413 c16_i32_163
  ![v415.toNat, v414.toNat]

def k1_chk14 (i : grid1.Coords) (v396 : BitVec 32) : Prop :=
  (∀ a, (k1_off15 i v396) a + S1x16.size a ≤ S2048x32000.size a) ∧
  (∀ a, (k1_off79 i v396) a + S1x16.size a ≤ S2048x32000.size a)
theorem k1_off15_inb : ∀ (i : grid1.Coords) (v396 : BitVec 32) (k1_hw14 : k1_chk14 i v396), ∀ a, (k1_off15 i v396) a + S1x16.size a ≤ S2048x32000.size a := fun i v396 k1_hw14 => k1_hw14.1
theorem k1_off79_inb : ∀ (i : grid1.Coords) (v396 : BitVec 32) (k1_hw14 : k1_chk14 i v396), ∀ a, (k1_off79 i v396) a + S1x16.size a ≤ S2048x32000.size a := fun i v396 k1_hw14 => k1_hw14.2

def k1_off80 (i : grid1.Coords) (v426 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c14_i32 : BitVec 32 := 14#32
  let v445 : BitVec 32 := Scalar.addi v2 c14_i32
  let c0_i32_169 : BitVec 32 := 0#32
  let v428 : BitVec 1 := Scalar.cmpi .sgt v426 c0_i32_169
  let v429 : BitVec 32 := Scalar.extui v428
  let c0_i32_170 : BitVec 32 := 0#32
  let v430 : BitVec 1 := Scalar.cmpi .slt v426 c0_i32_170
  let v431 : BitVec 32 := Scalar.extui v430
  let v432 : BitVec 32 := Scalar.subi v429 v431
  let c16_i32_168 : BitVec 32 := 16#32
  let c0_i32_171 : BitVec 32 := 0#32
  let v433 : BitVec 1 := Scalar.cmpi .sgt c16_i32_168 c0_i32_171
  let v434 : BitVec 32 := Scalar.extui v433
  let c0_i32_172 : BitVec 32 := 0#32
  let v435 : BitVec 1 := Scalar.cmpi .slt c16_i32_168 c0_i32_172
  let v436 : BitVec 32 := Scalar.extui v435
  let v437 : BitVec 32 := Scalar.subi v434 v436
  let v438 : BitVec 1 := Scalar.cmpi .ne v432 v437
  let v439 : BitVec 32 := Scalar.remsi v426 c16_i32_168
  let c0_i32_173 : BitVec 32 := 0#32
  let v440 : BitVec 1 := Scalar.cmpi .ne v439 c0_i32_173
  let v441 : BitVec 1 := Scalar.andi v438 v440
  let v427 : BitVec 32 := Scalar.divsi v426 c16_i32_168
  let c1_i32_174 : BitVec 32 := 1#32
  let v442 : BitVec 32 := Scalar.subi v427 c1_i32_174
  let v443 : BitVec 32 := Scalar.select v441 v442 v427
  let c16_i32_175 : BitVec 32 := 16#32
  let v444 : BitVec 32 := Scalar.muli v443 c16_i32_175
  ![v445.toNat, v444.toNat]

def k1_chk15 (i : grid1.Coords) (v426 : BitVec 32) : Prop :=
  (∀ a, (k1_off16 i v426) a + S1x16.size a ≤ S2048x32000.size a) ∧
  (∀ a, (k1_off80 i v426) a + S1x16.size a ≤ S2048x32000.size a)
theorem k1_off16_inb : ∀ (i : grid1.Coords) (v426 : BitVec 32) (k1_hw15 : k1_chk15 i v426), ∀ a, (k1_off16 i v426) a + S1x16.size a ≤ S2048x32000.size a := fun i v426 k1_hw15 => k1_hw15.1
theorem k1_off80_inb : ∀ (i : grid1.Coords) (v426 : BitVec 32) (k1_hw15 : k1_chk15 i v426), ∀ a, (k1_off80 i v426) a + S1x16.size a ≤ S2048x32000.size a := fun i v426 k1_hw15 => k1_hw15.2

def k1_off81 (i : grid1.Coords) (v456 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c15_i32 : BitVec 32 := 15#32
  let v475 : BitVec 32 := Scalar.addi v2 c15_i32
  let c0_i32_181 : BitVec 32 := 0#32
  let v458 : BitVec 1 := Scalar.cmpi .sgt v456 c0_i32_181
  let v459 : BitVec 32 := Scalar.extui v458
  let c0_i32_182 : BitVec 32 := 0#32
  let v460 : BitVec 1 := Scalar.cmpi .slt v456 c0_i32_182
  let v461 : BitVec 32 := Scalar.extui v460
  let v462 : BitVec 32 := Scalar.subi v459 v461
  let c16_i32_180 : BitVec 32 := 16#32
  let c0_i32_183 : BitVec 32 := 0#32
  let v463 : BitVec 1 := Scalar.cmpi .sgt c16_i32_180 c0_i32_183
  let v464 : BitVec 32 := Scalar.extui v463
  let c0_i32_184 : BitVec 32 := 0#32
  let v465 : BitVec 1 := Scalar.cmpi .slt c16_i32_180 c0_i32_184
  let v466 : BitVec 32 := Scalar.extui v465
  let v467 : BitVec 32 := Scalar.subi v464 v466
  let v468 : BitVec 1 := Scalar.cmpi .ne v462 v467
  let v469 : BitVec 32 := Scalar.remsi v456 c16_i32_180
  let c0_i32_185 : BitVec 32 := 0#32
  let v470 : BitVec 1 := Scalar.cmpi .ne v469 c0_i32_185
  let v471 : BitVec 1 := Scalar.andi v468 v470
  let v457 : BitVec 32 := Scalar.divsi v456 c16_i32_180
  let c1_i32_186 : BitVec 32 := 1#32
  let v472 : BitVec 32 := Scalar.subi v457 c1_i32_186
  let v473 : BitVec 32 := Scalar.select v471 v472 v457
  let c16_i32_187 : BitVec 32 := 16#32
  let v474 : BitVec 32 := Scalar.muli v473 c16_i32_187
  ![v475.toNat, v474.toNat]

def k1_chk16 (i : grid1.Coords) (v456 : BitVec 32) : Prop :=
  (∀ a, (k1_off17 i v456) a + S1x16.size a ≤ S2048x32000.size a) ∧
  (∀ a, (k1_off81 i v456) a + S1x16.size a ≤ S2048x32000.size a)
theorem k1_off17_inb : ∀ (i : grid1.Coords) (v456 : BitVec 32) (k1_hw16 : k1_chk16 i v456), ∀ a, (k1_off17 i v456) a + S1x16.size a ≤ S2048x32000.size a := fun i v456 k1_hw16 => k1_hw16.1
theorem k1_off81_inb : ∀ (i : grid1.Coords) (v456 : BitVec 32) (k1_hw16 : k1_chk16 i v456), ∀ a, (k1_off81 i v456) a + S1x16.size a ≤ S2048x32000.size a := fun i v456 k1_hw16 => k1_hw16.2

def k1_off82 (i : grid1.Coords) (v486 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_199 : BitVec 32 := 16#32
  let v505 : BitVec 32 := Scalar.addi v2 c16_i32_199
  let c0_i32_192 : BitVec 32 := 0#32
  let v488 : BitVec 1 := Scalar.cmpi .sgt v486 c0_i32_192
  let v489 : BitVec 32 := Scalar.extui v488
  let c0_i32_193 : BitVec 32 := 0#32
  let v490 : BitVec 1 := Scalar.cmpi .slt v486 c0_i32_193
  let v491 : BitVec 32 := Scalar.extui v490
  let v492 : BitVec 32 := Scalar.subi v489 v491
  let c16_i32_191 : BitVec 32 := 16#32
  let c0_i32_194 : BitVec 32 := 0#32
  let v493 : BitVec 1 := Scalar.cmpi .sgt c16_i32_191 c0_i32_194
  let v494 : BitVec 32 := Scalar.extui v493
  let c0_i32_195 : BitVec 32 := 0#32
  let v495 : BitVec 1 := Scalar.cmpi .slt c16_i32_191 c0_i32_195
  let v496 : BitVec 32 := Scalar.extui v495
  let v497 : BitVec 32 := Scalar.subi v494 v496
  let v498 : BitVec 1 := Scalar.cmpi .ne v492 v497
  let v499 : BitVec 32 := Scalar.remsi v486 c16_i32_191
  let c0_i32_196 : BitVec 32 := 0#32
  let v500 : BitVec 1 := Scalar.cmpi .ne v499 c0_i32_196
  let v501 : BitVec 1 := Scalar.andi v498 v500
  let v487 : BitVec 32 := Scalar.divsi v486 c16_i32_191
  let c1_i32_197 : BitVec 32 := 1#32
  let v502 : BitVec 32 := Scalar.subi v487 c1_i32_197
  let v503 : BitVec 32 := Scalar.select v501 v502 v487
  let c16_i32_198 : BitVec 32 := 16#32
  let v504 : BitVec 32 := Scalar.muli v503 c16_i32_198
  ![v505.toNat, v504.toNat]

def k1_chk17 (i : grid1.Coords) (v486 : BitVec 32) : Prop :=
  (∀ a, (k1_off18 i v486) a + S1x16.size a ≤ S2048x32000.size a) ∧
  (∀ a, (k1_off82 i v486) a + S1x16.size a ≤ S2048x32000.size a)
theorem k1_off18_inb : ∀ (i : grid1.Coords) (v486 : BitVec 32) (k1_hw17 : k1_chk17 i v486), ∀ a, (k1_off18 i v486) a + S1x16.size a ≤ S2048x32000.size a := fun i v486 k1_hw17 => k1_hw17.1
theorem k1_off82_inb : ∀ (i : grid1.Coords) (v486 : BitVec 32) (k1_hw17 : k1_chk17 i v486), ∀ a, (k1_off82 i v486) a + S1x16.size a ≤ S2048x32000.size a := fun i v486 k1_hw17 => k1_hw17.2

def k1_off83 (i : grid1.Coords) (v516 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c17_i32 : BitVec 32 := 17#32
  let v535 : BitVec 32 := Scalar.addi v2 c17_i32
  let c0_i32_205 : BitVec 32 := 0#32
  let v518 : BitVec 1 := Scalar.cmpi .sgt v516 c0_i32_205
  let v519 : BitVec 32 := Scalar.extui v518
  let c0_i32_206 : BitVec 32 := 0#32
  let v520 : BitVec 1 := Scalar.cmpi .slt v516 c0_i32_206
  let v521 : BitVec 32 := Scalar.extui v520
  let v522 : BitVec 32 := Scalar.subi v519 v521
  let c16_i32_204 : BitVec 32 := 16#32
  let c0_i32_207 : BitVec 32 := 0#32
  let v523 : BitVec 1 := Scalar.cmpi .sgt c16_i32_204 c0_i32_207
  let v524 : BitVec 32 := Scalar.extui v523
  let c0_i32_208 : BitVec 32 := 0#32
  let v525 : BitVec 1 := Scalar.cmpi .slt c16_i32_204 c0_i32_208
  let v526 : BitVec 32 := Scalar.extui v525
  let v527 : BitVec 32 := Scalar.subi v524 v526
  let v528 : BitVec 1 := Scalar.cmpi .ne v522 v527
  let v529 : BitVec 32 := Scalar.remsi v516 c16_i32_204
  let c0_i32_209 : BitVec 32 := 0#32
  let v530 : BitVec 1 := Scalar.cmpi .ne v529 c0_i32_209
  let v531 : BitVec 1 := Scalar.andi v528 v530
  let v517 : BitVec 32 := Scalar.divsi v516 c16_i32_204
  let c1_i32_210 : BitVec 32 := 1#32
  let v532 : BitVec 32 := Scalar.subi v517 c1_i32_210
  let v533 : BitVec 32 := Scalar.select v531 v532 v517
  let c16_i32_211 : BitVec 32 := 16#32
  let v534 : BitVec 32 := Scalar.muli v533 c16_i32_211
  ![v535.toNat, v534.toNat]

def k1_chk18 (i : grid1.Coords) (v516 : BitVec 32) : Prop :=
  (∀ a, (k1_off19 i v516) a + S1x16.size a ≤ S2048x32000.size a) ∧
  (∀ a, (k1_off83 i v516) a + S1x16.size a ≤ S2048x32000.size a)
theorem k1_off19_inb : ∀ (i : grid1.Coords) (v516 : BitVec 32) (k1_hw18 : k1_chk18 i v516), ∀ a, (k1_off19 i v516) a + S1x16.size a ≤ S2048x32000.size a := fun i v516 k1_hw18 => k1_hw18.1
theorem k1_off83_inb : ∀ (i : grid1.Coords) (v516 : BitVec 32) (k1_hw18 : k1_chk18 i v516), ∀ a, (k1_off83 i v516) a + S1x16.size a ≤ S2048x32000.size a := fun i v516 k1_hw18 => k1_hw18.2

def k1_off84 (i : grid1.Coords) (v546 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c18_i32 : BitVec 32 := 18#32
  let v565 : BitVec 32 := Scalar.addi v2 c18_i32
  let c0_i32_217 : BitVec 32 := 0#32
  let v548 : BitVec 1 := Scalar.cmpi .sgt v546 c0_i32_217
  let v549 : BitVec 32 := Scalar.extui v548
  let c0_i32_218 : BitVec 32 := 0#32
  let v550 : BitVec 1 := Scalar.cmpi .slt v546 c0_i32_218
  let v551 : BitVec 32 := Scalar.extui v550
  let v552 : BitVec 32 := Scalar.subi v549 v551
  let c16_i32_216 : BitVec 32 := 16#32
  let c0_i32_219 : BitVec 32 := 0#32
  let v553 : BitVec 1 := Scalar.cmpi .sgt c16_i32_216 c0_i32_219
  let v554 : BitVec 32 := Scalar.extui v553
  let c0_i32_220 : BitVec 32 := 0#32
  let v555 : BitVec 1 := Scalar.cmpi .slt c16_i32_216 c0_i32_220
  let v556 : BitVec 32 := Scalar.extui v555
  let v557 : BitVec 32 := Scalar.subi v554 v556
  let v558 : BitVec 1 := Scalar.cmpi .ne v552 v557
  let v559 : BitVec 32 := Scalar.remsi v546 c16_i32_216
  let c0_i32_221 : BitVec 32 := 0#32
  let v560 : BitVec 1 := Scalar.cmpi .ne v559 c0_i32_221
  let v561 : BitVec 1 := Scalar.andi v558 v560
  let v547 : BitVec 32 := Scalar.divsi v546 c16_i32_216
  let c1_i32_222 : BitVec 32 := 1#32
  let v562 : BitVec 32 := Scalar.subi v547 c1_i32_222
  let v563 : BitVec 32 := Scalar.select v561 v562 v547
  let c16_i32_223 : BitVec 32 := 16#32
  let v564 : BitVec 32 := Scalar.muli v563 c16_i32_223
  ![v565.toNat, v564.toNat]

def k1_chk19 (i : grid1.Coords) (v546 : BitVec 32) : Prop :=
  (∀ a, (k1_off20 i v546) a + S1x16.size a ≤ S2048x32000.size a) ∧
  (∀ a, (k1_off84 i v546) a + S1x16.size a ≤ S2048x32000.size a)
theorem k1_off20_inb : ∀ (i : grid1.Coords) (v546 : BitVec 32) (k1_hw19 : k1_chk19 i v546), ∀ a, (k1_off20 i v546) a + S1x16.size a ≤ S2048x32000.size a := fun i v546 k1_hw19 => k1_hw19.1
theorem k1_off84_inb : ∀ (i : grid1.Coords) (v546 : BitVec 32) (k1_hw19 : k1_chk19 i v546), ∀ a, (k1_off84 i v546) a + S1x16.size a ≤ S2048x32000.size a := fun i v546 k1_hw19 => k1_hw19.2

def k1_off85 (i : grid1.Coords) (v576 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c19_i32 : BitVec 32 := 19#32
  let v595 : BitVec 32 := Scalar.addi v2 c19_i32
  let c0_i32_229 : BitVec 32 := 0#32
  let v578 : BitVec 1 := Scalar.cmpi .sgt v576 c0_i32_229
  let v579 : BitVec 32 := Scalar.extui v578
  let c0_i32_230 : BitVec 32 := 0#32
  let v580 : BitVec 1 := Scalar.cmpi .slt v576 c0_i32_230
  let v581 : BitVec 32 := Scalar.extui v580
  let v582 : BitVec 32 := Scalar.subi v579 v581
  let c16_i32_228 : BitVec 32 := 16#32
  let c0_i32_231 : BitVec 32 := 0#32
  let v583 : BitVec 1 := Scalar.cmpi .sgt c16_i32_228 c0_i32_231
  let v584 : BitVec 32 := Scalar.extui v583
  let c0_i32_232 : BitVec 32 := 0#32
  let v585 : BitVec 1 := Scalar.cmpi .slt c16_i32_228 c0_i32_232
  let v586 : BitVec 32 := Scalar.extui v585
  let v587 : BitVec 32 := Scalar.subi v584 v586
  let v588 : BitVec 1 := Scalar.cmpi .ne v582 v587
  let v589 : BitVec 32 := Scalar.remsi v576 c16_i32_228
  let c0_i32_233 : BitVec 32 := 0#32
  let v590 : BitVec 1 := Scalar.cmpi .ne v589 c0_i32_233
  let v591 : BitVec 1 := Scalar.andi v588 v590
  let v577 : BitVec 32 := Scalar.divsi v576 c16_i32_228
  let c1_i32_234 : BitVec 32 := 1#32
  let v592 : BitVec 32 := Scalar.subi v577 c1_i32_234
  let v593 : BitVec 32 := Scalar.select v591 v592 v577
  let c16_i32_235 : BitVec 32 := 16#32
  let v594 : BitVec 32 := Scalar.muli v593 c16_i32_235
  ![v595.toNat, v594.toNat]

def k1_chk20 (i : grid1.Coords) (v576 : BitVec 32) : Prop :=
  (∀ a, (k1_off21 i v576) a + S1x16.size a ≤ S2048x32000.size a) ∧
  (∀ a, (k1_off85 i v576) a + S1x16.size a ≤ S2048x32000.size a)
theorem k1_off21_inb : ∀ (i : grid1.Coords) (v576 : BitVec 32) (k1_hw20 : k1_chk20 i v576), ∀ a, (k1_off21 i v576) a + S1x16.size a ≤ S2048x32000.size a := fun i v576 k1_hw20 => k1_hw20.1
theorem k1_off85_inb : ∀ (i : grid1.Coords) (v576 : BitVec 32) (k1_hw20 : k1_chk20 i v576), ∀ a, (k1_off85 i v576) a + S1x16.size a ≤ S2048x32000.size a := fun i v576 k1_hw20 => k1_hw20.2

def k1_off86 (i : grid1.Coords) (v606 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c20_i32 : BitVec 32 := 20#32
  let v625 : BitVec 32 := Scalar.addi v2 c20_i32
  let c0_i32_241 : BitVec 32 := 0#32
  let v608 : BitVec 1 := Scalar.cmpi .sgt v606 c0_i32_241
  let v609 : BitVec 32 := Scalar.extui v608
  let c0_i32_242 : BitVec 32 := 0#32
  let v610 : BitVec 1 := Scalar.cmpi .slt v606 c0_i32_242
  let v611 : BitVec 32 := Scalar.extui v610
  let v612 : BitVec 32 := Scalar.subi v609 v611
  let c16_i32_240 : BitVec 32 := 16#32
  let c0_i32_243 : BitVec 32 := 0#32
  let v613 : BitVec 1 := Scalar.cmpi .sgt c16_i32_240 c0_i32_243
  let v614 : BitVec 32 := Scalar.extui v613
  let c0_i32_244 : BitVec 32 := 0#32
  let v615 : BitVec 1 := Scalar.cmpi .slt c16_i32_240 c0_i32_244
  let v616 : BitVec 32 := Scalar.extui v615
  let v617 : BitVec 32 := Scalar.subi v614 v616
  let v618 : BitVec 1 := Scalar.cmpi .ne v612 v617
  let v619 : BitVec 32 := Scalar.remsi v606 c16_i32_240
  let c0_i32_245 : BitVec 32 := 0#32
  let v620 : BitVec 1 := Scalar.cmpi .ne v619 c0_i32_245
  let v621 : BitVec 1 := Scalar.andi v618 v620
  let v607 : BitVec 32 := Scalar.divsi v606 c16_i32_240
  let c1_i32_246 : BitVec 32 := 1#32
  let v622 : BitVec 32 := Scalar.subi v607 c1_i32_246
  let v623 : BitVec 32 := Scalar.select v621 v622 v607
  let c16_i32_247 : BitVec 32 := 16#32
  let v624 : BitVec 32 := Scalar.muli v623 c16_i32_247
  ![v625.toNat, v624.toNat]

def k1_chk21 (i : grid1.Coords) (v606 : BitVec 32) : Prop :=
  (∀ a, (k1_off22 i v606) a + S1x16.size a ≤ S2048x32000.size a) ∧
  (∀ a, (k1_off86 i v606) a + S1x16.size a ≤ S2048x32000.size a)
theorem k1_off22_inb : ∀ (i : grid1.Coords) (v606 : BitVec 32) (k1_hw21 : k1_chk21 i v606), ∀ a, (k1_off22 i v606) a + S1x16.size a ≤ S2048x32000.size a := fun i v606 k1_hw21 => k1_hw21.1
theorem k1_off86_inb : ∀ (i : grid1.Coords) (v606 : BitVec 32) (k1_hw21 : k1_chk21 i v606), ∀ a, (k1_off86 i v606) a + S1x16.size a ≤ S2048x32000.size a := fun i v606 k1_hw21 => k1_hw21.2

def k1_off87 (i : grid1.Coords) (v636 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c21_i32 : BitVec 32 := 21#32
  let v655 : BitVec 32 := Scalar.addi v2 c21_i32
  let c0_i32_253 : BitVec 32 := 0#32
  let v638 : BitVec 1 := Scalar.cmpi .sgt v636 c0_i32_253
  let v639 : BitVec 32 := Scalar.extui v638
  let c0_i32_254 : BitVec 32 := 0#32
  let v640 : BitVec 1 := Scalar.cmpi .slt v636 c0_i32_254
  let v641 : BitVec 32 := Scalar.extui v640
  let v642 : BitVec 32 := Scalar.subi v639 v641
  let c16_i32_252 : BitVec 32 := 16#32
  let c0_i32_255 : BitVec 32 := 0#32
  let v643 : BitVec 1 := Scalar.cmpi .sgt c16_i32_252 c0_i32_255
  let v644 : BitVec 32 := Scalar.extui v643
  let c0_i32_256 : BitVec 32 := 0#32
  let v645 : BitVec 1 := Scalar.cmpi .slt c16_i32_252 c0_i32_256
  let v646 : BitVec 32 := Scalar.extui v645
  let v647 : BitVec 32 := Scalar.subi v644 v646
  let v648 : BitVec 1 := Scalar.cmpi .ne v642 v647
  let v649 : BitVec 32 := Scalar.remsi v636 c16_i32_252
  let c0_i32_257 : BitVec 32 := 0#32
  let v650 : BitVec 1 := Scalar.cmpi .ne v649 c0_i32_257
  let v651 : BitVec 1 := Scalar.andi v648 v650
  let v637 : BitVec 32 := Scalar.divsi v636 c16_i32_252
  let c1_i32_258 : BitVec 32 := 1#32
  let v652 : BitVec 32 := Scalar.subi v637 c1_i32_258
  let v653 : BitVec 32 := Scalar.select v651 v652 v637
  let c16_i32_259 : BitVec 32 := 16#32
  let v654 : BitVec 32 := Scalar.muli v653 c16_i32_259
  ![v655.toNat, v654.toNat]

def k1_chk22 (i : grid1.Coords) (v636 : BitVec 32) : Prop :=
  (∀ a, (k1_off23 i v636) a + S1x16.size a ≤ S2048x32000.size a) ∧
  (∀ a, (k1_off87 i v636) a + S1x16.size a ≤ S2048x32000.size a)
theorem k1_off23_inb : ∀ (i : grid1.Coords) (v636 : BitVec 32) (k1_hw22 : k1_chk22 i v636), ∀ a, (k1_off23 i v636) a + S1x16.size a ≤ S2048x32000.size a := fun i v636 k1_hw22 => k1_hw22.1
theorem k1_off87_inb : ∀ (i : grid1.Coords) (v636 : BitVec 32) (k1_hw22 : k1_chk22 i v636), ∀ a, (k1_off87 i v636) a + S1x16.size a ≤ S2048x32000.size a := fun i v636 k1_hw22 => k1_hw22.2

def k1_off88 (i : grid1.Coords) (v666 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c22_i32 : BitVec 32 := 22#32
  let v685 : BitVec 32 := Scalar.addi v2 c22_i32
  let c0_i32_265 : BitVec 32 := 0#32
  let v668 : BitVec 1 := Scalar.cmpi .sgt v666 c0_i32_265
  let v669 : BitVec 32 := Scalar.extui v668
  let c0_i32_266 : BitVec 32 := 0#32
  let v670 : BitVec 1 := Scalar.cmpi .slt v666 c0_i32_266
  let v671 : BitVec 32 := Scalar.extui v670
  let v672 : BitVec 32 := Scalar.subi v669 v671
  let c16_i32_264 : BitVec 32 := 16#32
  let c0_i32_267 : BitVec 32 := 0#32
  let v673 : BitVec 1 := Scalar.cmpi .sgt c16_i32_264 c0_i32_267
  let v674 : BitVec 32 := Scalar.extui v673
  let c0_i32_268 : BitVec 32 := 0#32
  let v675 : BitVec 1 := Scalar.cmpi .slt c16_i32_264 c0_i32_268
  let v676 : BitVec 32 := Scalar.extui v675
  let v677 : BitVec 32 := Scalar.subi v674 v676
  let v678 : BitVec 1 := Scalar.cmpi .ne v672 v677
  let v679 : BitVec 32 := Scalar.remsi v666 c16_i32_264
  let c0_i32_269 : BitVec 32 := 0#32
  let v680 : BitVec 1 := Scalar.cmpi .ne v679 c0_i32_269
  let v681 : BitVec 1 := Scalar.andi v678 v680
  let v667 : BitVec 32 := Scalar.divsi v666 c16_i32_264
  let c1_i32_270 : BitVec 32 := 1#32
  let v682 : BitVec 32 := Scalar.subi v667 c1_i32_270
  let v683 : BitVec 32 := Scalar.select v681 v682 v667
  let c16_i32_271 : BitVec 32 := 16#32
  let v684 : BitVec 32 := Scalar.muli v683 c16_i32_271
  ![v685.toNat, v684.toNat]

def k1_chk23 (i : grid1.Coords) (v666 : BitVec 32) : Prop :=
  (∀ a, (k1_off24 i v666) a + S1x16.size a ≤ S2048x32000.size a) ∧
  (∀ a, (k1_off88 i v666) a + S1x16.size a ≤ S2048x32000.size a)
theorem k1_off24_inb : ∀ (i : grid1.Coords) (v666 : BitVec 32) (k1_hw23 : k1_chk23 i v666), ∀ a, (k1_off24 i v666) a + S1x16.size a ≤ S2048x32000.size a := fun i v666 k1_hw23 => k1_hw23.1
theorem k1_off88_inb : ∀ (i : grid1.Coords) (v666 : BitVec 32) (k1_hw23 : k1_chk23 i v666), ∀ a, (k1_off88 i v666) a + S1x16.size a ≤ S2048x32000.size a := fun i v666 k1_hw23 => k1_hw23.2

def k1_off89 (i : grid1.Coords) (v696 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c23_i32 : BitVec 32 := 23#32
  let v715 : BitVec 32 := Scalar.addi v2 c23_i32
  let c0_i32_277 : BitVec 32 := 0#32
  let v698 : BitVec 1 := Scalar.cmpi .sgt v696 c0_i32_277
  let v699 : BitVec 32 := Scalar.extui v698
  let c0_i32_278 : BitVec 32 := 0#32
  let v700 : BitVec 1 := Scalar.cmpi .slt v696 c0_i32_278
  let v701 : BitVec 32 := Scalar.extui v700
  let v702 : BitVec 32 := Scalar.subi v699 v701
  let c16_i32_276 : BitVec 32 := 16#32
  let c0_i32_279 : BitVec 32 := 0#32
  let v703 : BitVec 1 := Scalar.cmpi .sgt c16_i32_276 c0_i32_279
  let v704 : BitVec 32 := Scalar.extui v703
  let c0_i32_280 : BitVec 32 := 0#32
  let v705 : BitVec 1 := Scalar.cmpi .slt c16_i32_276 c0_i32_280
  let v706 : BitVec 32 := Scalar.extui v705
  let v707 : BitVec 32 := Scalar.subi v704 v706
  let v708 : BitVec 1 := Scalar.cmpi .ne v702 v707
  let v709 : BitVec 32 := Scalar.remsi v696 c16_i32_276
  let c0_i32_281 : BitVec 32 := 0#32
  let v710 : BitVec 1 := Scalar.cmpi .ne v709 c0_i32_281
  let v711 : BitVec 1 := Scalar.andi v708 v710
  let v697 : BitVec 32 := Scalar.divsi v696 c16_i32_276
  let c1_i32_282 : BitVec 32 := 1#32
  let v712 : BitVec 32 := Scalar.subi v697 c1_i32_282
  let v713 : BitVec 32 := Scalar.select v711 v712 v697
  let c16_i32_283 : BitVec 32 := 16#32
  let v714 : BitVec 32 := Scalar.muli v713 c16_i32_283
  ![v715.toNat, v714.toNat]

def k1_chk24 (i : grid1.Coords) (v696 : BitVec 32) : Prop :=
  (∀ a, (k1_off25 i v696) a + S1x16.size a ≤ S2048x32000.size a) ∧
  (∀ a, (k1_off89 i v696) a + S1x16.size a ≤ S2048x32000.size a)
theorem k1_off25_inb : ∀ (i : grid1.Coords) (v696 : BitVec 32) (k1_hw24 : k1_chk24 i v696), ∀ a, (k1_off25 i v696) a + S1x16.size a ≤ S2048x32000.size a := fun i v696 k1_hw24 => k1_hw24.1
theorem k1_off89_inb : ∀ (i : grid1.Coords) (v696 : BitVec 32) (k1_hw24 : k1_chk24 i v696), ∀ a, (k1_off89 i v696) a + S1x16.size a ≤ S2048x32000.size a := fun i v696 k1_hw24 => k1_hw24.2

def k1_off90 (i : grid1.Coords) (v726 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c24_i32 : BitVec 32 := 24#32
  let v745 : BitVec 32 := Scalar.addi v2 c24_i32
  let c0_i32_289 : BitVec 32 := 0#32
  let v728 : BitVec 1 := Scalar.cmpi .sgt v726 c0_i32_289
  let v729 : BitVec 32 := Scalar.extui v728
  let c0_i32_290 : BitVec 32 := 0#32
  let v730 : BitVec 1 := Scalar.cmpi .slt v726 c0_i32_290
  let v731 : BitVec 32 := Scalar.extui v730
  let v732 : BitVec 32 := Scalar.subi v729 v731
  let c16_i32_288 : BitVec 32 := 16#32
  let c0_i32_291 : BitVec 32 := 0#32
  let v733 : BitVec 1 := Scalar.cmpi .sgt c16_i32_288 c0_i32_291
  let v734 : BitVec 32 := Scalar.extui v733
  let c0_i32_292 : BitVec 32 := 0#32
  let v735 : BitVec 1 := Scalar.cmpi .slt c16_i32_288 c0_i32_292
  let v736 : BitVec 32 := Scalar.extui v735
  let v737 : BitVec 32 := Scalar.subi v734 v736
  let v738 : BitVec 1 := Scalar.cmpi .ne v732 v737
  let v739 : BitVec 32 := Scalar.remsi v726 c16_i32_288
  let c0_i32_293 : BitVec 32 := 0#32
  let v740 : BitVec 1 := Scalar.cmpi .ne v739 c0_i32_293
  let v741 : BitVec 1 := Scalar.andi v738 v740
  let v727 : BitVec 32 := Scalar.divsi v726 c16_i32_288
  let c1_i32_294 : BitVec 32 := 1#32
  let v742 : BitVec 32 := Scalar.subi v727 c1_i32_294
  let v743 : BitVec 32 := Scalar.select v741 v742 v727
  let c16_i32_295 : BitVec 32 := 16#32
  let v744 : BitVec 32 := Scalar.muli v743 c16_i32_295
  ![v745.toNat, v744.toNat]

def k1_chk25 (i : grid1.Coords) (v726 : BitVec 32) : Prop :=
  (∀ a, (k1_off26 i v726) a + S1x16.size a ≤ S2048x32000.size a) ∧
  (∀ a, (k1_off90 i v726) a + S1x16.size a ≤ S2048x32000.size a)
theorem k1_off26_inb : ∀ (i : grid1.Coords) (v726 : BitVec 32) (k1_hw25 : k1_chk25 i v726), ∀ a, (k1_off26 i v726) a + S1x16.size a ≤ S2048x32000.size a := fun i v726 k1_hw25 => k1_hw25.1
theorem k1_off90_inb : ∀ (i : grid1.Coords) (v726 : BitVec 32) (k1_hw25 : k1_chk25 i v726), ∀ a, (k1_off90 i v726) a + S1x16.size a ≤ S2048x32000.size a := fun i v726 k1_hw25 => k1_hw25.2

def k1_off91 (i : grid1.Coords) (v756 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c25_i32 : BitVec 32 := 25#32
  let v775 : BitVec 32 := Scalar.addi v2 c25_i32
  let c0_i32_301 : BitVec 32 := 0#32
  let v758 : BitVec 1 := Scalar.cmpi .sgt v756 c0_i32_301
  let v759 : BitVec 32 := Scalar.extui v758
  let c0_i32_302 : BitVec 32 := 0#32
  let v760 : BitVec 1 := Scalar.cmpi .slt v756 c0_i32_302
  let v761 : BitVec 32 := Scalar.extui v760
  let v762 : BitVec 32 := Scalar.subi v759 v761
  let c16_i32_300 : BitVec 32 := 16#32
  let c0_i32_303 : BitVec 32 := 0#32
  let v763 : BitVec 1 := Scalar.cmpi .sgt c16_i32_300 c0_i32_303
  let v764 : BitVec 32 := Scalar.extui v763
  let c0_i32_304 : BitVec 32 := 0#32
  let v765 : BitVec 1 := Scalar.cmpi .slt c16_i32_300 c0_i32_304
  let v766 : BitVec 32 := Scalar.extui v765
  let v767 : BitVec 32 := Scalar.subi v764 v766
  let v768 : BitVec 1 := Scalar.cmpi .ne v762 v767
  let v769 : BitVec 32 := Scalar.remsi v756 c16_i32_300
  let c0_i32_305 : BitVec 32 := 0#32
  let v770 : BitVec 1 := Scalar.cmpi .ne v769 c0_i32_305
  let v771 : BitVec 1 := Scalar.andi v768 v770
  let v757 : BitVec 32 := Scalar.divsi v756 c16_i32_300
  let c1_i32_306 : BitVec 32 := 1#32
  let v772 : BitVec 32 := Scalar.subi v757 c1_i32_306
  let v773 : BitVec 32 := Scalar.select v771 v772 v757
  let c16_i32_307 : BitVec 32 := 16#32
  let v774 : BitVec 32 := Scalar.muli v773 c16_i32_307
  ![v775.toNat, v774.toNat]

def k1_chk26 (i : grid1.Coords) (v756 : BitVec 32) : Prop :=
  (∀ a, (k1_off27 i v756) a + S1x16.size a ≤ S2048x32000.size a) ∧
  (∀ a, (k1_off91 i v756) a + S1x16.size a ≤ S2048x32000.size a)
theorem k1_off27_inb : ∀ (i : grid1.Coords) (v756 : BitVec 32) (k1_hw26 : k1_chk26 i v756), ∀ a, (k1_off27 i v756) a + S1x16.size a ≤ S2048x32000.size a := fun i v756 k1_hw26 => k1_hw26.1
theorem k1_off91_inb : ∀ (i : grid1.Coords) (v756 : BitVec 32) (k1_hw26 : k1_chk26 i v756), ∀ a, (k1_off91 i v756) a + S1x16.size a ≤ S2048x32000.size a := fun i v756 k1_hw26 => k1_hw26.2

def k1_off92 (i : grid1.Coords) (v786 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c26_i32 : BitVec 32 := 26#32
  let v805 : BitVec 32 := Scalar.addi v2 c26_i32
  let c0_i32_313 : BitVec 32 := 0#32
  let v788 : BitVec 1 := Scalar.cmpi .sgt v786 c0_i32_313
  let v789 : BitVec 32 := Scalar.extui v788
  let c0_i32_314 : BitVec 32 := 0#32
  let v790 : BitVec 1 := Scalar.cmpi .slt v786 c0_i32_314
  let v791 : BitVec 32 := Scalar.extui v790
  let v792 : BitVec 32 := Scalar.subi v789 v791
  let c16_i32_312 : BitVec 32 := 16#32
  let c0_i32_315 : BitVec 32 := 0#32
  let v793 : BitVec 1 := Scalar.cmpi .sgt c16_i32_312 c0_i32_315
  let v794 : BitVec 32 := Scalar.extui v793
  let c0_i32_316 : BitVec 32 := 0#32
  let v795 : BitVec 1 := Scalar.cmpi .slt c16_i32_312 c0_i32_316
  let v796 : BitVec 32 := Scalar.extui v795
  let v797 : BitVec 32 := Scalar.subi v794 v796
  let v798 : BitVec 1 := Scalar.cmpi .ne v792 v797
  let v799 : BitVec 32 := Scalar.remsi v786 c16_i32_312
  let c0_i32_317 : BitVec 32 := 0#32
  let v800 : BitVec 1 := Scalar.cmpi .ne v799 c0_i32_317
  let v801 : BitVec 1 := Scalar.andi v798 v800
  let v787 : BitVec 32 := Scalar.divsi v786 c16_i32_312
  let c1_i32_318 : BitVec 32 := 1#32
  let v802 : BitVec 32 := Scalar.subi v787 c1_i32_318
  let v803 : BitVec 32 := Scalar.select v801 v802 v787
  let c16_i32_319 : BitVec 32 := 16#32
  let v804 : BitVec 32 := Scalar.muli v803 c16_i32_319
  ![v805.toNat, v804.toNat]

def k1_chk27 (i : grid1.Coords) (v786 : BitVec 32) : Prop :=
  (∀ a, (k1_off28 i v786) a + S1x16.size a ≤ S2048x32000.size a) ∧
  (∀ a, (k1_off92 i v786) a + S1x16.size a ≤ S2048x32000.size a)
theorem k1_off28_inb : ∀ (i : grid1.Coords) (v786 : BitVec 32) (k1_hw27 : k1_chk27 i v786), ∀ a, (k1_off28 i v786) a + S1x16.size a ≤ S2048x32000.size a := fun i v786 k1_hw27 => k1_hw27.1
theorem k1_off92_inb : ∀ (i : grid1.Coords) (v786 : BitVec 32) (k1_hw27 : k1_chk27 i v786), ∀ a, (k1_off92 i v786) a + S1x16.size a ≤ S2048x32000.size a := fun i v786 k1_hw27 => k1_hw27.2

def k1_off93 (i : grid1.Coords) (v816 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c27_i32 : BitVec 32 := 27#32
  let v835 : BitVec 32 := Scalar.addi v2 c27_i32
  let c0_i32_325 : BitVec 32 := 0#32
  let v818 : BitVec 1 := Scalar.cmpi .sgt v816 c0_i32_325
  let v819 : BitVec 32 := Scalar.extui v818
  let c0_i32_326 : BitVec 32 := 0#32
  let v820 : BitVec 1 := Scalar.cmpi .slt v816 c0_i32_326
  let v821 : BitVec 32 := Scalar.extui v820
  let v822 : BitVec 32 := Scalar.subi v819 v821
  let c16_i32_324 : BitVec 32 := 16#32
  let c0_i32_327 : BitVec 32 := 0#32
  let v823 : BitVec 1 := Scalar.cmpi .sgt c16_i32_324 c0_i32_327
  let v824 : BitVec 32 := Scalar.extui v823
  let c0_i32_328 : BitVec 32 := 0#32
  let v825 : BitVec 1 := Scalar.cmpi .slt c16_i32_324 c0_i32_328
  let v826 : BitVec 32 := Scalar.extui v825
  let v827 : BitVec 32 := Scalar.subi v824 v826
  let v828 : BitVec 1 := Scalar.cmpi .ne v822 v827
  let v829 : BitVec 32 := Scalar.remsi v816 c16_i32_324
  let c0_i32_329 : BitVec 32 := 0#32
  let v830 : BitVec 1 := Scalar.cmpi .ne v829 c0_i32_329
  let v831 : BitVec 1 := Scalar.andi v828 v830
  let v817 : BitVec 32 := Scalar.divsi v816 c16_i32_324
  let c1_i32_330 : BitVec 32 := 1#32
  let v832 : BitVec 32 := Scalar.subi v817 c1_i32_330
  let v833 : BitVec 32 := Scalar.select v831 v832 v817
  let c16_i32_331 : BitVec 32 := 16#32
  let v834 : BitVec 32 := Scalar.muli v833 c16_i32_331
  ![v835.toNat, v834.toNat]

def k1_chk28 (i : grid1.Coords) (v816 : BitVec 32) : Prop :=
  (∀ a, (k1_off29 i v816) a + S1x16.size a ≤ S2048x32000.size a) ∧
  (∀ a, (k1_off93 i v816) a + S1x16.size a ≤ S2048x32000.size a)
theorem k1_off29_inb : ∀ (i : grid1.Coords) (v816 : BitVec 32) (k1_hw28 : k1_chk28 i v816), ∀ a, (k1_off29 i v816) a + S1x16.size a ≤ S2048x32000.size a := fun i v816 k1_hw28 => k1_hw28.1
theorem k1_off93_inb : ∀ (i : grid1.Coords) (v816 : BitVec 32) (k1_hw28 : k1_chk28 i v816), ∀ a, (k1_off93 i v816) a + S1x16.size a ≤ S2048x32000.size a := fun i v816 k1_hw28 => k1_hw28.2

def k1_off94 (i : grid1.Coords) (v846 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c28_i32 : BitVec 32 := 28#32
  let v865 : BitVec 32 := Scalar.addi v2 c28_i32
  let c0_i32_337 : BitVec 32 := 0#32
  let v848 : BitVec 1 := Scalar.cmpi .sgt v846 c0_i32_337
  let v849 : BitVec 32 := Scalar.extui v848
  let c0_i32_338 : BitVec 32 := 0#32
  let v850 : BitVec 1 := Scalar.cmpi .slt v846 c0_i32_338
  let v851 : BitVec 32 := Scalar.extui v850
  let v852 : BitVec 32 := Scalar.subi v849 v851
  let c16_i32_336 : BitVec 32 := 16#32
  let c0_i32_339 : BitVec 32 := 0#32
  let v853 : BitVec 1 := Scalar.cmpi .sgt c16_i32_336 c0_i32_339
  let v854 : BitVec 32 := Scalar.extui v853
  let c0_i32_340 : BitVec 32 := 0#32
  let v855 : BitVec 1 := Scalar.cmpi .slt c16_i32_336 c0_i32_340
  let v856 : BitVec 32 := Scalar.extui v855
  let v857 : BitVec 32 := Scalar.subi v854 v856
  let v858 : BitVec 1 := Scalar.cmpi .ne v852 v857
  let v859 : BitVec 32 := Scalar.remsi v846 c16_i32_336
  let c0_i32_341 : BitVec 32 := 0#32
  let v860 : BitVec 1 := Scalar.cmpi .ne v859 c0_i32_341
  let v861 : BitVec 1 := Scalar.andi v858 v860
  let v847 : BitVec 32 := Scalar.divsi v846 c16_i32_336
  let c1_i32_342 : BitVec 32 := 1#32
  let v862 : BitVec 32 := Scalar.subi v847 c1_i32_342
  let v863 : BitVec 32 := Scalar.select v861 v862 v847
  let c16_i32_343 : BitVec 32 := 16#32
  let v864 : BitVec 32 := Scalar.muli v863 c16_i32_343
  ![v865.toNat, v864.toNat]

def k1_chk29 (i : grid1.Coords) (v846 : BitVec 32) : Prop :=
  (∀ a, (k1_off30 i v846) a + S1x16.size a ≤ S2048x32000.size a) ∧
  (∀ a, (k1_off94 i v846) a + S1x16.size a ≤ S2048x32000.size a)
theorem k1_off30_inb : ∀ (i : grid1.Coords) (v846 : BitVec 32) (k1_hw29 : k1_chk29 i v846), ∀ a, (k1_off30 i v846) a + S1x16.size a ≤ S2048x32000.size a := fun i v846 k1_hw29 => k1_hw29.1
theorem k1_off94_inb : ∀ (i : grid1.Coords) (v846 : BitVec 32) (k1_hw29 : k1_chk29 i v846), ∀ a, (k1_off94 i v846) a + S1x16.size a ≤ S2048x32000.size a := fun i v846 k1_hw29 => k1_hw29.2

def k1_off95 (i : grid1.Coords) (v876 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c29_i32 : BitVec 32 := 29#32
  let v895 : BitVec 32 := Scalar.addi v2 c29_i32
  let c0_i32_349 : BitVec 32 := 0#32
  let v878 : BitVec 1 := Scalar.cmpi .sgt v876 c0_i32_349
  let v879 : BitVec 32 := Scalar.extui v878
  let c0_i32_350 : BitVec 32 := 0#32
  let v880 : BitVec 1 := Scalar.cmpi .slt v876 c0_i32_350
  let v881 : BitVec 32 := Scalar.extui v880
  let v882 : BitVec 32 := Scalar.subi v879 v881
  let c16_i32_348 : BitVec 32 := 16#32
  let c0_i32_351 : BitVec 32 := 0#32
  let v883 : BitVec 1 := Scalar.cmpi .sgt c16_i32_348 c0_i32_351
  let v884 : BitVec 32 := Scalar.extui v883
  let c0_i32_352 : BitVec 32 := 0#32
  let v885 : BitVec 1 := Scalar.cmpi .slt c16_i32_348 c0_i32_352
  let v886 : BitVec 32 := Scalar.extui v885
  let v887 : BitVec 32 := Scalar.subi v884 v886
  let v888 : BitVec 1 := Scalar.cmpi .ne v882 v887
  let v889 : BitVec 32 := Scalar.remsi v876 c16_i32_348
  let c0_i32_353 : BitVec 32 := 0#32
  let v890 : BitVec 1 := Scalar.cmpi .ne v889 c0_i32_353
  let v891 : BitVec 1 := Scalar.andi v888 v890
  let v877 : BitVec 32 := Scalar.divsi v876 c16_i32_348
  let c1_i32_354 : BitVec 32 := 1#32
  let v892 : BitVec 32 := Scalar.subi v877 c1_i32_354
  let v893 : BitVec 32 := Scalar.select v891 v892 v877
  let c16_i32_355 : BitVec 32 := 16#32
  let v894 : BitVec 32 := Scalar.muli v893 c16_i32_355
  ![v895.toNat, v894.toNat]

def k1_chk30 (i : grid1.Coords) (v876 : BitVec 32) : Prop :=
  (∀ a, (k1_off31 i v876) a + S1x16.size a ≤ S2048x32000.size a) ∧
  (∀ a, (k1_off95 i v876) a + S1x16.size a ≤ S2048x32000.size a)
theorem k1_off31_inb : ∀ (i : grid1.Coords) (v876 : BitVec 32) (k1_hw30 : k1_chk30 i v876), ∀ a, (k1_off31 i v876) a + S1x16.size a ≤ S2048x32000.size a := fun i v876 k1_hw30 => k1_hw30.1
theorem k1_off95_inb : ∀ (i : grid1.Coords) (v876 : BitVec 32) (k1_hw30 : k1_chk30 i v876), ∀ a, (k1_off95 i v876) a + S1x16.size a ≤ S2048x32000.size a := fun i v876 k1_hw30 => k1_hw30.2

def k1_off96 (i : grid1.Coords) (v906 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c30_i32 : BitVec 32 := 30#32
  let v925 : BitVec 32 := Scalar.addi v2 c30_i32
  let c0_i32_361 : BitVec 32 := 0#32
  let v908 : BitVec 1 := Scalar.cmpi .sgt v906 c0_i32_361
  let v909 : BitVec 32 := Scalar.extui v908
  let c0_i32_362 : BitVec 32 := 0#32
  let v910 : BitVec 1 := Scalar.cmpi .slt v906 c0_i32_362
  let v911 : BitVec 32 := Scalar.extui v910
  let v912 : BitVec 32 := Scalar.subi v909 v911
  let c16_i32_360 : BitVec 32 := 16#32
  let c0_i32_363 : BitVec 32 := 0#32
  let v913 : BitVec 1 := Scalar.cmpi .sgt c16_i32_360 c0_i32_363
  let v914 : BitVec 32 := Scalar.extui v913
  let c0_i32_364 : BitVec 32 := 0#32
  let v915 : BitVec 1 := Scalar.cmpi .slt c16_i32_360 c0_i32_364
  let v916 : BitVec 32 := Scalar.extui v915
  let v917 : BitVec 32 := Scalar.subi v914 v916
  let v918 : BitVec 1 := Scalar.cmpi .ne v912 v917
  let v919 : BitVec 32 := Scalar.remsi v906 c16_i32_360
  let c0_i32_365 : BitVec 32 := 0#32
  let v920 : BitVec 1 := Scalar.cmpi .ne v919 c0_i32_365
  let v921 : BitVec 1 := Scalar.andi v918 v920
  let v907 : BitVec 32 := Scalar.divsi v906 c16_i32_360
  let c1_i32_366 : BitVec 32 := 1#32
  let v922 : BitVec 32 := Scalar.subi v907 c1_i32_366
  let v923 : BitVec 32 := Scalar.select v921 v922 v907
  let c16_i32_367 : BitVec 32 := 16#32
  let v924 : BitVec 32 := Scalar.muli v923 c16_i32_367
  ![v925.toNat, v924.toNat]

def k1_chk31 (i : grid1.Coords) (v906 : BitVec 32) : Prop :=
  (∀ a, (k1_off32 i v906) a + S1x16.size a ≤ S2048x32000.size a) ∧
  (∀ a, (k1_off96 i v906) a + S1x16.size a ≤ S2048x32000.size a)
theorem k1_off32_inb : ∀ (i : grid1.Coords) (v906 : BitVec 32) (k1_hw31 : k1_chk31 i v906), ∀ a, (k1_off32 i v906) a + S1x16.size a ≤ S2048x32000.size a := fun i v906 k1_hw31 => k1_hw31.1
theorem k1_off96_inb : ∀ (i : grid1.Coords) (v906 : BitVec 32) (k1_hw31 : k1_chk31 i v906), ∀ a, (k1_off96 i v906) a + S1x16.size a ≤ S2048x32000.size a := fun i v906 k1_hw31 => k1_hw31.2

def k1_off97 (i : grid1.Coords) (v936 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c31_i32 : BitVec 32 := 31#32
  let v955 : BitVec 32 := Scalar.addi v2 c31_i32
  let c0_i32_373 : BitVec 32 := 0#32
  let v938 : BitVec 1 := Scalar.cmpi .sgt v936 c0_i32_373
  let v939 : BitVec 32 := Scalar.extui v938
  let c0_i32_374 : BitVec 32 := 0#32
  let v940 : BitVec 1 := Scalar.cmpi .slt v936 c0_i32_374
  let v941 : BitVec 32 := Scalar.extui v940
  let v942 : BitVec 32 := Scalar.subi v939 v941
  let c16_i32_372 : BitVec 32 := 16#32
  let c0_i32_375 : BitVec 32 := 0#32
  let v943 : BitVec 1 := Scalar.cmpi .sgt c16_i32_372 c0_i32_375
  let v944 : BitVec 32 := Scalar.extui v943
  let c0_i32_376 : BitVec 32 := 0#32
  let v945 : BitVec 1 := Scalar.cmpi .slt c16_i32_372 c0_i32_376
  let v946 : BitVec 32 := Scalar.extui v945
  let v947 : BitVec 32 := Scalar.subi v944 v946
  let v948 : BitVec 1 := Scalar.cmpi .ne v942 v947
  let v949 : BitVec 32 := Scalar.remsi v936 c16_i32_372
  let c0_i32_377 : BitVec 32 := 0#32
  let v950 : BitVec 1 := Scalar.cmpi .ne v949 c0_i32_377
  let v951 : BitVec 1 := Scalar.andi v948 v950
  let v937 : BitVec 32 := Scalar.divsi v936 c16_i32_372
  let c1_i32_378 : BitVec 32 := 1#32
  let v952 : BitVec 32 := Scalar.subi v937 c1_i32_378
  let v953 : BitVec 32 := Scalar.select v951 v952 v937
  let c16_i32_379 : BitVec 32 := 16#32
  let v954 : BitVec 32 := Scalar.muli v953 c16_i32_379
  ![v955.toNat, v954.toNat]

def k1_chk32 (i : grid1.Coords) (v936 : BitVec 32) : Prop :=
  (∀ a, (k1_off33 i v936) a + S1x16.size a ≤ S2048x32000.size a) ∧
  (∀ a, (k1_off97 i v936) a + S1x16.size a ≤ S2048x32000.size a)
theorem k1_off33_inb : ∀ (i : grid1.Coords) (v936 : BitVec 32) (k1_hw32 : k1_chk32 i v936), ∀ a, (k1_off33 i v936) a + S1x16.size a ≤ S2048x32000.size a := fun i v936 k1_hw32 => k1_hw32.1
theorem k1_off97_inb : ∀ (i : grid1.Coords) (v936 : BitVec 32) (k1_hw32 : k1_chk32 i v936), ∀ a, (k1_off97 i v936) a + S1x16.size a ≤ S2048x32000.size a := fun i v936 k1_hw32 => k1_hw32.2

def k1_off98 (i : grid1.Coords) (v966 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v985 : BitVec 32 := Scalar.addi v2 c32_i32
  let c0_i32_384 : BitVec 32 := 0#32
  let v968 : BitVec 1 := Scalar.cmpi .sgt v966 c0_i32_384
  let v969 : BitVec 32 := Scalar.extui v968
  let c0_i32_385 : BitVec 32 := 0#32
  let v970 : BitVec 1 := Scalar.cmpi .slt v966 c0_i32_385
  let v971 : BitVec 32 := Scalar.extui v970
  let v972 : BitVec 32 := Scalar.subi v969 v971
  let c16_i32_383 : BitVec 32 := 16#32
  let c0_i32_386 : BitVec 32 := 0#32
  let v973 : BitVec 1 := Scalar.cmpi .sgt c16_i32_383 c0_i32_386
  let v974 : BitVec 32 := Scalar.extui v973
  let c0_i32_387 : BitVec 32 := 0#32
  let v975 : BitVec 1 := Scalar.cmpi .slt c16_i32_383 c0_i32_387
  let v976 : BitVec 32 := Scalar.extui v975
  let v977 : BitVec 32 := Scalar.subi v974 v976
  let v978 : BitVec 1 := Scalar.cmpi .ne v972 v977
  let v979 : BitVec 32 := Scalar.remsi v966 c16_i32_383
  let c0_i32_388 : BitVec 32 := 0#32
  let v980 : BitVec 1 := Scalar.cmpi .ne v979 c0_i32_388
  let v981 : BitVec 1 := Scalar.andi v978 v980
  let v967 : BitVec 32 := Scalar.divsi v966 c16_i32_383
  let c1_i32_389 : BitVec 32 := 1#32
  let v982 : BitVec 32 := Scalar.subi v967 c1_i32_389
  let v983 : BitVec 32 := Scalar.select v981 v982 v967
  let c16_i32_390 : BitVec 32 := 16#32
  let v984 : BitVec 32 := Scalar.muli v983 c16_i32_390
  ![v985.toNat, v984.toNat]

def k1_chk33 (i : grid1.Coords) (v966 : BitVec 32) : Prop :=
  (∀ a, (k1_off34 i v966) a + S1x16.size a ≤ S2048x32000.size a) ∧
  (∀ a, (k1_off98 i v966) a + S1x16.size a ≤ S2048x32000.size a)
theorem k1_off34_inb : ∀ (i : grid1.Coords) (v966 : BitVec 32) (k1_hw33 : k1_chk33 i v966), ∀ a, (k1_off34 i v966) a + S1x16.size a ≤ S2048x32000.size a := fun i v966 k1_hw33 => k1_hw33.1
theorem k1_off98_inb : ∀ (i : grid1.Coords) (v966 : BitVec 32) (k1_hw33 : k1_chk33 i v966), ∀ a, (k1_off98 i v966) a + S1x16.size a ≤ S2048x32000.size a := fun i v966 k1_hw33 => k1_hw33.2

def k1_off99 (i : grid1.Coords) (v996 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c33_i32 : BitVec 32 := 33#32
  let v1015 : BitVec 32 := Scalar.addi v2 c33_i32
  let c0_i32_396 : BitVec 32 := 0#32
  let v998 : BitVec 1 := Scalar.cmpi .sgt v996 c0_i32_396
  let v999 : BitVec 32 := Scalar.extui v998
  let c0_i32_397 : BitVec 32 := 0#32
  let v1000 : BitVec 1 := Scalar.cmpi .slt v996 c0_i32_397
  let v1001 : BitVec 32 := Scalar.extui v1000
  let v1002 : BitVec 32 := Scalar.subi v999 v1001
  let c16_i32_395 : BitVec 32 := 16#32
  let c0_i32_398 : BitVec 32 := 0#32
  let v1003 : BitVec 1 := Scalar.cmpi .sgt c16_i32_395 c0_i32_398
  let v1004 : BitVec 32 := Scalar.extui v1003
  let c0_i32_399 : BitVec 32 := 0#32
  let v1005 : BitVec 1 := Scalar.cmpi .slt c16_i32_395 c0_i32_399
  let v1006 : BitVec 32 := Scalar.extui v1005
  let v1007 : BitVec 32 := Scalar.subi v1004 v1006
  let v1008 : BitVec 1 := Scalar.cmpi .ne v1002 v1007
  let v1009 : BitVec 32 := Scalar.remsi v996 c16_i32_395
  let c0_i32_400 : BitVec 32 := 0#32
  let v1010 : BitVec 1 := Scalar.cmpi .ne v1009 c0_i32_400
  let v1011 : BitVec 1 := Scalar.andi v1008 v1010
  let v997 : BitVec 32 := Scalar.divsi v996 c16_i32_395
  let c1_i32_401 : BitVec 32 := 1#32
  let v1012 : BitVec 32 := Scalar.subi v997 c1_i32_401
  let v1013 : BitVec 32 := Scalar.select v1011 v1012 v997
  let c16_i32_402 : BitVec 32 := 16#32
  let v1014 : BitVec 32 := Scalar.muli v1013 c16_i32_402
  ![v1015.toNat, v1014.toNat]

def k1_chk34 (i : grid1.Coords) (v996 : BitVec 32) : Prop :=
  (∀ a, (k1_off35 i v996) a + S1x16.size a ≤ S2048x32000.size a) ∧
  (∀ a, (k1_off99 i v996) a + S1x16.size a ≤ S2048x32000.size a)
theorem k1_off35_inb : ∀ (i : grid1.Coords) (v996 : BitVec 32) (k1_hw34 : k1_chk34 i v996), ∀ a, (k1_off35 i v996) a + S1x16.size a ≤ S2048x32000.size a := fun i v996 k1_hw34 => k1_hw34.1
theorem k1_off99_inb : ∀ (i : grid1.Coords) (v996 : BitVec 32) (k1_hw34 : k1_chk34 i v996), ∀ a, (k1_off99 i v996) a + S1x16.size a ≤ S2048x32000.size a := fun i v996 k1_hw34 => k1_hw34.2

def k1_off100 (i : grid1.Coords) (v1026 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c34_i32 : BitVec 32 := 34#32
  let v1045 : BitVec 32 := Scalar.addi v2 c34_i32
  let c0_i32_408 : BitVec 32 := 0#32
  let v1028 : BitVec 1 := Scalar.cmpi .sgt v1026 c0_i32_408
  let v1029 : BitVec 32 := Scalar.extui v1028
  let c0_i32_409 : BitVec 32 := 0#32
  let v1030 : BitVec 1 := Scalar.cmpi .slt v1026 c0_i32_409
  let v1031 : BitVec 32 := Scalar.extui v1030
  let v1032 : BitVec 32 := Scalar.subi v1029 v1031
  let c16_i32_407 : BitVec 32 := 16#32
  let c0_i32_410 : BitVec 32 := 0#32
  let v1033 : BitVec 1 := Scalar.cmpi .sgt c16_i32_407 c0_i32_410
  let v1034 : BitVec 32 := Scalar.extui v1033
  let c0_i32_411 : BitVec 32 := 0#32
  let v1035 : BitVec 1 := Scalar.cmpi .slt c16_i32_407 c0_i32_411
  let v1036 : BitVec 32 := Scalar.extui v1035
  let v1037 : BitVec 32 := Scalar.subi v1034 v1036
  let v1038 : BitVec 1 := Scalar.cmpi .ne v1032 v1037
  let v1039 : BitVec 32 := Scalar.remsi v1026 c16_i32_407
  let c0_i32_412 : BitVec 32 := 0#32
  let v1040 : BitVec 1 := Scalar.cmpi .ne v1039 c0_i32_412
  let v1041 : BitVec 1 := Scalar.andi v1038 v1040
  let v1027 : BitVec 32 := Scalar.divsi v1026 c16_i32_407
  let c1_i32_413 : BitVec 32 := 1#32
  let v1042 : BitVec 32 := Scalar.subi v1027 c1_i32_413
  let v1043 : BitVec 32 := Scalar.select v1041 v1042 v1027
  let c16_i32_414 : BitVec 32 := 16#32
  let v1044 : BitVec 32 := Scalar.muli v1043 c16_i32_414
  ![v1045.toNat, v1044.toNat]

def k1_chk35 (i : grid1.Coords) (v1026 : BitVec 32) : Prop :=
  (∀ a, (k1_off36 i v1026) a + S1x16.size a ≤ S2048x32000.size a) ∧
  (∀ a, (k1_off100 i v1026) a + S1x16.size a ≤ S2048x32000.size a)
theorem k1_off36_inb : ∀ (i : grid1.Coords) (v1026 : BitVec 32) (k1_hw35 : k1_chk35 i v1026), ∀ a, (k1_off36 i v1026) a + S1x16.size a ≤ S2048x32000.size a := fun i v1026 k1_hw35 => k1_hw35.1
theorem k1_off100_inb : ∀ (i : grid1.Coords) (v1026 : BitVec 32) (k1_hw35 : k1_chk35 i v1026), ∀ a, (k1_off100 i v1026) a + S1x16.size a ≤ S2048x32000.size a := fun i v1026 k1_hw35 => k1_hw35.2

def k1_off101 (i : grid1.Coords) (v1056 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c35_i32 : BitVec 32 := 35#32
  let v1075 : BitVec 32 := Scalar.addi v2 c35_i32
  let c0_i32_420 : BitVec 32 := 0#32
  let v1058 : BitVec 1 := Scalar.cmpi .sgt v1056 c0_i32_420
  let v1059 : BitVec 32 := Scalar.extui v1058
  let c0_i32_421 : BitVec 32 := 0#32
  let v1060 : BitVec 1 := Scalar.cmpi .slt v1056 c0_i32_421
  let v1061 : BitVec 32 := Scalar.extui v1060
  let v1062 : BitVec 32 := Scalar.subi v1059 v1061
  let c16_i32_419 : BitVec 32 := 16#32
  let c0_i32_422 : BitVec 32 := 0#32
  let v1063 : BitVec 1 := Scalar.cmpi .sgt c16_i32_419 c0_i32_422
  let v1064 : BitVec 32 := Scalar.extui v1063
  let c0_i32_423 : BitVec 32 := 0#32
  let v1065 : BitVec 1 := Scalar.cmpi .slt c16_i32_419 c0_i32_423
  let v1066 : BitVec 32 := Scalar.extui v1065
  let v1067 : BitVec 32 := Scalar.subi v1064 v1066
  let v1068 : BitVec 1 := Scalar.cmpi .ne v1062 v1067
  let v1069 : BitVec 32 := Scalar.remsi v1056 c16_i32_419
  let c0_i32_424 : BitVec 32 := 0#32
  let v1070 : BitVec 1 := Scalar.cmpi .ne v1069 c0_i32_424
  let v1071 : BitVec 1 := Scalar.andi v1068 v1070
  let v1057 : BitVec 32 := Scalar.divsi v1056 c16_i32_419
  let c1_i32_425 : BitVec 32 := 1#32
  let v1072 : BitVec 32 := Scalar.subi v1057 c1_i32_425
  let v1073 : BitVec 32 := Scalar.select v1071 v1072 v1057
  let c16_i32_426 : BitVec 32 := 16#32
  let v1074 : BitVec 32 := Scalar.muli v1073 c16_i32_426
  ![v1075.toNat, v1074.toNat]

def k1_chk36 (i : grid1.Coords) (v1056 : BitVec 32) : Prop :=
  (∀ a, (k1_off37 i v1056) a + S1x16.size a ≤ S2048x32000.size a) ∧
  (∀ a, (k1_off101 i v1056) a + S1x16.size a ≤ S2048x32000.size a)
theorem k1_off37_inb : ∀ (i : grid1.Coords) (v1056 : BitVec 32) (k1_hw36 : k1_chk36 i v1056), ∀ a, (k1_off37 i v1056) a + S1x16.size a ≤ S2048x32000.size a := fun i v1056 k1_hw36 => k1_hw36.1
theorem k1_off101_inb : ∀ (i : grid1.Coords) (v1056 : BitVec 32) (k1_hw36 : k1_chk36 i v1056), ∀ a, (k1_off101 i v1056) a + S1x16.size a ≤ S2048x32000.size a := fun i v1056 k1_hw36 => k1_hw36.2

def k1_off102 (i : grid1.Coords) (v1086 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c36_i32 : BitVec 32 := 36#32
  let v1105 : BitVec 32 := Scalar.addi v2 c36_i32
  let c0_i32_432 : BitVec 32 := 0#32
  let v1088 : BitVec 1 := Scalar.cmpi .sgt v1086 c0_i32_432
  let v1089 : BitVec 32 := Scalar.extui v1088
  let c0_i32_433 : BitVec 32 := 0#32
  let v1090 : BitVec 1 := Scalar.cmpi .slt v1086 c0_i32_433
  let v1091 : BitVec 32 := Scalar.extui v1090
  let v1092 : BitVec 32 := Scalar.subi v1089 v1091
  let c16_i32_431 : BitVec 32 := 16#32
  let c0_i32_434 : BitVec 32 := 0#32
  let v1093 : BitVec 1 := Scalar.cmpi .sgt c16_i32_431 c0_i32_434
  let v1094 : BitVec 32 := Scalar.extui v1093
  let c0_i32_435 : BitVec 32 := 0#32
  let v1095 : BitVec 1 := Scalar.cmpi .slt c16_i32_431 c0_i32_435
  let v1096 : BitVec 32 := Scalar.extui v1095
  let v1097 : BitVec 32 := Scalar.subi v1094 v1096
  let v1098 : BitVec 1 := Scalar.cmpi .ne v1092 v1097
  let v1099 : BitVec 32 := Scalar.remsi v1086 c16_i32_431
  let c0_i32_436 : BitVec 32 := 0#32
  let v1100 : BitVec 1 := Scalar.cmpi .ne v1099 c0_i32_436
  let v1101 : BitVec 1 := Scalar.andi v1098 v1100
  let v1087 : BitVec 32 := Scalar.divsi v1086 c16_i32_431
  let c1_i32_437 : BitVec 32 := 1#32
  let v1102 : BitVec 32 := Scalar.subi v1087 c1_i32_437
  let v1103 : BitVec 32 := Scalar.select v1101 v1102 v1087
  let c16_i32_438 : BitVec 32 := 16#32
  let v1104 : BitVec 32 := Scalar.muli v1103 c16_i32_438
  ![v1105.toNat, v1104.toNat]

def k1_chk37 (i : grid1.Coords) (v1086 : BitVec 32) : Prop :=
  (∀ a, (k1_off38 i v1086) a + S1x16.size a ≤ S2048x32000.size a) ∧
  (∀ a, (k1_off102 i v1086) a + S1x16.size a ≤ S2048x32000.size a)
theorem k1_off38_inb : ∀ (i : grid1.Coords) (v1086 : BitVec 32) (k1_hw37 : k1_chk37 i v1086), ∀ a, (k1_off38 i v1086) a + S1x16.size a ≤ S2048x32000.size a := fun i v1086 k1_hw37 => k1_hw37.1
theorem k1_off102_inb : ∀ (i : grid1.Coords) (v1086 : BitVec 32) (k1_hw37 : k1_chk37 i v1086), ∀ a, (k1_off102 i v1086) a + S1x16.size a ≤ S2048x32000.size a := fun i v1086 k1_hw37 => k1_hw37.2

def k1_off103 (i : grid1.Coords) (v1116 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c37_i32 : BitVec 32 := 37#32
  let v1135 : BitVec 32 := Scalar.addi v2 c37_i32
  let c0_i32_444 : BitVec 32 := 0#32
  let v1118 : BitVec 1 := Scalar.cmpi .sgt v1116 c0_i32_444
  let v1119 : BitVec 32 := Scalar.extui v1118
  let c0_i32_445 : BitVec 32 := 0#32
  let v1120 : BitVec 1 := Scalar.cmpi .slt v1116 c0_i32_445
  let v1121 : BitVec 32 := Scalar.extui v1120
  let v1122 : BitVec 32 := Scalar.subi v1119 v1121
  let c16_i32_443 : BitVec 32 := 16#32
  let c0_i32_446 : BitVec 32 := 0#32
  let v1123 : BitVec 1 := Scalar.cmpi .sgt c16_i32_443 c0_i32_446
  let v1124 : BitVec 32 := Scalar.extui v1123
  let c0_i32_447 : BitVec 32 := 0#32
  let v1125 : BitVec 1 := Scalar.cmpi .slt c16_i32_443 c0_i32_447
  let v1126 : BitVec 32 := Scalar.extui v1125
  let v1127 : BitVec 32 := Scalar.subi v1124 v1126
  let v1128 : BitVec 1 := Scalar.cmpi .ne v1122 v1127
  let v1129 : BitVec 32 := Scalar.remsi v1116 c16_i32_443
  let c0_i32_448 : BitVec 32 := 0#32
  let v1130 : BitVec 1 := Scalar.cmpi .ne v1129 c0_i32_448
  let v1131 : BitVec 1 := Scalar.andi v1128 v1130
  let v1117 : BitVec 32 := Scalar.divsi v1116 c16_i32_443
  let c1_i32_449 : BitVec 32 := 1#32
  let v1132 : BitVec 32 := Scalar.subi v1117 c1_i32_449
  let v1133 : BitVec 32 := Scalar.select v1131 v1132 v1117
  let c16_i32_450 : BitVec 32 := 16#32
  let v1134 : BitVec 32 := Scalar.muli v1133 c16_i32_450
  ![v1135.toNat, v1134.toNat]

def k1_chk38 (i : grid1.Coords) (v1116 : BitVec 32) : Prop :=
  (∀ a, (k1_off39 i v1116) a + S1x16.size a ≤ S2048x32000.size a) ∧
  (∀ a, (k1_off103 i v1116) a + S1x16.size a ≤ S2048x32000.size a)
theorem k1_off39_inb : ∀ (i : grid1.Coords) (v1116 : BitVec 32) (k1_hw38 : k1_chk38 i v1116), ∀ a, (k1_off39 i v1116) a + S1x16.size a ≤ S2048x32000.size a := fun i v1116 k1_hw38 => k1_hw38.1
theorem k1_off103_inb : ∀ (i : grid1.Coords) (v1116 : BitVec 32) (k1_hw38 : k1_chk38 i v1116), ∀ a, (k1_off103 i v1116) a + S1x16.size a ≤ S2048x32000.size a := fun i v1116 k1_hw38 => k1_hw38.2

def k1_off104 (i : grid1.Coords) (v1146 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c38_i32 : BitVec 32 := 38#32
  let v1165 : BitVec 32 := Scalar.addi v2 c38_i32
  let c0_i32_456 : BitVec 32 := 0#32
  let v1148 : BitVec 1 := Scalar.cmpi .sgt v1146 c0_i32_456
  let v1149 : BitVec 32 := Scalar.extui v1148
  let c0_i32_457 : BitVec 32 := 0#32
  let v1150 : BitVec 1 := Scalar.cmpi .slt v1146 c0_i32_457
  let v1151 : BitVec 32 := Scalar.extui v1150
  let v1152 : BitVec 32 := Scalar.subi v1149 v1151
  let c16_i32_455 : BitVec 32 := 16#32
  let c0_i32_458 : BitVec 32 := 0#32
  let v1153 : BitVec 1 := Scalar.cmpi .sgt c16_i32_455 c0_i32_458
  let v1154 : BitVec 32 := Scalar.extui v1153
  let c0_i32_459 : BitVec 32 := 0#32
  let v1155 : BitVec 1 := Scalar.cmpi .slt c16_i32_455 c0_i32_459
  let v1156 : BitVec 32 := Scalar.extui v1155
  let v1157 : BitVec 32 := Scalar.subi v1154 v1156
  let v1158 : BitVec 1 := Scalar.cmpi .ne v1152 v1157
  let v1159 : BitVec 32 := Scalar.remsi v1146 c16_i32_455
  let c0_i32_460 : BitVec 32 := 0#32
  let v1160 : BitVec 1 := Scalar.cmpi .ne v1159 c0_i32_460
  let v1161 : BitVec 1 := Scalar.andi v1158 v1160
  let v1147 : BitVec 32 := Scalar.divsi v1146 c16_i32_455
  let c1_i32_461 : BitVec 32 := 1#32
  let v1162 : BitVec 32 := Scalar.subi v1147 c1_i32_461
  let v1163 : BitVec 32 := Scalar.select v1161 v1162 v1147
  let c16_i32_462 : BitVec 32 := 16#32
  let v1164 : BitVec 32 := Scalar.muli v1163 c16_i32_462
  ![v1165.toNat, v1164.toNat]

def k1_chk39 (i : grid1.Coords) (v1146 : BitVec 32) : Prop :=
  (∀ a, (k1_off40 i v1146) a + S1x16.size a ≤ S2048x32000.size a) ∧
  (∀ a, (k1_off104 i v1146) a + S1x16.size a ≤ S2048x32000.size a)
theorem k1_off40_inb : ∀ (i : grid1.Coords) (v1146 : BitVec 32) (k1_hw39 : k1_chk39 i v1146), ∀ a, (k1_off40 i v1146) a + S1x16.size a ≤ S2048x32000.size a := fun i v1146 k1_hw39 => k1_hw39.1
theorem k1_off104_inb : ∀ (i : grid1.Coords) (v1146 : BitVec 32) (k1_hw39 : k1_chk39 i v1146), ∀ a, (k1_off104 i v1146) a + S1x16.size a ≤ S2048x32000.size a := fun i v1146 k1_hw39 => k1_hw39.2

def k1_off105 (i : grid1.Coords) (v1176 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c39_i32 : BitVec 32 := 39#32
  let v1195 : BitVec 32 := Scalar.addi v2 c39_i32
  let c0_i32_468 : BitVec 32 := 0#32
  let v1178 : BitVec 1 := Scalar.cmpi .sgt v1176 c0_i32_468
  let v1179 : BitVec 32 := Scalar.extui v1178
  let c0_i32_469 : BitVec 32 := 0#32
  let v1180 : BitVec 1 := Scalar.cmpi .slt v1176 c0_i32_469
  let v1181 : BitVec 32 := Scalar.extui v1180
  let v1182 : BitVec 32 := Scalar.subi v1179 v1181
  let c16_i32_467 : BitVec 32 := 16#32
  let c0_i32_470 : BitVec 32 := 0#32
  let v1183 : BitVec 1 := Scalar.cmpi .sgt c16_i32_467 c0_i32_470
  let v1184 : BitVec 32 := Scalar.extui v1183
  let c0_i32_471 : BitVec 32 := 0#32
  let v1185 : BitVec 1 := Scalar.cmpi .slt c16_i32_467 c0_i32_471
  let v1186 : BitVec 32 := Scalar.extui v1185
  let v1187 : BitVec 32 := Scalar.subi v1184 v1186
  let v1188 : BitVec 1 := Scalar.cmpi .ne v1182 v1187
  let v1189 : BitVec 32 := Scalar.remsi v1176 c16_i32_467
  let c0_i32_472 : BitVec 32 := 0#32
  let v1190 : BitVec 1 := Scalar.cmpi .ne v1189 c0_i32_472
  let v1191 : BitVec 1 := Scalar.andi v1188 v1190
  let v1177 : BitVec 32 := Scalar.divsi v1176 c16_i32_467
  let c1_i32_473 : BitVec 32 := 1#32
  let v1192 : BitVec 32 := Scalar.subi v1177 c1_i32_473
  let v1193 : BitVec 32 := Scalar.select v1191 v1192 v1177
  let c16_i32_474 : BitVec 32 := 16#32
  let v1194 : BitVec 32 := Scalar.muli v1193 c16_i32_474
  ![v1195.toNat, v1194.toNat]

def k1_chk40 (i : grid1.Coords) (v1176 : BitVec 32) : Prop :=
  (∀ a, (k1_off41 i v1176) a + S1x16.size a ≤ S2048x32000.size a) ∧
  (∀ a, (k1_off105 i v1176) a + S1x16.size a ≤ S2048x32000.size a)
theorem k1_off41_inb : ∀ (i : grid1.Coords) (v1176 : BitVec 32) (k1_hw40 : k1_chk40 i v1176), ∀ a, (k1_off41 i v1176) a + S1x16.size a ≤ S2048x32000.size a := fun i v1176 k1_hw40 => k1_hw40.1
theorem k1_off105_inb : ∀ (i : grid1.Coords) (v1176 : BitVec 32) (k1_hw40 : k1_chk40 i v1176), ∀ a, (k1_off105 i v1176) a + S1x16.size a ≤ S2048x32000.size a := fun i v1176 k1_hw40 => k1_hw40.2

def k1_off106 (i : grid1.Coords) (v1206 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c40_i32 : BitVec 32 := 40#32
  let v1225 : BitVec 32 := Scalar.addi v2 c40_i32
  let c0_i32_480 : BitVec 32 := 0#32
  let v1208 : BitVec 1 := Scalar.cmpi .sgt v1206 c0_i32_480
  let v1209 : BitVec 32 := Scalar.extui v1208
  let c0_i32_481 : BitVec 32 := 0#32
  let v1210 : BitVec 1 := Scalar.cmpi .slt v1206 c0_i32_481
  let v1211 : BitVec 32 := Scalar.extui v1210
  let v1212 : BitVec 32 := Scalar.subi v1209 v1211
  let c16_i32_479 : BitVec 32 := 16#32
  let c0_i32_482 : BitVec 32 := 0#32
  let v1213 : BitVec 1 := Scalar.cmpi .sgt c16_i32_479 c0_i32_482
  let v1214 : BitVec 32 := Scalar.extui v1213
  let c0_i32_483 : BitVec 32 := 0#32
  let v1215 : BitVec 1 := Scalar.cmpi .slt c16_i32_479 c0_i32_483
  let v1216 : BitVec 32 := Scalar.extui v1215
  let v1217 : BitVec 32 := Scalar.subi v1214 v1216
  let v1218 : BitVec 1 := Scalar.cmpi .ne v1212 v1217
  let v1219 : BitVec 32 := Scalar.remsi v1206 c16_i32_479
  let c0_i32_484 : BitVec 32 := 0#32
  let v1220 : BitVec 1 := Scalar.cmpi .ne v1219 c0_i32_484
  let v1221 : BitVec 1 := Scalar.andi v1218 v1220
  let v1207 : BitVec 32 := Scalar.divsi v1206 c16_i32_479
  let c1_i32_485 : BitVec 32 := 1#32
  let v1222 : BitVec 32 := Scalar.subi v1207 c1_i32_485
  let v1223 : BitVec 32 := Scalar.select v1221 v1222 v1207
  let c16_i32_486 : BitVec 32 := 16#32
  let v1224 : BitVec 32 := Scalar.muli v1223 c16_i32_486
  ![v1225.toNat, v1224.toNat]

def k1_chk41 (i : grid1.Coords) (v1206 : BitVec 32) : Prop :=
  (∀ a, (k1_off42 i v1206) a + S1x16.size a ≤ S2048x32000.size a) ∧
  (∀ a, (k1_off106 i v1206) a + S1x16.size a ≤ S2048x32000.size a)
theorem k1_off42_inb : ∀ (i : grid1.Coords) (v1206 : BitVec 32) (k1_hw41 : k1_chk41 i v1206), ∀ a, (k1_off42 i v1206) a + S1x16.size a ≤ S2048x32000.size a := fun i v1206 k1_hw41 => k1_hw41.1
theorem k1_off106_inb : ∀ (i : grid1.Coords) (v1206 : BitVec 32) (k1_hw41 : k1_chk41 i v1206), ∀ a, (k1_off106 i v1206) a + S1x16.size a ≤ S2048x32000.size a := fun i v1206 k1_hw41 => k1_hw41.2

def k1_off107 (i : grid1.Coords) (v1236 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c41_i32 : BitVec 32 := 41#32
  let v1255 : BitVec 32 := Scalar.addi v2 c41_i32
  let c0_i32_492 : BitVec 32 := 0#32
  let v1238 : BitVec 1 := Scalar.cmpi .sgt v1236 c0_i32_492
  let v1239 : BitVec 32 := Scalar.extui v1238
  let c0_i32_493 : BitVec 32 := 0#32
  let v1240 : BitVec 1 := Scalar.cmpi .slt v1236 c0_i32_493
  let v1241 : BitVec 32 := Scalar.extui v1240
  let v1242 : BitVec 32 := Scalar.subi v1239 v1241
  let c16_i32_491 : BitVec 32 := 16#32
  let c0_i32_494 : BitVec 32 := 0#32
  let v1243 : BitVec 1 := Scalar.cmpi .sgt c16_i32_491 c0_i32_494
  let v1244 : BitVec 32 := Scalar.extui v1243
  let c0_i32_495 : BitVec 32 := 0#32
  let v1245 : BitVec 1 := Scalar.cmpi .slt c16_i32_491 c0_i32_495
  let v1246 : BitVec 32 := Scalar.extui v1245
  let v1247 : BitVec 32 := Scalar.subi v1244 v1246
  let v1248 : BitVec 1 := Scalar.cmpi .ne v1242 v1247
  let v1249 : BitVec 32 := Scalar.remsi v1236 c16_i32_491
  let c0_i32_496 : BitVec 32 := 0#32
  let v1250 : BitVec 1 := Scalar.cmpi .ne v1249 c0_i32_496
  let v1251 : BitVec 1 := Scalar.andi v1248 v1250
  let v1237 : BitVec 32 := Scalar.divsi v1236 c16_i32_491
  let c1_i32_497 : BitVec 32 := 1#32
  let v1252 : BitVec 32 := Scalar.subi v1237 c1_i32_497
  let v1253 : BitVec 32 := Scalar.select v1251 v1252 v1237
  let c16_i32_498 : BitVec 32 := 16#32
  let v1254 : BitVec 32 := Scalar.muli v1253 c16_i32_498
  ![v1255.toNat, v1254.toNat]

def k1_chk42 (i : grid1.Coords) (v1236 : BitVec 32) : Prop :=
  (∀ a, (k1_off43 i v1236) a + S1x16.size a ≤ S2048x32000.size a) ∧
  (∀ a, (k1_off107 i v1236) a + S1x16.size a ≤ S2048x32000.size a)
theorem k1_off43_inb : ∀ (i : grid1.Coords) (v1236 : BitVec 32) (k1_hw42 : k1_chk42 i v1236), ∀ a, (k1_off43 i v1236) a + S1x16.size a ≤ S2048x32000.size a := fun i v1236 k1_hw42 => k1_hw42.1
theorem k1_off107_inb : ∀ (i : grid1.Coords) (v1236 : BitVec 32) (k1_hw42 : k1_chk42 i v1236), ∀ a, (k1_off107 i v1236) a + S1x16.size a ≤ S2048x32000.size a := fun i v1236 k1_hw42 => k1_hw42.2

def k1_off108 (i : grid1.Coords) (v1266 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c42_i32 : BitVec 32 := 42#32
  let v1285 : BitVec 32 := Scalar.addi v2 c42_i32
  let c0_i32_504 : BitVec 32 := 0#32
  let v1268 : BitVec 1 := Scalar.cmpi .sgt v1266 c0_i32_504
  let v1269 : BitVec 32 := Scalar.extui v1268
  let c0_i32_505 : BitVec 32 := 0#32
  let v1270 : BitVec 1 := Scalar.cmpi .slt v1266 c0_i32_505
  let v1271 : BitVec 32 := Scalar.extui v1270
  let v1272 : BitVec 32 := Scalar.subi v1269 v1271
  let c16_i32_503 : BitVec 32 := 16#32
  let c0_i32_506 : BitVec 32 := 0#32
  let v1273 : BitVec 1 := Scalar.cmpi .sgt c16_i32_503 c0_i32_506
  let v1274 : BitVec 32 := Scalar.extui v1273
  let c0_i32_507 : BitVec 32 := 0#32
  let v1275 : BitVec 1 := Scalar.cmpi .slt c16_i32_503 c0_i32_507
  let v1276 : BitVec 32 := Scalar.extui v1275
  let v1277 : BitVec 32 := Scalar.subi v1274 v1276
  let v1278 : BitVec 1 := Scalar.cmpi .ne v1272 v1277
  let v1279 : BitVec 32 := Scalar.remsi v1266 c16_i32_503
  let c0_i32_508 : BitVec 32 := 0#32
  let v1280 : BitVec 1 := Scalar.cmpi .ne v1279 c0_i32_508
  let v1281 : BitVec 1 := Scalar.andi v1278 v1280
  let v1267 : BitVec 32 := Scalar.divsi v1266 c16_i32_503
  let c1_i32_509 : BitVec 32 := 1#32
  let v1282 : BitVec 32 := Scalar.subi v1267 c1_i32_509
  let v1283 : BitVec 32 := Scalar.select v1281 v1282 v1267
  let c16_i32_510 : BitVec 32 := 16#32
  let v1284 : BitVec 32 := Scalar.muli v1283 c16_i32_510
  ![v1285.toNat, v1284.toNat]

def k1_chk43 (i : grid1.Coords) (v1266 : BitVec 32) : Prop :=
  (∀ a, (k1_off44 i v1266) a + S1x16.size a ≤ S2048x32000.size a) ∧
  (∀ a, (k1_off108 i v1266) a + S1x16.size a ≤ S2048x32000.size a)
theorem k1_off44_inb : ∀ (i : grid1.Coords) (v1266 : BitVec 32) (k1_hw43 : k1_chk43 i v1266), ∀ a, (k1_off44 i v1266) a + S1x16.size a ≤ S2048x32000.size a := fun i v1266 k1_hw43 => k1_hw43.1
theorem k1_off108_inb : ∀ (i : grid1.Coords) (v1266 : BitVec 32) (k1_hw43 : k1_chk43 i v1266), ∀ a, (k1_off108 i v1266) a + S1x16.size a ≤ S2048x32000.size a := fun i v1266 k1_hw43 => k1_hw43.2

def k1_off109 (i : grid1.Coords) (v1296 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c43_i32 : BitVec 32 := 43#32
  let v1315 : BitVec 32 := Scalar.addi v2 c43_i32
  let c0_i32_516 : BitVec 32 := 0#32
  let v1298 : BitVec 1 := Scalar.cmpi .sgt v1296 c0_i32_516
  let v1299 : BitVec 32 := Scalar.extui v1298
  let c0_i32_517 : BitVec 32 := 0#32
  let v1300 : BitVec 1 := Scalar.cmpi .slt v1296 c0_i32_517
  let v1301 : BitVec 32 := Scalar.extui v1300
  let v1302 : BitVec 32 := Scalar.subi v1299 v1301
  let c16_i32_515 : BitVec 32 := 16#32
  let c0_i32_518 : BitVec 32 := 0#32
  let v1303 : BitVec 1 := Scalar.cmpi .sgt c16_i32_515 c0_i32_518
  let v1304 : BitVec 32 := Scalar.extui v1303
  let c0_i32_519 : BitVec 32 := 0#32
  let v1305 : BitVec 1 := Scalar.cmpi .slt c16_i32_515 c0_i32_519
  let v1306 : BitVec 32 := Scalar.extui v1305
  let v1307 : BitVec 32 := Scalar.subi v1304 v1306
  let v1308 : BitVec 1 := Scalar.cmpi .ne v1302 v1307
  let v1309 : BitVec 32 := Scalar.remsi v1296 c16_i32_515
  let c0_i32_520 : BitVec 32 := 0#32
  let v1310 : BitVec 1 := Scalar.cmpi .ne v1309 c0_i32_520
  let v1311 : BitVec 1 := Scalar.andi v1308 v1310
  let v1297 : BitVec 32 := Scalar.divsi v1296 c16_i32_515
  let c1_i32_521 : BitVec 32 := 1#32
  let v1312 : BitVec 32 := Scalar.subi v1297 c1_i32_521
  let v1313 : BitVec 32 := Scalar.select v1311 v1312 v1297
  let c16_i32_522 : BitVec 32 := 16#32
  let v1314 : BitVec 32 := Scalar.muli v1313 c16_i32_522
  ![v1315.toNat, v1314.toNat]

def k1_chk44 (i : grid1.Coords) (v1296 : BitVec 32) : Prop :=
  (∀ a, (k1_off45 i v1296) a + S1x16.size a ≤ S2048x32000.size a) ∧
  (∀ a, (k1_off109 i v1296) a + S1x16.size a ≤ S2048x32000.size a)
theorem k1_off45_inb : ∀ (i : grid1.Coords) (v1296 : BitVec 32) (k1_hw44 : k1_chk44 i v1296), ∀ a, (k1_off45 i v1296) a + S1x16.size a ≤ S2048x32000.size a := fun i v1296 k1_hw44 => k1_hw44.1
theorem k1_off109_inb : ∀ (i : grid1.Coords) (v1296 : BitVec 32) (k1_hw44 : k1_chk44 i v1296), ∀ a, (k1_off109 i v1296) a + S1x16.size a ≤ S2048x32000.size a := fun i v1296 k1_hw44 => k1_hw44.2

def k1_off110 (i : grid1.Coords) (v1326 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c44_i32 : BitVec 32 := 44#32
  let v1345 : BitVec 32 := Scalar.addi v2 c44_i32
  let c0_i32_528 : BitVec 32 := 0#32
  let v1328 : BitVec 1 := Scalar.cmpi .sgt v1326 c0_i32_528
  let v1329 : BitVec 32 := Scalar.extui v1328
  let c0_i32_529 : BitVec 32 := 0#32
  let v1330 : BitVec 1 := Scalar.cmpi .slt v1326 c0_i32_529
  let v1331 : BitVec 32 := Scalar.extui v1330
  let v1332 : BitVec 32 := Scalar.subi v1329 v1331
  let c16_i32_527 : BitVec 32 := 16#32
  let c0_i32_530 : BitVec 32 := 0#32
  let v1333 : BitVec 1 := Scalar.cmpi .sgt c16_i32_527 c0_i32_530
  let v1334 : BitVec 32 := Scalar.extui v1333
  let c0_i32_531 : BitVec 32 := 0#32
  let v1335 : BitVec 1 := Scalar.cmpi .slt c16_i32_527 c0_i32_531
  let v1336 : BitVec 32 := Scalar.extui v1335
  let v1337 : BitVec 32 := Scalar.subi v1334 v1336
  let v1338 : BitVec 1 := Scalar.cmpi .ne v1332 v1337
  let v1339 : BitVec 32 := Scalar.remsi v1326 c16_i32_527
  let c0_i32_532 : BitVec 32 := 0#32
  let v1340 : BitVec 1 := Scalar.cmpi .ne v1339 c0_i32_532
  let v1341 : BitVec 1 := Scalar.andi v1338 v1340
  let v1327 : BitVec 32 := Scalar.divsi v1326 c16_i32_527
  let c1_i32_533 : BitVec 32 := 1#32
  let v1342 : BitVec 32 := Scalar.subi v1327 c1_i32_533
  let v1343 : BitVec 32 := Scalar.select v1341 v1342 v1327
  let c16_i32_534 : BitVec 32 := 16#32
  let v1344 : BitVec 32 := Scalar.muli v1343 c16_i32_534
  ![v1345.toNat, v1344.toNat]

def k1_chk45 (i : grid1.Coords) (v1326 : BitVec 32) : Prop :=
  (∀ a, (k1_off46 i v1326) a + S1x16.size a ≤ S2048x32000.size a) ∧
  (∀ a, (k1_off110 i v1326) a + S1x16.size a ≤ S2048x32000.size a)
theorem k1_off46_inb : ∀ (i : grid1.Coords) (v1326 : BitVec 32) (k1_hw45 : k1_chk45 i v1326), ∀ a, (k1_off46 i v1326) a + S1x16.size a ≤ S2048x32000.size a := fun i v1326 k1_hw45 => k1_hw45.1
theorem k1_off110_inb : ∀ (i : grid1.Coords) (v1326 : BitVec 32) (k1_hw45 : k1_chk45 i v1326), ∀ a, (k1_off110 i v1326) a + S1x16.size a ≤ S2048x32000.size a := fun i v1326 k1_hw45 => k1_hw45.2

def k1_off111 (i : grid1.Coords) (v1356 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c45_i32 : BitVec 32 := 45#32
  let v1375 : BitVec 32 := Scalar.addi v2 c45_i32
  let c0_i32_540 : BitVec 32 := 0#32
  let v1358 : BitVec 1 := Scalar.cmpi .sgt v1356 c0_i32_540
  let v1359 : BitVec 32 := Scalar.extui v1358
  let c0_i32_541 : BitVec 32 := 0#32
  let v1360 : BitVec 1 := Scalar.cmpi .slt v1356 c0_i32_541
  let v1361 : BitVec 32 := Scalar.extui v1360
  let v1362 : BitVec 32 := Scalar.subi v1359 v1361
  let c16_i32_539 : BitVec 32 := 16#32
  let c0_i32_542 : BitVec 32 := 0#32
  let v1363 : BitVec 1 := Scalar.cmpi .sgt c16_i32_539 c0_i32_542
  let v1364 : BitVec 32 := Scalar.extui v1363
  let c0_i32_543 : BitVec 32 := 0#32
  let v1365 : BitVec 1 := Scalar.cmpi .slt c16_i32_539 c0_i32_543
  let v1366 : BitVec 32 := Scalar.extui v1365
  let v1367 : BitVec 32 := Scalar.subi v1364 v1366
  let v1368 : BitVec 1 := Scalar.cmpi .ne v1362 v1367
  let v1369 : BitVec 32 := Scalar.remsi v1356 c16_i32_539
  let c0_i32_544 : BitVec 32 := 0#32
  let v1370 : BitVec 1 := Scalar.cmpi .ne v1369 c0_i32_544
  let v1371 : BitVec 1 := Scalar.andi v1368 v1370
  let v1357 : BitVec 32 := Scalar.divsi v1356 c16_i32_539
  let c1_i32_545 : BitVec 32 := 1#32
  let v1372 : BitVec 32 := Scalar.subi v1357 c1_i32_545
  let v1373 : BitVec 32 := Scalar.select v1371 v1372 v1357
  let c16_i32_546 : BitVec 32 := 16#32
  let v1374 : BitVec 32 := Scalar.muli v1373 c16_i32_546
  ![v1375.toNat, v1374.toNat]

def k1_chk46 (i : grid1.Coords) (v1356 : BitVec 32) : Prop :=
  (∀ a, (k1_off47 i v1356) a + S1x16.size a ≤ S2048x32000.size a) ∧
  (∀ a, (k1_off111 i v1356) a + S1x16.size a ≤ S2048x32000.size a)
theorem k1_off47_inb : ∀ (i : grid1.Coords) (v1356 : BitVec 32) (k1_hw46 : k1_chk46 i v1356), ∀ a, (k1_off47 i v1356) a + S1x16.size a ≤ S2048x32000.size a := fun i v1356 k1_hw46 => k1_hw46.1
theorem k1_off111_inb : ∀ (i : grid1.Coords) (v1356 : BitVec 32) (k1_hw46 : k1_chk46 i v1356), ∀ a, (k1_off111 i v1356) a + S1x16.size a ≤ S2048x32000.size a := fun i v1356 k1_hw46 => k1_hw46.2

def k1_off112 (i : grid1.Coords) (v1386 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c46_i32 : BitVec 32 := 46#32
  let v1405 : BitVec 32 := Scalar.addi v2 c46_i32
  let c0_i32_552 : BitVec 32 := 0#32
  let v1388 : BitVec 1 := Scalar.cmpi .sgt v1386 c0_i32_552
  let v1389 : BitVec 32 := Scalar.extui v1388
  let c0_i32_553 : BitVec 32 := 0#32
  let v1390 : BitVec 1 := Scalar.cmpi .slt v1386 c0_i32_553
  let v1391 : BitVec 32 := Scalar.extui v1390
  let v1392 : BitVec 32 := Scalar.subi v1389 v1391
  let c16_i32_551 : BitVec 32 := 16#32
  let c0_i32_554 : BitVec 32 := 0#32
  let v1393 : BitVec 1 := Scalar.cmpi .sgt c16_i32_551 c0_i32_554
  let v1394 : BitVec 32 := Scalar.extui v1393
  let c0_i32_555 : BitVec 32 := 0#32
  let v1395 : BitVec 1 := Scalar.cmpi .slt c16_i32_551 c0_i32_555
  let v1396 : BitVec 32 := Scalar.extui v1395
  let v1397 : BitVec 32 := Scalar.subi v1394 v1396
  let v1398 : BitVec 1 := Scalar.cmpi .ne v1392 v1397
  let v1399 : BitVec 32 := Scalar.remsi v1386 c16_i32_551
  let c0_i32_556 : BitVec 32 := 0#32
  let v1400 : BitVec 1 := Scalar.cmpi .ne v1399 c0_i32_556
  let v1401 : BitVec 1 := Scalar.andi v1398 v1400
  let v1387 : BitVec 32 := Scalar.divsi v1386 c16_i32_551
  let c1_i32_557 : BitVec 32 := 1#32
  let v1402 : BitVec 32 := Scalar.subi v1387 c1_i32_557
  let v1403 : BitVec 32 := Scalar.select v1401 v1402 v1387
  let c16_i32_558 : BitVec 32 := 16#32
  let v1404 : BitVec 32 := Scalar.muli v1403 c16_i32_558
  ![v1405.toNat, v1404.toNat]

def k1_chk47 (i : grid1.Coords) (v1386 : BitVec 32) : Prop :=
  (∀ a, (k1_off48 i v1386) a + S1x16.size a ≤ S2048x32000.size a) ∧
  (∀ a, (k1_off112 i v1386) a + S1x16.size a ≤ S2048x32000.size a)
theorem k1_off48_inb : ∀ (i : grid1.Coords) (v1386 : BitVec 32) (k1_hw47 : k1_chk47 i v1386), ∀ a, (k1_off48 i v1386) a + S1x16.size a ≤ S2048x32000.size a := fun i v1386 k1_hw47 => k1_hw47.1
theorem k1_off112_inb : ∀ (i : grid1.Coords) (v1386 : BitVec 32) (k1_hw47 : k1_chk47 i v1386), ∀ a, (k1_off112 i v1386) a + S1x16.size a ≤ S2048x32000.size a := fun i v1386 k1_hw47 => k1_hw47.2

def k1_off113 (i : grid1.Coords) (v1416 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c47_i32 : BitVec 32 := 47#32
  let v1435 : BitVec 32 := Scalar.addi v2 c47_i32
  let c0_i32_564 : BitVec 32 := 0#32
  let v1418 : BitVec 1 := Scalar.cmpi .sgt v1416 c0_i32_564
  let v1419 : BitVec 32 := Scalar.extui v1418
  let c0_i32_565 : BitVec 32 := 0#32
  let v1420 : BitVec 1 := Scalar.cmpi .slt v1416 c0_i32_565
  let v1421 : BitVec 32 := Scalar.extui v1420
  let v1422 : BitVec 32 := Scalar.subi v1419 v1421
  let c16_i32_563 : BitVec 32 := 16#32
  let c0_i32_566 : BitVec 32 := 0#32
  let v1423 : BitVec 1 := Scalar.cmpi .sgt c16_i32_563 c0_i32_566
  let v1424 : BitVec 32 := Scalar.extui v1423
  let c0_i32_567 : BitVec 32 := 0#32
  let v1425 : BitVec 1 := Scalar.cmpi .slt c16_i32_563 c0_i32_567
  let v1426 : BitVec 32 := Scalar.extui v1425
  let v1427 : BitVec 32 := Scalar.subi v1424 v1426
  let v1428 : BitVec 1 := Scalar.cmpi .ne v1422 v1427
  let v1429 : BitVec 32 := Scalar.remsi v1416 c16_i32_563
  let c0_i32_568 : BitVec 32 := 0#32
  let v1430 : BitVec 1 := Scalar.cmpi .ne v1429 c0_i32_568
  let v1431 : BitVec 1 := Scalar.andi v1428 v1430
  let v1417 : BitVec 32 := Scalar.divsi v1416 c16_i32_563
  let c1_i32_569 : BitVec 32 := 1#32
  let v1432 : BitVec 32 := Scalar.subi v1417 c1_i32_569
  let v1433 : BitVec 32 := Scalar.select v1431 v1432 v1417
  let c16_i32_570 : BitVec 32 := 16#32
  let v1434 : BitVec 32 := Scalar.muli v1433 c16_i32_570
  ![v1435.toNat, v1434.toNat]

def k1_chk48 (i : grid1.Coords) (v1416 : BitVec 32) : Prop :=
  (∀ a, (k1_off49 i v1416) a + S1x16.size a ≤ S2048x32000.size a) ∧
  (∀ a, (k1_off113 i v1416) a + S1x16.size a ≤ S2048x32000.size a)
theorem k1_off49_inb : ∀ (i : grid1.Coords) (v1416 : BitVec 32) (k1_hw48 : k1_chk48 i v1416), ∀ a, (k1_off49 i v1416) a + S1x16.size a ≤ S2048x32000.size a := fun i v1416 k1_hw48 => k1_hw48.1
theorem k1_off113_inb : ∀ (i : grid1.Coords) (v1416 : BitVec 32) (k1_hw48 : k1_chk48 i v1416), ∀ a, (k1_off113 i v1416) a + S1x16.size a ≤ S2048x32000.size a := fun i v1416 k1_hw48 => k1_hw48.2

def k1_off114 (i : grid1.Coords) (v1446 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32 : BitVec 32 := 48#32
  let v1465 : BitVec 32 := Scalar.addi v2 c48_i32
  let c0_i32_575 : BitVec 32 := 0#32
  let v1448 : BitVec 1 := Scalar.cmpi .sgt v1446 c0_i32_575
  let v1449 : BitVec 32 := Scalar.extui v1448
  let c0_i32_576 : BitVec 32 := 0#32
  let v1450 : BitVec 1 := Scalar.cmpi .slt v1446 c0_i32_576
  let v1451 : BitVec 32 := Scalar.extui v1450
  let v1452 : BitVec 32 := Scalar.subi v1449 v1451
  let c16_i32_574 : BitVec 32 := 16#32
  let c0_i32_577 : BitVec 32 := 0#32
  let v1453 : BitVec 1 := Scalar.cmpi .sgt c16_i32_574 c0_i32_577
  let v1454 : BitVec 32 := Scalar.extui v1453
  let c0_i32_578 : BitVec 32 := 0#32
  let v1455 : BitVec 1 := Scalar.cmpi .slt c16_i32_574 c0_i32_578
  let v1456 : BitVec 32 := Scalar.extui v1455
  let v1457 : BitVec 32 := Scalar.subi v1454 v1456
  let v1458 : BitVec 1 := Scalar.cmpi .ne v1452 v1457
  let v1459 : BitVec 32 := Scalar.remsi v1446 c16_i32_574
  let c0_i32_579 : BitVec 32 := 0#32
  let v1460 : BitVec 1 := Scalar.cmpi .ne v1459 c0_i32_579
  let v1461 : BitVec 1 := Scalar.andi v1458 v1460
  let v1447 : BitVec 32 := Scalar.divsi v1446 c16_i32_574
  let c1_i32_580 : BitVec 32 := 1#32
  let v1462 : BitVec 32 := Scalar.subi v1447 c1_i32_580
  let v1463 : BitVec 32 := Scalar.select v1461 v1462 v1447
  let c16_i32_581 : BitVec 32 := 16#32
  let v1464 : BitVec 32 := Scalar.muli v1463 c16_i32_581
  ![v1465.toNat, v1464.toNat]

def k1_chk49 (i : grid1.Coords) (v1446 : BitVec 32) : Prop :=
  (∀ a, (k1_off50 i v1446) a + S1x16.size a ≤ S2048x32000.size a) ∧
  (∀ a, (k1_off114 i v1446) a + S1x16.size a ≤ S2048x32000.size a)
theorem k1_off50_inb : ∀ (i : grid1.Coords) (v1446 : BitVec 32) (k1_hw49 : k1_chk49 i v1446), ∀ a, (k1_off50 i v1446) a + S1x16.size a ≤ S2048x32000.size a := fun i v1446 k1_hw49 => k1_hw49.1
theorem k1_off114_inb : ∀ (i : grid1.Coords) (v1446 : BitVec 32) (k1_hw49 : k1_chk49 i v1446), ∀ a, (k1_off114 i v1446) a + S1x16.size a ≤ S2048x32000.size a := fun i v1446 k1_hw49 => k1_hw49.2

def k1_off115 (i : grid1.Coords) (v1476 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c49_i32 : BitVec 32 := 49#32
  let v1495 : BitVec 32 := Scalar.addi v2 c49_i32
  let c0_i32_587 : BitVec 32 := 0#32
  let v1478 : BitVec 1 := Scalar.cmpi .sgt v1476 c0_i32_587
  let v1479 : BitVec 32 := Scalar.extui v1478
  let c0_i32_588 : BitVec 32 := 0#32
  let v1480 : BitVec 1 := Scalar.cmpi .slt v1476 c0_i32_588
  let v1481 : BitVec 32 := Scalar.extui v1480
  let v1482 : BitVec 32 := Scalar.subi v1479 v1481
  let c16_i32_586 : BitVec 32 := 16#32
  let c0_i32_589 : BitVec 32 := 0#32
  let v1483 : BitVec 1 := Scalar.cmpi .sgt c16_i32_586 c0_i32_589
  let v1484 : BitVec 32 := Scalar.extui v1483
  let c0_i32_590 : BitVec 32 := 0#32
  let v1485 : BitVec 1 := Scalar.cmpi .slt c16_i32_586 c0_i32_590
  let v1486 : BitVec 32 := Scalar.extui v1485
  let v1487 : BitVec 32 := Scalar.subi v1484 v1486
  let v1488 : BitVec 1 := Scalar.cmpi .ne v1482 v1487
  let v1489 : BitVec 32 := Scalar.remsi v1476 c16_i32_586
  let c0_i32_591 : BitVec 32 := 0#32
  let v1490 : BitVec 1 := Scalar.cmpi .ne v1489 c0_i32_591
  let v1491 : BitVec 1 := Scalar.andi v1488 v1490
  let v1477 : BitVec 32 := Scalar.divsi v1476 c16_i32_586
  let c1_i32_592 : BitVec 32 := 1#32
  let v1492 : BitVec 32 := Scalar.subi v1477 c1_i32_592
  let v1493 : BitVec 32 := Scalar.select v1491 v1492 v1477
  let c16_i32_593 : BitVec 32 := 16#32
  let v1494 : BitVec 32 := Scalar.muli v1493 c16_i32_593
  ![v1495.toNat, v1494.toNat]

def k1_chk50 (i : grid1.Coords) (v1476 : BitVec 32) : Prop :=
  (∀ a, (k1_off51 i v1476) a + S1x16.size a ≤ S2048x32000.size a) ∧
  (∀ a, (k1_off115 i v1476) a + S1x16.size a ≤ S2048x32000.size a)
theorem k1_off51_inb : ∀ (i : grid1.Coords) (v1476 : BitVec 32) (k1_hw50 : k1_chk50 i v1476), ∀ a, (k1_off51 i v1476) a + S1x16.size a ≤ S2048x32000.size a := fun i v1476 k1_hw50 => k1_hw50.1
theorem k1_off115_inb : ∀ (i : grid1.Coords) (v1476 : BitVec 32) (k1_hw50 : k1_chk50 i v1476), ∀ a, (k1_off115 i v1476) a + S1x16.size a ≤ S2048x32000.size a := fun i v1476 k1_hw50 => k1_hw50.2

def k1_off116 (i : grid1.Coords) (v1506 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c50_i32 : BitVec 32 := 50#32
  let v1525 : BitVec 32 := Scalar.addi v2 c50_i32
  let c0_i32_599 : BitVec 32 := 0#32
  let v1508 : BitVec 1 := Scalar.cmpi .sgt v1506 c0_i32_599
  let v1509 : BitVec 32 := Scalar.extui v1508
  let c0_i32_600 : BitVec 32 := 0#32
  let v1510 : BitVec 1 := Scalar.cmpi .slt v1506 c0_i32_600
  let v1511 : BitVec 32 := Scalar.extui v1510
  let v1512 : BitVec 32 := Scalar.subi v1509 v1511
  let c16_i32_598 : BitVec 32 := 16#32
  let c0_i32_601 : BitVec 32 := 0#32
  let v1513 : BitVec 1 := Scalar.cmpi .sgt c16_i32_598 c0_i32_601
  let v1514 : BitVec 32 := Scalar.extui v1513
  let c0_i32_602 : BitVec 32 := 0#32
  let v1515 : BitVec 1 := Scalar.cmpi .slt c16_i32_598 c0_i32_602
  let v1516 : BitVec 32 := Scalar.extui v1515
  let v1517 : BitVec 32 := Scalar.subi v1514 v1516
  let v1518 : BitVec 1 := Scalar.cmpi .ne v1512 v1517
  let v1519 : BitVec 32 := Scalar.remsi v1506 c16_i32_598
  let c0_i32_603 : BitVec 32 := 0#32
  let v1520 : BitVec 1 := Scalar.cmpi .ne v1519 c0_i32_603
  let v1521 : BitVec 1 := Scalar.andi v1518 v1520
  let v1507 : BitVec 32 := Scalar.divsi v1506 c16_i32_598
  let c1_i32_604 : BitVec 32 := 1#32
  let v1522 : BitVec 32 := Scalar.subi v1507 c1_i32_604
  let v1523 : BitVec 32 := Scalar.select v1521 v1522 v1507
  let c16_i32_605 : BitVec 32 := 16#32
  let v1524 : BitVec 32 := Scalar.muli v1523 c16_i32_605
  ![v1525.toNat, v1524.toNat]

def k1_chk51 (i : grid1.Coords) (v1506 : BitVec 32) : Prop :=
  (∀ a, (k1_off52 i v1506) a + S1x16.size a ≤ S2048x32000.size a) ∧
  (∀ a, (k1_off116 i v1506) a + S1x16.size a ≤ S2048x32000.size a)
theorem k1_off52_inb : ∀ (i : grid1.Coords) (v1506 : BitVec 32) (k1_hw51 : k1_chk51 i v1506), ∀ a, (k1_off52 i v1506) a + S1x16.size a ≤ S2048x32000.size a := fun i v1506 k1_hw51 => k1_hw51.1
theorem k1_off116_inb : ∀ (i : grid1.Coords) (v1506 : BitVec 32) (k1_hw51 : k1_chk51 i v1506), ∀ a, (k1_off116 i v1506) a + S1x16.size a ≤ S2048x32000.size a := fun i v1506 k1_hw51 => k1_hw51.2

def k1_off117 (i : grid1.Coords) (v1536 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c51_i32 : BitVec 32 := 51#32
  let v1555 : BitVec 32 := Scalar.addi v2 c51_i32
  let c0_i32_611 : BitVec 32 := 0#32
  let v1538 : BitVec 1 := Scalar.cmpi .sgt v1536 c0_i32_611
  let v1539 : BitVec 32 := Scalar.extui v1538
  let c0_i32_612 : BitVec 32 := 0#32
  let v1540 : BitVec 1 := Scalar.cmpi .slt v1536 c0_i32_612
  let v1541 : BitVec 32 := Scalar.extui v1540
  let v1542 : BitVec 32 := Scalar.subi v1539 v1541
  let c16_i32_610 : BitVec 32 := 16#32
  let c0_i32_613 : BitVec 32 := 0#32
  let v1543 : BitVec 1 := Scalar.cmpi .sgt c16_i32_610 c0_i32_613
  let v1544 : BitVec 32 := Scalar.extui v1543
  let c0_i32_614 : BitVec 32 := 0#32
  let v1545 : BitVec 1 := Scalar.cmpi .slt c16_i32_610 c0_i32_614
  let v1546 : BitVec 32 := Scalar.extui v1545
  let v1547 : BitVec 32 := Scalar.subi v1544 v1546
  let v1548 : BitVec 1 := Scalar.cmpi .ne v1542 v1547
  let v1549 : BitVec 32 := Scalar.remsi v1536 c16_i32_610
  let c0_i32_615 : BitVec 32 := 0#32
  let v1550 : BitVec 1 := Scalar.cmpi .ne v1549 c0_i32_615
  let v1551 : BitVec 1 := Scalar.andi v1548 v1550
  let v1537 : BitVec 32 := Scalar.divsi v1536 c16_i32_610
  let c1_i32_616 : BitVec 32 := 1#32
  let v1552 : BitVec 32 := Scalar.subi v1537 c1_i32_616
  let v1553 : BitVec 32 := Scalar.select v1551 v1552 v1537
  let c16_i32_617 : BitVec 32 := 16#32
  let v1554 : BitVec 32 := Scalar.muli v1553 c16_i32_617
  ![v1555.toNat, v1554.toNat]

def k1_chk52 (i : grid1.Coords) (v1536 : BitVec 32) : Prop :=
  (∀ a, (k1_off53 i v1536) a + S1x16.size a ≤ S2048x32000.size a) ∧
  (∀ a, (k1_off117 i v1536) a + S1x16.size a ≤ S2048x32000.size a)
theorem k1_off53_inb : ∀ (i : grid1.Coords) (v1536 : BitVec 32) (k1_hw52 : k1_chk52 i v1536), ∀ a, (k1_off53 i v1536) a + S1x16.size a ≤ S2048x32000.size a := fun i v1536 k1_hw52 => k1_hw52.1
theorem k1_off117_inb : ∀ (i : grid1.Coords) (v1536 : BitVec 32) (k1_hw52 : k1_chk52 i v1536), ∀ a, (k1_off117 i v1536) a + S1x16.size a ≤ S2048x32000.size a := fun i v1536 k1_hw52 => k1_hw52.2

def k1_off118 (i : grid1.Coords) (v1566 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c52_i32 : BitVec 32 := 52#32
  let v1585 : BitVec 32 := Scalar.addi v2 c52_i32
  let c0_i32_623 : BitVec 32 := 0#32
  let v1568 : BitVec 1 := Scalar.cmpi .sgt v1566 c0_i32_623
  let v1569 : BitVec 32 := Scalar.extui v1568
  let c0_i32_624 : BitVec 32 := 0#32
  let v1570 : BitVec 1 := Scalar.cmpi .slt v1566 c0_i32_624
  let v1571 : BitVec 32 := Scalar.extui v1570
  let v1572 : BitVec 32 := Scalar.subi v1569 v1571
  let c16_i32_622 : BitVec 32 := 16#32
  let c0_i32_625 : BitVec 32 := 0#32
  let v1573 : BitVec 1 := Scalar.cmpi .sgt c16_i32_622 c0_i32_625
  let v1574 : BitVec 32 := Scalar.extui v1573
  let c0_i32_626 : BitVec 32 := 0#32
  let v1575 : BitVec 1 := Scalar.cmpi .slt c16_i32_622 c0_i32_626
  let v1576 : BitVec 32 := Scalar.extui v1575
  let v1577 : BitVec 32 := Scalar.subi v1574 v1576
  let v1578 : BitVec 1 := Scalar.cmpi .ne v1572 v1577
  let v1579 : BitVec 32 := Scalar.remsi v1566 c16_i32_622
  let c0_i32_627 : BitVec 32 := 0#32
  let v1580 : BitVec 1 := Scalar.cmpi .ne v1579 c0_i32_627
  let v1581 : BitVec 1 := Scalar.andi v1578 v1580
  let v1567 : BitVec 32 := Scalar.divsi v1566 c16_i32_622
  let c1_i32_628 : BitVec 32 := 1#32
  let v1582 : BitVec 32 := Scalar.subi v1567 c1_i32_628
  let v1583 : BitVec 32 := Scalar.select v1581 v1582 v1567
  let c16_i32_629 : BitVec 32 := 16#32
  let v1584 : BitVec 32 := Scalar.muli v1583 c16_i32_629
  ![v1585.toNat, v1584.toNat]

def k1_chk53 (i : grid1.Coords) (v1566 : BitVec 32) : Prop :=
  (∀ a, (k1_off54 i v1566) a + S1x16.size a ≤ S2048x32000.size a) ∧
  (∀ a, (k1_off118 i v1566) a + S1x16.size a ≤ S2048x32000.size a)
theorem k1_off54_inb : ∀ (i : grid1.Coords) (v1566 : BitVec 32) (k1_hw53 : k1_chk53 i v1566), ∀ a, (k1_off54 i v1566) a + S1x16.size a ≤ S2048x32000.size a := fun i v1566 k1_hw53 => k1_hw53.1
theorem k1_off118_inb : ∀ (i : grid1.Coords) (v1566 : BitVec 32) (k1_hw53 : k1_chk53 i v1566), ∀ a, (k1_off118 i v1566) a + S1x16.size a ≤ S2048x32000.size a := fun i v1566 k1_hw53 => k1_hw53.2

def k1_off119 (i : grid1.Coords) (v1596 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c53_i32 : BitVec 32 := 53#32
  let v1615 : BitVec 32 := Scalar.addi v2 c53_i32
  let c0_i32_635 : BitVec 32 := 0#32
  let v1598 : BitVec 1 := Scalar.cmpi .sgt v1596 c0_i32_635
  let v1599 : BitVec 32 := Scalar.extui v1598
  let c0_i32_636 : BitVec 32 := 0#32
  let v1600 : BitVec 1 := Scalar.cmpi .slt v1596 c0_i32_636
  let v1601 : BitVec 32 := Scalar.extui v1600
  let v1602 : BitVec 32 := Scalar.subi v1599 v1601
  let c16_i32_634 : BitVec 32 := 16#32
  let c0_i32_637 : BitVec 32 := 0#32
  let v1603 : BitVec 1 := Scalar.cmpi .sgt c16_i32_634 c0_i32_637
  let v1604 : BitVec 32 := Scalar.extui v1603
  let c0_i32_638 : BitVec 32 := 0#32
  let v1605 : BitVec 1 := Scalar.cmpi .slt c16_i32_634 c0_i32_638
  let v1606 : BitVec 32 := Scalar.extui v1605
  let v1607 : BitVec 32 := Scalar.subi v1604 v1606
  let v1608 : BitVec 1 := Scalar.cmpi .ne v1602 v1607
  let v1609 : BitVec 32 := Scalar.remsi v1596 c16_i32_634
  let c0_i32_639 : BitVec 32 := 0#32
  let v1610 : BitVec 1 := Scalar.cmpi .ne v1609 c0_i32_639
  let v1611 : BitVec 1 := Scalar.andi v1608 v1610
  let v1597 : BitVec 32 := Scalar.divsi v1596 c16_i32_634
  let c1_i32_640 : BitVec 32 := 1#32
  let v1612 : BitVec 32 := Scalar.subi v1597 c1_i32_640
  let v1613 : BitVec 32 := Scalar.select v1611 v1612 v1597
  let c16_i32_641 : BitVec 32 := 16#32
  let v1614 : BitVec 32 := Scalar.muli v1613 c16_i32_641
  ![v1615.toNat, v1614.toNat]

def k1_chk54 (i : grid1.Coords) (v1596 : BitVec 32) : Prop :=
  (∀ a, (k1_off55 i v1596) a + S1x16.size a ≤ S2048x32000.size a) ∧
  (∀ a, (k1_off119 i v1596) a + S1x16.size a ≤ S2048x32000.size a)
theorem k1_off55_inb : ∀ (i : grid1.Coords) (v1596 : BitVec 32) (k1_hw54 : k1_chk54 i v1596), ∀ a, (k1_off55 i v1596) a + S1x16.size a ≤ S2048x32000.size a := fun i v1596 k1_hw54 => k1_hw54.1
theorem k1_off119_inb : ∀ (i : grid1.Coords) (v1596 : BitVec 32) (k1_hw54 : k1_chk54 i v1596), ∀ a, (k1_off119 i v1596) a + S1x16.size a ≤ S2048x32000.size a := fun i v1596 k1_hw54 => k1_hw54.2

def k1_off120 (i : grid1.Coords) (v1626 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c54_i32 : BitVec 32 := 54#32
  let v1645 : BitVec 32 := Scalar.addi v2 c54_i32
  let c0_i32_647 : BitVec 32 := 0#32
  let v1628 : BitVec 1 := Scalar.cmpi .sgt v1626 c0_i32_647
  let v1629 : BitVec 32 := Scalar.extui v1628
  let c0_i32_648 : BitVec 32 := 0#32
  let v1630 : BitVec 1 := Scalar.cmpi .slt v1626 c0_i32_648
  let v1631 : BitVec 32 := Scalar.extui v1630
  let v1632 : BitVec 32 := Scalar.subi v1629 v1631
  let c16_i32_646 : BitVec 32 := 16#32
  let c0_i32_649 : BitVec 32 := 0#32
  let v1633 : BitVec 1 := Scalar.cmpi .sgt c16_i32_646 c0_i32_649
  let v1634 : BitVec 32 := Scalar.extui v1633
  let c0_i32_650 : BitVec 32 := 0#32
  let v1635 : BitVec 1 := Scalar.cmpi .slt c16_i32_646 c0_i32_650
  let v1636 : BitVec 32 := Scalar.extui v1635
  let v1637 : BitVec 32 := Scalar.subi v1634 v1636
  let v1638 : BitVec 1 := Scalar.cmpi .ne v1632 v1637
  let v1639 : BitVec 32 := Scalar.remsi v1626 c16_i32_646
  let c0_i32_651 : BitVec 32 := 0#32
  let v1640 : BitVec 1 := Scalar.cmpi .ne v1639 c0_i32_651
  let v1641 : BitVec 1 := Scalar.andi v1638 v1640
  let v1627 : BitVec 32 := Scalar.divsi v1626 c16_i32_646
  let c1_i32_652 : BitVec 32 := 1#32
  let v1642 : BitVec 32 := Scalar.subi v1627 c1_i32_652
  let v1643 : BitVec 32 := Scalar.select v1641 v1642 v1627
  let c16_i32_653 : BitVec 32 := 16#32
  let v1644 : BitVec 32 := Scalar.muli v1643 c16_i32_653
  ![v1645.toNat, v1644.toNat]

def k1_chk55 (i : grid1.Coords) (v1626 : BitVec 32) : Prop :=
  (∀ a, (k1_off56 i v1626) a + S1x16.size a ≤ S2048x32000.size a) ∧
  (∀ a, (k1_off120 i v1626) a + S1x16.size a ≤ S2048x32000.size a)
theorem k1_off56_inb : ∀ (i : grid1.Coords) (v1626 : BitVec 32) (k1_hw55 : k1_chk55 i v1626), ∀ a, (k1_off56 i v1626) a + S1x16.size a ≤ S2048x32000.size a := fun i v1626 k1_hw55 => k1_hw55.1
theorem k1_off120_inb : ∀ (i : grid1.Coords) (v1626 : BitVec 32) (k1_hw55 : k1_chk55 i v1626), ∀ a, (k1_off120 i v1626) a + S1x16.size a ≤ S2048x32000.size a := fun i v1626 k1_hw55 => k1_hw55.2

def k1_off121 (i : grid1.Coords) (v1656 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c55_i32 : BitVec 32 := 55#32
  let v1675 : BitVec 32 := Scalar.addi v2 c55_i32
  let c0_i32_659 : BitVec 32 := 0#32
  let v1658 : BitVec 1 := Scalar.cmpi .sgt v1656 c0_i32_659
  let v1659 : BitVec 32 := Scalar.extui v1658
  let c0_i32_660 : BitVec 32 := 0#32
  let v1660 : BitVec 1 := Scalar.cmpi .slt v1656 c0_i32_660
  let v1661 : BitVec 32 := Scalar.extui v1660
  let v1662 : BitVec 32 := Scalar.subi v1659 v1661
  let c16_i32_658 : BitVec 32 := 16#32
  let c0_i32_661 : BitVec 32 := 0#32
  let v1663 : BitVec 1 := Scalar.cmpi .sgt c16_i32_658 c0_i32_661
  let v1664 : BitVec 32 := Scalar.extui v1663
  let c0_i32_662 : BitVec 32 := 0#32
  let v1665 : BitVec 1 := Scalar.cmpi .slt c16_i32_658 c0_i32_662
  let v1666 : BitVec 32 := Scalar.extui v1665
  let v1667 : BitVec 32 := Scalar.subi v1664 v1666
  let v1668 : BitVec 1 := Scalar.cmpi .ne v1662 v1667
  let v1669 : BitVec 32 := Scalar.remsi v1656 c16_i32_658
  let c0_i32_663 : BitVec 32 := 0#32
  let v1670 : BitVec 1 := Scalar.cmpi .ne v1669 c0_i32_663
  let v1671 : BitVec 1 := Scalar.andi v1668 v1670
  let v1657 : BitVec 32 := Scalar.divsi v1656 c16_i32_658
  let c1_i32_664 : BitVec 32 := 1#32
  let v1672 : BitVec 32 := Scalar.subi v1657 c1_i32_664
  let v1673 : BitVec 32 := Scalar.select v1671 v1672 v1657
  let c16_i32_665 : BitVec 32 := 16#32
  let v1674 : BitVec 32 := Scalar.muli v1673 c16_i32_665
  ![v1675.toNat, v1674.toNat]

def k1_chk56 (i : grid1.Coords) (v1656 : BitVec 32) : Prop :=
  (∀ a, (k1_off57 i v1656) a + S1x16.size a ≤ S2048x32000.size a) ∧
  (∀ a, (k1_off121 i v1656) a + S1x16.size a ≤ S2048x32000.size a)
theorem k1_off57_inb : ∀ (i : grid1.Coords) (v1656 : BitVec 32) (k1_hw56 : k1_chk56 i v1656), ∀ a, (k1_off57 i v1656) a + S1x16.size a ≤ S2048x32000.size a := fun i v1656 k1_hw56 => k1_hw56.1
theorem k1_off121_inb : ∀ (i : grid1.Coords) (v1656 : BitVec 32) (k1_hw56 : k1_chk56 i v1656), ∀ a, (k1_off121 i v1656) a + S1x16.size a ≤ S2048x32000.size a := fun i v1656 k1_hw56 => k1_hw56.2

def k1_off122 (i : grid1.Coords) (v1686 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c56_i32 : BitVec 32 := 56#32
  let v1705 : BitVec 32 := Scalar.addi v2 c56_i32
  let c0_i32_671 : BitVec 32 := 0#32
  let v1688 : BitVec 1 := Scalar.cmpi .sgt v1686 c0_i32_671
  let v1689 : BitVec 32 := Scalar.extui v1688
  let c0_i32_672 : BitVec 32 := 0#32
  let v1690 : BitVec 1 := Scalar.cmpi .slt v1686 c0_i32_672
  let v1691 : BitVec 32 := Scalar.extui v1690
  let v1692 : BitVec 32 := Scalar.subi v1689 v1691
  let c16_i32_670 : BitVec 32 := 16#32
  let c0_i32_673 : BitVec 32 := 0#32
  let v1693 : BitVec 1 := Scalar.cmpi .sgt c16_i32_670 c0_i32_673
  let v1694 : BitVec 32 := Scalar.extui v1693
  let c0_i32_674 : BitVec 32 := 0#32
  let v1695 : BitVec 1 := Scalar.cmpi .slt c16_i32_670 c0_i32_674
  let v1696 : BitVec 32 := Scalar.extui v1695
  let v1697 : BitVec 32 := Scalar.subi v1694 v1696
  let v1698 : BitVec 1 := Scalar.cmpi .ne v1692 v1697
  let v1699 : BitVec 32 := Scalar.remsi v1686 c16_i32_670
  let c0_i32_675 : BitVec 32 := 0#32
  let v1700 : BitVec 1 := Scalar.cmpi .ne v1699 c0_i32_675
  let v1701 : BitVec 1 := Scalar.andi v1698 v1700
  let v1687 : BitVec 32 := Scalar.divsi v1686 c16_i32_670
  let c1_i32_676 : BitVec 32 := 1#32
  let v1702 : BitVec 32 := Scalar.subi v1687 c1_i32_676
  let v1703 : BitVec 32 := Scalar.select v1701 v1702 v1687
  let c16_i32_677 : BitVec 32 := 16#32
  let v1704 : BitVec 32 := Scalar.muli v1703 c16_i32_677
  ![v1705.toNat, v1704.toNat]

def k1_chk57 (i : grid1.Coords) (v1686 : BitVec 32) : Prop :=
  (∀ a, (k1_off58 i v1686) a + S1x16.size a ≤ S2048x32000.size a) ∧
  (∀ a, (k1_off122 i v1686) a + S1x16.size a ≤ S2048x32000.size a)
theorem k1_off58_inb : ∀ (i : grid1.Coords) (v1686 : BitVec 32) (k1_hw57 : k1_chk57 i v1686), ∀ a, (k1_off58 i v1686) a + S1x16.size a ≤ S2048x32000.size a := fun i v1686 k1_hw57 => k1_hw57.1
theorem k1_off122_inb : ∀ (i : grid1.Coords) (v1686 : BitVec 32) (k1_hw57 : k1_chk57 i v1686), ∀ a, (k1_off122 i v1686) a + S1x16.size a ≤ S2048x32000.size a := fun i v1686 k1_hw57 => k1_hw57.2

def k1_off123 (i : grid1.Coords) (v1716 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c57_i32 : BitVec 32 := 57#32
  let v1735 : BitVec 32 := Scalar.addi v2 c57_i32
  let c0_i32_683 : BitVec 32 := 0#32
  let v1718 : BitVec 1 := Scalar.cmpi .sgt v1716 c0_i32_683
  let v1719 : BitVec 32 := Scalar.extui v1718
  let c0_i32_684 : BitVec 32 := 0#32
  let v1720 : BitVec 1 := Scalar.cmpi .slt v1716 c0_i32_684
  let v1721 : BitVec 32 := Scalar.extui v1720
  let v1722 : BitVec 32 := Scalar.subi v1719 v1721
  let c16_i32_682 : BitVec 32 := 16#32
  let c0_i32_685 : BitVec 32 := 0#32
  let v1723 : BitVec 1 := Scalar.cmpi .sgt c16_i32_682 c0_i32_685
  let v1724 : BitVec 32 := Scalar.extui v1723
  let c0_i32_686 : BitVec 32 := 0#32
  let v1725 : BitVec 1 := Scalar.cmpi .slt c16_i32_682 c0_i32_686
  let v1726 : BitVec 32 := Scalar.extui v1725
  let v1727 : BitVec 32 := Scalar.subi v1724 v1726
  let v1728 : BitVec 1 := Scalar.cmpi .ne v1722 v1727
  let v1729 : BitVec 32 := Scalar.remsi v1716 c16_i32_682
  let c0_i32_687 : BitVec 32 := 0#32
  let v1730 : BitVec 1 := Scalar.cmpi .ne v1729 c0_i32_687
  let v1731 : BitVec 1 := Scalar.andi v1728 v1730
  let v1717 : BitVec 32 := Scalar.divsi v1716 c16_i32_682
  let c1_i32_688 : BitVec 32 := 1#32
  let v1732 : BitVec 32 := Scalar.subi v1717 c1_i32_688
  let v1733 : BitVec 32 := Scalar.select v1731 v1732 v1717
  let c16_i32_689 : BitVec 32 := 16#32
  let v1734 : BitVec 32 := Scalar.muli v1733 c16_i32_689
  ![v1735.toNat, v1734.toNat]

def k1_chk58 (i : grid1.Coords) (v1716 : BitVec 32) : Prop :=
  (∀ a, (k1_off59 i v1716) a + S1x16.size a ≤ S2048x32000.size a) ∧
  (∀ a, (k1_off123 i v1716) a + S1x16.size a ≤ S2048x32000.size a)
theorem k1_off59_inb : ∀ (i : grid1.Coords) (v1716 : BitVec 32) (k1_hw58 : k1_chk58 i v1716), ∀ a, (k1_off59 i v1716) a + S1x16.size a ≤ S2048x32000.size a := fun i v1716 k1_hw58 => k1_hw58.1
theorem k1_off123_inb : ∀ (i : grid1.Coords) (v1716 : BitVec 32) (k1_hw58 : k1_chk58 i v1716), ∀ a, (k1_off123 i v1716) a + S1x16.size a ≤ S2048x32000.size a := fun i v1716 k1_hw58 => k1_hw58.2

def k1_off124 (i : grid1.Coords) (v1746 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c58_i32 : BitVec 32 := 58#32
  let v1765 : BitVec 32 := Scalar.addi v2 c58_i32
  let c0_i32_695 : BitVec 32 := 0#32
  let v1748 : BitVec 1 := Scalar.cmpi .sgt v1746 c0_i32_695
  let v1749 : BitVec 32 := Scalar.extui v1748
  let c0_i32_696 : BitVec 32 := 0#32
  let v1750 : BitVec 1 := Scalar.cmpi .slt v1746 c0_i32_696
  let v1751 : BitVec 32 := Scalar.extui v1750
  let v1752 : BitVec 32 := Scalar.subi v1749 v1751
  let c16_i32_694 : BitVec 32 := 16#32
  let c0_i32_697 : BitVec 32 := 0#32
  let v1753 : BitVec 1 := Scalar.cmpi .sgt c16_i32_694 c0_i32_697
  let v1754 : BitVec 32 := Scalar.extui v1753
  let c0_i32_698 : BitVec 32 := 0#32
  let v1755 : BitVec 1 := Scalar.cmpi .slt c16_i32_694 c0_i32_698
  let v1756 : BitVec 32 := Scalar.extui v1755
  let v1757 : BitVec 32 := Scalar.subi v1754 v1756
  let v1758 : BitVec 1 := Scalar.cmpi .ne v1752 v1757
  let v1759 : BitVec 32 := Scalar.remsi v1746 c16_i32_694
  let c0_i32_699 : BitVec 32 := 0#32
  let v1760 : BitVec 1 := Scalar.cmpi .ne v1759 c0_i32_699
  let v1761 : BitVec 1 := Scalar.andi v1758 v1760
  let v1747 : BitVec 32 := Scalar.divsi v1746 c16_i32_694
  let c1_i32_700 : BitVec 32 := 1#32
  let v1762 : BitVec 32 := Scalar.subi v1747 c1_i32_700
  let v1763 : BitVec 32 := Scalar.select v1761 v1762 v1747
  let c16_i32_701 : BitVec 32 := 16#32
  let v1764 : BitVec 32 := Scalar.muli v1763 c16_i32_701
  ![v1765.toNat, v1764.toNat]

def k1_chk59 (i : grid1.Coords) (v1746 : BitVec 32) : Prop :=
  (∀ a, (k1_off60 i v1746) a + S1x16.size a ≤ S2048x32000.size a) ∧
  (∀ a, (k1_off124 i v1746) a + S1x16.size a ≤ S2048x32000.size a)
theorem k1_off60_inb : ∀ (i : grid1.Coords) (v1746 : BitVec 32) (k1_hw59 : k1_chk59 i v1746), ∀ a, (k1_off60 i v1746) a + S1x16.size a ≤ S2048x32000.size a := fun i v1746 k1_hw59 => k1_hw59.1
theorem k1_off124_inb : ∀ (i : grid1.Coords) (v1746 : BitVec 32) (k1_hw59 : k1_chk59 i v1746), ∀ a, (k1_off124 i v1746) a + S1x16.size a ≤ S2048x32000.size a := fun i v1746 k1_hw59 => k1_hw59.2

def k1_off125 (i : grid1.Coords) (v1776 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c59_i32 : BitVec 32 := 59#32
  let v1795 : BitVec 32 := Scalar.addi v2 c59_i32
  let c0_i32_707 : BitVec 32 := 0#32
  let v1778 : BitVec 1 := Scalar.cmpi .sgt v1776 c0_i32_707
  let v1779 : BitVec 32 := Scalar.extui v1778
  let c0_i32_708 : BitVec 32 := 0#32
  let v1780 : BitVec 1 := Scalar.cmpi .slt v1776 c0_i32_708
  let v1781 : BitVec 32 := Scalar.extui v1780
  let v1782 : BitVec 32 := Scalar.subi v1779 v1781
  let c16_i32_706 : BitVec 32 := 16#32
  let c0_i32_709 : BitVec 32 := 0#32
  let v1783 : BitVec 1 := Scalar.cmpi .sgt c16_i32_706 c0_i32_709
  let v1784 : BitVec 32 := Scalar.extui v1783
  let c0_i32_710 : BitVec 32 := 0#32
  let v1785 : BitVec 1 := Scalar.cmpi .slt c16_i32_706 c0_i32_710
  let v1786 : BitVec 32 := Scalar.extui v1785
  let v1787 : BitVec 32 := Scalar.subi v1784 v1786
  let v1788 : BitVec 1 := Scalar.cmpi .ne v1782 v1787
  let v1789 : BitVec 32 := Scalar.remsi v1776 c16_i32_706
  let c0_i32_711 : BitVec 32 := 0#32
  let v1790 : BitVec 1 := Scalar.cmpi .ne v1789 c0_i32_711
  let v1791 : BitVec 1 := Scalar.andi v1788 v1790
  let v1777 : BitVec 32 := Scalar.divsi v1776 c16_i32_706
  let c1_i32_712 : BitVec 32 := 1#32
  let v1792 : BitVec 32 := Scalar.subi v1777 c1_i32_712
  let v1793 : BitVec 32 := Scalar.select v1791 v1792 v1777
  let c16_i32_713 : BitVec 32 := 16#32
  let v1794 : BitVec 32 := Scalar.muli v1793 c16_i32_713
  ![v1795.toNat, v1794.toNat]

def k1_chk60 (i : grid1.Coords) (v1776 : BitVec 32) : Prop :=
  (∀ a, (k1_off61 i v1776) a + S1x16.size a ≤ S2048x32000.size a) ∧
  (∀ a, (k1_off125 i v1776) a + S1x16.size a ≤ S2048x32000.size a)
theorem k1_off61_inb : ∀ (i : grid1.Coords) (v1776 : BitVec 32) (k1_hw60 : k1_chk60 i v1776), ∀ a, (k1_off61 i v1776) a + S1x16.size a ≤ S2048x32000.size a := fun i v1776 k1_hw60 => k1_hw60.1
theorem k1_off125_inb : ∀ (i : grid1.Coords) (v1776 : BitVec 32) (k1_hw60 : k1_chk60 i v1776), ∀ a, (k1_off125 i v1776) a + S1x16.size a ≤ S2048x32000.size a := fun i v1776 k1_hw60 => k1_hw60.2

def k1_off126 (i : grid1.Coords) (v1806 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c60_i32 : BitVec 32 := 60#32
  let v1825 : BitVec 32 := Scalar.addi v2 c60_i32
  let c0_i32_719 : BitVec 32 := 0#32
  let v1808 : BitVec 1 := Scalar.cmpi .sgt v1806 c0_i32_719
  let v1809 : BitVec 32 := Scalar.extui v1808
  let c0_i32_720 : BitVec 32 := 0#32
  let v1810 : BitVec 1 := Scalar.cmpi .slt v1806 c0_i32_720
  let v1811 : BitVec 32 := Scalar.extui v1810
  let v1812 : BitVec 32 := Scalar.subi v1809 v1811
  let c16_i32_718 : BitVec 32 := 16#32
  let c0_i32_721 : BitVec 32 := 0#32
  let v1813 : BitVec 1 := Scalar.cmpi .sgt c16_i32_718 c0_i32_721
  let v1814 : BitVec 32 := Scalar.extui v1813
  let c0_i32_722 : BitVec 32 := 0#32
  let v1815 : BitVec 1 := Scalar.cmpi .slt c16_i32_718 c0_i32_722
  let v1816 : BitVec 32 := Scalar.extui v1815
  let v1817 : BitVec 32 := Scalar.subi v1814 v1816
  let v1818 : BitVec 1 := Scalar.cmpi .ne v1812 v1817
  let v1819 : BitVec 32 := Scalar.remsi v1806 c16_i32_718
  let c0_i32_723 : BitVec 32 := 0#32
  let v1820 : BitVec 1 := Scalar.cmpi .ne v1819 c0_i32_723
  let v1821 : BitVec 1 := Scalar.andi v1818 v1820
  let v1807 : BitVec 32 := Scalar.divsi v1806 c16_i32_718
  let c1_i32_724 : BitVec 32 := 1#32
  let v1822 : BitVec 32 := Scalar.subi v1807 c1_i32_724
  let v1823 : BitVec 32 := Scalar.select v1821 v1822 v1807
  let c16_i32_725 : BitVec 32 := 16#32
  let v1824 : BitVec 32 := Scalar.muli v1823 c16_i32_725
  ![v1825.toNat, v1824.toNat]

def k1_chk61 (i : grid1.Coords) (v1806 : BitVec 32) : Prop :=
  (∀ a, (k1_off62 i v1806) a + S1x16.size a ≤ S2048x32000.size a) ∧
  (∀ a, (k1_off126 i v1806) a + S1x16.size a ≤ S2048x32000.size a)
theorem k1_off62_inb : ∀ (i : grid1.Coords) (v1806 : BitVec 32) (k1_hw61 : k1_chk61 i v1806), ∀ a, (k1_off62 i v1806) a + S1x16.size a ≤ S2048x32000.size a := fun i v1806 k1_hw61 => k1_hw61.1
theorem k1_off126_inb : ∀ (i : grid1.Coords) (v1806 : BitVec 32) (k1_hw61 : k1_chk61 i v1806), ∀ a, (k1_off126 i v1806) a + S1x16.size a ≤ S2048x32000.size a := fun i v1806 k1_hw61 => k1_hw61.2

def k1_off127 (i : grid1.Coords) (v1836 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c61_i32 : BitVec 32 := 61#32
  let v1855 : BitVec 32 := Scalar.addi v2 c61_i32
  let c0_i32_731 : BitVec 32 := 0#32
  let v1838 : BitVec 1 := Scalar.cmpi .sgt v1836 c0_i32_731
  let v1839 : BitVec 32 := Scalar.extui v1838
  let c0_i32_732 : BitVec 32 := 0#32
  let v1840 : BitVec 1 := Scalar.cmpi .slt v1836 c0_i32_732
  let v1841 : BitVec 32 := Scalar.extui v1840
  let v1842 : BitVec 32 := Scalar.subi v1839 v1841
  let c16_i32_730 : BitVec 32 := 16#32
  let c0_i32_733 : BitVec 32 := 0#32
  let v1843 : BitVec 1 := Scalar.cmpi .sgt c16_i32_730 c0_i32_733
  let v1844 : BitVec 32 := Scalar.extui v1843
  let c0_i32_734 : BitVec 32 := 0#32
  let v1845 : BitVec 1 := Scalar.cmpi .slt c16_i32_730 c0_i32_734
  let v1846 : BitVec 32 := Scalar.extui v1845
  let v1847 : BitVec 32 := Scalar.subi v1844 v1846
  let v1848 : BitVec 1 := Scalar.cmpi .ne v1842 v1847
  let v1849 : BitVec 32 := Scalar.remsi v1836 c16_i32_730
  let c0_i32_735 : BitVec 32 := 0#32
  let v1850 : BitVec 1 := Scalar.cmpi .ne v1849 c0_i32_735
  let v1851 : BitVec 1 := Scalar.andi v1848 v1850
  let v1837 : BitVec 32 := Scalar.divsi v1836 c16_i32_730
  let c1_i32_736 : BitVec 32 := 1#32
  let v1852 : BitVec 32 := Scalar.subi v1837 c1_i32_736
  let v1853 : BitVec 32 := Scalar.select v1851 v1852 v1837
  let c16_i32_737 : BitVec 32 := 16#32
  let v1854 : BitVec 32 := Scalar.muli v1853 c16_i32_737
  ![v1855.toNat, v1854.toNat]

def k1_chk62 (i : grid1.Coords) (v1836 : BitVec 32) : Prop :=
  (∀ a, (k1_off63 i v1836) a + S1x16.size a ≤ S2048x32000.size a) ∧
  (∀ a, (k1_off127 i v1836) a + S1x16.size a ≤ S2048x32000.size a)
theorem k1_off63_inb : ∀ (i : grid1.Coords) (v1836 : BitVec 32) (k1_hw62 : k1_chk62 i v1836), ∀ a, (k1_off63 i v1836) a + S1x16.size a ≤ S2048x32000.size a := fun i v1836 k1_hw62 => k1_hw62.1
theorem k1_off127_inb : ∀ (i : grid1.Coords) (v1836 : BitVec 32) (k1_hw62 : k1_chk62 i v1836), ∀ a, (k1_off127 i v1836) a + S1x16.size a ≤ S2048x32000.size a := fun i v1836 k1_hw62 => k1_hw62.2

def k1_off128 (i : grid1.Coords) (v1866 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c62_i32 : BitVec 32 := 62#32
  let v1885 : BitVec 32 := Scalar.addi v2 c62_i32
  let c0_i32_743 : BitVec 32 := 0#32
  let v1868 : BitVec 1 := Scalar.cmpi .sgt v1866 c0_i32_743
  let v1869 : BitVec 32 := Scalar.extui v1868
  let c0_i32_744 : BitVec 32 := 0#32
  let v1870 : BitVec 1 := Scalar.cmpi .slt v1866 c0_i32_744
  let v1871 : BitVec 32 := Scalar.extui v1870
  let v1872 : BitVec 32 := Scalar.subi v1869 v1871
  let c16_i32_742 : BitVec 32 := 16#32
  let c0_i32_745 : BitVec 32 := 0#32
  let v1873 : BitVec 1 := Scalar.cmpi .sgt c16_i32_742 c0_i32_745
  let v1874 : BitVec 32 := Scalar.extui v1873
  let c0_i32_746 : BitVec 32 := 0#32
  let v1875 : BitVec 1 := Scalar.cmpi .slt c16_i32_742 c0_i32_746
  let v1876 : BitVec 32 := Scalar.extui v1875
  let v1877 : BitVec 32 := Scalar.subi v1874 v1876
  let v1878 : BitVec 1 := Scalar.cmpi .ne v1872 v1877
  let v1879 : BitVec 32 := Scalar.remsi v1866 c16_i32_742
  let c0_i32_747 : BitVec 32 := 0#32
  let v1880 : BitVec 1 := Scalar.cmpi .ne v1879 c0_i32_747
  let v1881 : BitVec 1 := Scalar.andi v1878 v1880
  let v1867 : BitVec 32 := Scalar.divsi v1866 c16_i32_742
  let c1_i32_748 : BitVec 32 := 1#32
  let v1882 : BitVec 32 := Scalar.subi v1867 c1_i32_748
  let v1883 : BitVec 32 := Scalar.select v1881 v1882 v1867
  let c16_i32_749 : BitVec 32 := 16#32
  let v1884 : BitVec 32 := Scalar.muli v1883 c16_i32_749
  ![v1885.toNat, v1884.toNat]

def k1_chk63 (i : grid1.Coords) (v1866 : BitVec 32) : Prop :=
  (∀ a, (k1_off64 i v1866) a + S1x16.size a ≤ S2048x32000.size a) ∧
  (∀ a, (k1_off128 i v1866) a + S1x16.size a ≤ S2048x32000.size a)
theorem k1_off64_inb : ∀ (i : grid1.Coords) (v1866 : BitVec 32) (k1_hw63 : k1_chk63 i v1866), ∀ a, (k1_off64 i v1866) a + S1x16.size a ≤ S2048x32000.size a := fun i v1866 k1_hw63 => k1_hw63.1
theorem k1_off128_inb : ∀ (i : grid1.Coords) (v1866 : BitVec 32) (k1_hw63 : k1_chk63 i v1866), ∀ a, (k1_off128 i v1866) a + S1x16.size a ≤ S2048x32000.size a := fun i v1866 k1_hw63 => k1_hw63.2

def k1_chk65 (v2438 : IVec S16 32) (v2441 : IVec S16 32) : Prop :=
  (∀ a x, ((![v2438, v2441] : Fin 2 → IVec S16 32) a x).toNat < S64x16.size a)
theorem k1_idx1_inb : ∀ (v2438 : IVec S16 32) (v2441 : IVec S16 32) (k1_hw65 : k1_chk65 v2438 v2441), ∀ a x, ((![v2438, v2441] : Fin 2 → IVec S16 32) a x).toNat < S64x16.size a := fun v2438 v2441 k1_hw65 => k1_hw65

def k1_chk66 (v2445 : IVec S16 32) (v2448 : IVec S16 32) : Prop :=
  (∀ a x, ((![v2445, v2448] : Fin 2 → IVec S16 32) a x).toNat < S64x16.size a)
theorem k1_idx2_inb : ∀ (v2445 : IVec S16 32) (v2448 : IVec S16 32) (k1_hw66 : k1_chk66 v2445 v2448), ∀ a x, ((![v2445, v2448] : Fin 2 → IVec S16 32) a x).toNat < S64x16.size a := fun v2445 v2448 k1_hw66 => k1_hw66

def k1_chk67 (v2452 : IVec S16 32) (v2455 : IVec S16 32) : Prop :=
  (∀ a x, ((![v2452, v2455] : Fin 2 → IVec S16 32) a x).toNat < S64x16.size a)
theorem k1_idx3_inb : ∀ (v2452 : IVec S16 32) (v2455 : IVec S16 32) (k1_hw67 : k1_chk67 v2452 v2455), ∀ a x, ((![v2452, v2455] : Fin 2 → IVec S16 32) a x).toNat < S64x16.size a := fun v2452 v2455 k1_hw67 => k1_hw67

def k1_chk68 (v2459 : IVec S16 32) (v2462 : IVec S16 32) : Prop :=
  (∀ a x, ((![v2459, v2462] : Fin 2 → IVec S16 32) a x).toNat < S64x16.size a)
theorem k1_idx4_inb : ∀ (v2459 : IVec S16 32) (v2462 : IVec S16 32) (k1_hw68 : k1_chk68 v2459 v2462), ∀ a x, ((![v2459, v2462] : Fin 2 → IVec S16 32) a x).toNat < S64x16.size a := fun v2459 v2462 k1_hw68 => k1_hw68
def k1_off129 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_971_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "gap" => some ((28799 / 31999 : ℝ) : EReal)
  | "off" => some ((1 / 319990 : ℝ) : EReal)
  | _ => none
-- ==== ReferenceIdeal.lean ====
abbrev S2048x32000 : Shape := ⟨2, ![2048, 32000]⟩
abbrev S2048 : Shape := ⟨1, ![2048]⟩
abbrev S_ : Shape := ⟨0, ![]⟩
abbrev S2048x1 : Shape := ⟨2, ![2048, 1]⟩
abbrev S2048x2 : Shape := ⟨2, ![2048, 2]⟩

abbrev nBuf : Space → Nat
  | .hbm => 52
  | .vmem => 0
  | .smem => 0
  | _ => 0

abbrev bufTy : (tb : Table) → Fin (tcTables nBuf tb) → BufTy
  | .hbm, ⟨0, _⟩ => ⟨S2048x32000, .f32⟩
  | .hbm, ⟨1, _⟩ => ⟨S2048, .i32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S2048x32000, .f32⟩
  | .hbm, ⟨9, _⟩ => ⟨S2048x32000, .f32⟩
  | .hbm, ⟨10, _⟩ => ⟨S2048x32000, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x1, .f32⟩
  | .hbm, ⟨15, _⟩ => ⟨S2048x32000, .f32⟩
  | .hbm, ⟨16, _⟩ => ⟨S2048x32000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x32000, .f32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x1, .i32⟩
  | .hbm, ⟨41, _⟩ => ⟨S2048x2, .i32⟩
  | .hbm, ⟨42, _⟩ => ⟨S2048, .f32⟩
  | .hbm, ⟨43, _⟩ => ⟨S2048x32000, .f32⟩
  | .hbm, ⟨44, _⟩ => ⟨S2048x32000, .f32⟩
  | .hbm, ⟨45, _⟩ => ⟨S2048x32000, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_cst_2 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_3 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_4 : Ref sig .tc := ⟨.hbm, 32, rfl⟩
abbrev main_v10 : Ref sig .tc := ⟨.hbm, 33, rfl⟩
abbrev main_v11 : Ref sig .tc := ⟨.hbm, 34, rfl⟩
abbrev main_c_5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_cst_8 : Ref sig .tc := ⟨.hbm, 50, rfl⟩
abbrev main_v24 : Ref sig .tc := ⟨.hbm, 51, rfl⟩

abbrev nD : Nat := 1
abbrev τ : Topo := Topo.v7x

variable {F : FTy → Type} [FloatOps F]
-- ==== Proof.Loop.lean ====
/- The SparseCore function's text as a loop.  The printed function loads, checks and issues one copy
   for each of its 64 targets, one after the other, then waits for the 64 copies, then adds up what
   they brought.  Here the same statements are written as a recursion over the number of copies still
   to be issued, and the printed function is shown to be that recursion by unfolding. -/
module

public import proofs.«01_k».proof.Proof.Gen.KernelIdeal
public import proofs.«01_k».proof.Proof.Gen.KernelIdeal.Skeleton
public import Idealize.ShloMosaic.Lib.Pipeline.Regions

@[expose] public section

noncomputable section

namespace Cert.Proof.Tile

open Cert.KernelIdeal Cert.KernelIdeal.Gen
open Idealize.ShloMosaic Idealize.SL.Sem

variable {F : FTy → Type} [FloatOps F] [Named F]

/-- Where copy number `c` of tile `i` starts in the predictions, its target being `v`: row
    `base + c`, column `v` rounded down to a multiple of 16. -/
def offs (i : grid1.Coords) (c v : BitVec 32) : Fin 2 → Nat :=
  let v2 : BitVec 32 := Scalar.muli (Scalar.addi (Scalar.muli (BitVec.ofNat 32 (i 1).val) 2#32) (BitVec.ofNat 32 (i 0).val)) 64#32
  let sv : BitVec 32 := Scalar.subi (Scalar.extui (Scalar.cmpi .sgt v 0#32)) (Scalar.extui (Scalar.cmpi .slt v 0#32))
  let s16 : BitVec 32 := Scalar.subi (Scalar.extui (Scalar.cmpi .sgt 16#32 0#32)) (Scalar.extui (Scalar.cmpi .slt 16#32 0#32))
  let down : BitVec 1 := Scalar.andi (Scalar.cmpi .ne sv s16) (Scalar.cmpi .ne (Scalar.remsi v 16#32) 0#32)
  let q : BitVec 32 := Scalar.divsi v 16#32
  let v23 : BitVec 32 := Scalar.select down (Scalar.subi q 1#32) q
  ![(Scalar.addi v2 c).toNat, (Scalar.muli v23 16#32).toNat]

/-- The copy's piece lies inside the predictions. -/
def Fits (i : grid1.Coords) (j : ℕ) (v : BitVec 32) : Prop :=
  ∀ a, offs i (BitVec.ofNat 32 j) v a + S1x16.size a ≤ S2048x32000.size a

/-- What is checked before copy `j`: that its piece fits, for the issue and again for the wait; once
    only for the last. -/
def Chk (i : grid1.Coords) (j : ℕ) (v : BitVec 32) : Prop :=
  Bool.rec (Fits i j v) (Fits i j v ∧ Fits i j v) (Nat.blt j 63)

instance fitsDec (i : grid1.Coords) (j : ℕ) (v : BitVec 32) : Decidable (Fits i j v) :=
  inferInstanceAs (Decidable (∀ a, offs i (BitVec.ofNat 32 j) v a + S1x16.size a ≤ S2048x32000.size a))

def chkDec (i : grid1.Coords) (j : ℕ) (v : BitVec 32) : Decidable (Chk i j v) :=
  Bool.rec (motive := fun b => Decidable (Bool.rec (Fits i j v) (Fits i j v ∧ Fits i j v) b))
    (decidable_of_iff' (Fits i j v) Iff.rfl) (decidable_of_iff' (Fits i j v ∧ Fits i j v) Iff.rfl) (Nat.blt j 63)

theorem Chk.of_fits {i : grid1.Coords} {j : ℕ} {v : BitVec 32} (h : Fits i j v) : Chk i j v := by
  unfold Chk; cases Nat.blt j 63
  · exact h
  · exact ⟨h, h⟩

theorem Chk.fits {i : grid1.Coords} {j : ℕ} {v : BitVec 32} (h : Chk i j v) : Fits i j v := by
  unfold Chk at h; revert h; cases Nat.blt j 63
  · exact fun h => h
  · exact fun h => h.1

theorem row_inb {j : ℕ} (h : j < 64) : ∀ a, (![j, 0] : Fin 2 → Nat) a + S1x16.size a ≤ S64x16.size a := by
  intro a; fin_cases a
  · show j + 1 ≤ 64; omega
  · show 0 + 16 ≤ 16; omega

theorem grp_inb {j : ℕ} (h : j < 64) : ∀ a, (![j / 16 * 16] : Fin 1 → Nat) a + S16.size a ≤ S64.size a := by
  intro a; fin_cases a
  show j / 16 * 16 + 16 ≤ 64; omega

theorem lane_slices (j : ℕ) : S16.Slices ![j % 16] S1 := by
  refine ⟨rfl, fun a => ?_⟩
  fin_cases a
  show j % 16 + 1 ≤ 16; omega

section Prog

variable (i : grid1.Coords) (arg2 : Memref sig .scVector .hbm S2048x32000 .f32) (arg3 : Memref sig .scVector .hbm S2048 .i32)
  (arg4 : Memref sig .scVector .hbm S32x16 .f32) (arg5 : Memref sig .scVector .vmem S64 .i32) (arg6 : Memref sig .scVector .vmem S64x16 .f32)
  (arg7 : Memref sig .scVector .vmem S16 .f32) (arg8 r0 r1 : DmaSems sig S_)

abbrev TProg (F : FTy → Type) [FloatOps F] [Named F] (i : grid1.Coords) :=
  Prog (TpuEff nD τ sig (Elt F) Λ₀ (.scVector ((i 0).castLE hcore1) ((i 1).castLE hsub1))) PUnit

/-- The piece of the predictions copy `j` reads. -/
abbrev srcOf (j : ℕ) (v : BitVec 32) (h : Fits i j v) : Memref sig .scVector .hbm S16 .f32 :=
  (arg2.slice (Rect.unit (s := S2048x32000) (offs i (BitVec.ofNat 32 j) v) S1x16.size h) (fun _ => rfl)).squeeze S16 squeezes_S1x16_S16

/-- The row of the scratch copy `j` writes. -/
abbrev dstOf (j : ℕ) (h : j < 64) : Memref sig .scVector .vmem S16 .f32 :=
  (arg6.slice (Rect.unit (s := S64x16) ![j, 0] S1x16.size (row_inb h)) (fun _ => rfl)).squeeze S16 squeezes_S1x16_S16

/-- Target `j`, out of the 16 targets loaded around it. -/
def lane (j : ℕ) (x : Vec F S16 .i32) : BitVec 32 :=
  extractAt ![0] (extractStridedSlice S1 ![j % 16] x (lane_slices j) : IVec S1 32) inpos_S1_p0

/-- The tile's block of targets. -/
abbrev tgtOf : Memref sig .scVector .hbm S64 .i32 :=
  arg3.slice (Rect.unit (s := S2048) (k1_off1 i) S64.size (k1_off1_inb i)) (fun _ => rfl)

/-- The tile's row of the partial sums. -/
abbrev outOf : Memref sig .scVector .hbm S16 .f32 :=
  (arg4.slice (Rect.unit (s := S32x16) (k1_off129 i) S1x16.size (k1_off129_inb i)) (fun _ => rfl)).squeeze S16 squeezes_S1x16_S16

/-- The rows of the scratch a group of 16 targets starting at `c` names. -/
def rowIx (c : BitVec 32) : IVec S16 32 := addi (broadcast S16 c) (iota .scVector S16 32 [0] iota_S16_d0_w32_scVector)

/-- The lanes of a group of 16 targets: each modulo 16. -/
def laneIx (x : Vec F S16 .i32) : IVec S16 32 := andi x (broadcast S16 15#32)

/-- The copies not issued yet, `n` of them, then the waits gathered in `acc`, then `tail`. -/
def copies (tail : TProg F i) : (n : ℕ) → n ≤ 64 → (TProg F i → TProg F i) → TProg F i
  | 0, _, acc => acc tail
  | n + 1, hn, acc =>
    .op (.load arg5 (Rect.unit (s := S64) ![(63 - n) / 16 * 16] S16.size (grp_inb (j := 63 - n) (by omega))).toLoadRect (View.loadsAt_vmem h_S16)) fun x =>
    .op (TpuEff.assume (Chk i (63 - n) (lane (63 - n) x)) (chkDec i (63 - n) (lane (63 - n) x))) fun h =>
    .op (.enqueueDmaAs (srcOf i arg2 (63 - n) (lane (63 - n) x) h.down.fits) (.here (dstOf arg6 (63 - n) (by omega))) .same (.dma arg8.sem)
      ((View.wordExact_bits rfl).reshape _ _) ((View.wordExact_bits rfl).reshape _ _) ⟨Or.inl rfl, trivial⟩) fun _ =>
    copies tail n (by omega) fun t => acc (.op (.waitDma2 arg8.sem (srcOf i arg2 (63 - n) (lane (63 - n) x) h.down.fits) (dstOf arg6 (63 - n) (by omega))
      ((View.wordExact_bits rfl).reshape _ _) ((View.wordExact_bits rfl).reshape _ _)) fun _ => t)

/-- Targets `16 * g` to `16 * g + 15`, their lanes in the copied pieces, and what lies there. -/
def pick (c : BitVec 32) (o : ℕ) (ho : ∀ a, (![o] : Fin 1 → Nat) a + S16.size a ≤ S64.size a) (k : Vec F S16 .f32 → TProg F i) : TProg F i :=
  .op (.load arg5 (Rect.unit (s := S64) ![o] S16.size ho).toLoadRect (View.loadsAt_vmem h_S16)) fun x =>
  .op (TpuEff.assume (k1_chk65 (rowIx c) (laneIx (F := F) x)) (k1_chk65.dec (rowIx c) (laneIx (F := F) x))) fun h =>
  (SparseCore.vectorLoadIdx arg6 ![rowIx c, laneIx (F := F) x] (k1_idx1_inb _ _ h.down) (View.loads_vmem h_S64x16)).bind k

/-- What follows the waits: the four groups added up, scaled, stored and copied out. -/
def tail (harg7 : arg7.IsWhole) : TProg F i :=
  pick i arg5 arg6 0#32 0 inb_S64_S16_0 fun y0 =>
  pick i arg5 arg6 16#32 16 inb_S64_S16_16 fun y1 =>
  pick i arg5 arg6 32#32 32 inb_S64_S16_32 fun y2 =>
  pick i arg5 arg6 48#32 48 inb_S64_S16_48 fun y3 =>
  .op (.load arg7 (Rect.unit (s := S16) ![0] S16.size inb_S16_S16_0).toLoadRect (View.loadsAt_vmem h_S16)) fun _ =>
  .op (.store arg7 (Rect.unit (s := S16) ![0] S16.size inb_S16_S16_0) (k1_pay73 y0 y1 y2 y3) Finset.univ (View.stores_vmem_bits_univ h_S16 rfl) (.inl rfl)) fun _ =>
  .op (.enqueueDmaAs arg7 (.here (outOf i arg4)) .same (.dma r1.sem) harg7.wordExact ((View.wordExact_bits rfl).reshape _ _) ⟨Or.inl rfl, trivial⟩) fun _ =>
  .op (.waitDma2 r1.sem arg7 (outOf i arg4) harg7.wordExact ((View.wordExact_bits rfl).reshape _ _)) fun _ => .ret ⟨⟩

/-- The whole function: the targets fetched, the 64 copies issued and waited for, the rest. -/
def gather (harg5 : arg5.IsWhole) (harg7 : arg7.IsWhole) : TProg F i :=
  .op (.enqueueDmaAs (tgtOf i arg3) (.here arg5) .same (.dma r0.sem) (View.wordExact_bits rfl) harg5.wordExact ⟨Or.inl rfl, trivial⟩) fun _ =>
  .op (.waitDma2 r0.sem (tgtOf i arg3) arg5 (View.wordExact_bits rfl) harg5.wordExact) fun _ =>
  copies i arg2 arg5 arg6 arg8 (tail i arg4 arg5 arg6 arg7 r1 harg7) 64 le_rfl fun t => t

set_option maxRecDepth 65536 in
/-- The printed function is that loop. -/
theorem gather_eq (harg2 : arg2.IsWhole) (harg3 : arg3.IsWhole) (harg4 : arg4.IsWhole) (harg5 : arg5.IsWhole) (harg6 : arg6.IsWhole) (harg7 : arg7.IsWhole) :
    cc1__sc_gather (F := F) i arg2 harg2 arg3 harg3 arg4 harg4 arg5 harg5 arg6 harg6 arg7 harg7 arg8 r0 r1
      = gather i arg2 arg3 arg4 arg5 arg6 arg7 arg8 r0 r1 harg5 harg7 := by chain_rfl

end Prog

end Cert.Proof.Tile

end
-- ==== Proof.Common.lean ====
/- What the modules share: the program as the launch theorem takes it, the ghost state, the arrays, and what the
   SparseCore's tiles bring out of them. -/
module

public import proofs.«01_k».proof.Proof.Loop
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Batch
public import Idealize.ShloMosaic.Lib.ValueIdxCore

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipeline's rounds, the counters of the tiles' copies -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb (U := UU)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance EC_landsIn : (EC : UEmb Counters 𝕄).LandsIn (upEmb : UEmb _ 𝕄) := by infer_instance

/-! ## The arrays -/

variable (m : (ℓ : Loc nD τ sig) → Buf (Elt F) ℓ) (ρ : Dev nD → PrngReg)

/-- The predictions, the targets (the arguments), the tiles' partial sums, as locations of device `d`. -/
abbrev pLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v1

abbrev pV : Memref sig .scVector .hbm S2048x32000 .f32 := Memref.whole main_arg0_scv
abbrev tV : Memref sig .scVector .hbm S2048 .i32 := Memref.whole main_arg1_scv
abbrev oV : Memref sig .scVector .hbm S32x16 .f32 := Memref.whole main_v1_scv
abbrev sT : Memref sig .scVector .vmem S64 .i32 := Memref.whole cc1_scratch0
abbrev sV : Memref sig .scVector .vmem S64x16 .f32 := Memref.whole cc1_scratch1
abbrev sO : Memref sig .scVector .vmem S16 .f32 := Memref.whole cc1_scratch2

abbrev rowN (n : ℕ) : Fin 2048 := ⟨n % 2048, Nat.mod_lt _ (by decide)⟩
abbrev colN (n : ℕ) : Fin 32000 := ⟨n % 32000, Nat.mod_lt _ (by decide)⟩

/-- Row `r`'s target. -/
def tgt (d : Dev nD) (r : Fin 2048) : BitVec 32 := m (tLoc d) (ix1 r)

/-- What the proof asks of the launch memory: every target names a class. -/
def PreOK : Prop := ∀ (d : Dev nD) (r : Fin 2048), (tgt m d r).toNat < 32000

/-- The predictions, as a matrix. -/
def predM (d : Dev nD) (r : Fin 2048) (c : Fin 32000) : Elt F .f32 := m (pLoc d) (ix2 r c)

/-- Row `r`'s prediction for its target. -/
def predAt (d : Dev nD) (r : Fin 2048) : Elt F .f32 := predM m d r (colN (tgt m d r).toNat)

/-- What group `g` of 16 rows of tile `w` picks. -/
def gat (d : Dev nD) (w g : ℕ) : Vec F S16 .f32 := fun x => predAt m d (rowN (64 * w + 16 * g + (x 0).val))

/-- The partial sums the tiles leave: row `w` is tile `w`'s. -/
def outVal (d : Dev nD) : Vec F S32x16 .f32 := fun ix =>
  k1_pay73 (gat m d (ix 0).val 0) (gat m d (ix 0).val 1) (gat m d (ix 0).val 2) (gat m d (ix 0).val 3) (ix1 (ix 1))

/-- Tile `i`'s number, and its first row. -/
abbrev wid (i : grid1.Coords) : ℕ := 2 * (i 1).val + (i 0).val
abbrev base (i : grid1.Coords) : ℕ := 64 * wid i

theorem wid_lt (i : grid1.Coords) : wid i < 32 := by
  have h0 : (i 0).val < 2 := (i 0).isLt
  have h1 : (i 1).val < 16 := (i 1).isLt
  show 2 * (i 1).val + (i 0).val < 32
  omega

/-- What tile `i`'s target scratch holds: its 64 targets. -/
def tgtBuf (d : Dev nD) (i : grid1.Coords) : Vec F S64 .i32 := fun ix => tgt m d (rowN (base i + (ix 0).val))

/-- What tile `i`'s value scratch holds: row `j`, the 16 predictions around target `j`. -/
def valBuf (d : Dev nD) (i : grid1.Coords) : Vec F S64x16 .f32 := fun ix =>
  predM m d (rowN (base i + (ix 0).val)) (colN ((tgt m d (rowN (base i + (ix 0).val))).toNat / 16 * 16 + (ix 1).val))

/-- The piece of the predictions that holds row `r`'s target: its row, the 16 columns around. -/
def pieceSet (d : Dev nD) (r : Fin 2048) : Finset S2048x32000.Idx :=
  Finset.univ.filter fun ix => (ix 0).val = r.val ∧ (ix 1).val / 16 = (tgt m d r).toNat / 16

/-- Tile `w`'s row of the partial sums, and its block of the targets. -/
def outSet (w : ℕ) : Finset S32x16.Idx := Finset.univ.filter fun ix => (ix 0).val = w
def blkSet (w : ℕ) : Finset S2048.Idx := Finset.univ.filter fun ix => (ix 0).val / 64 = w

/-- What tile `i` is handed: its 64 pieces of the predictions and its block of the targets, to read; its row of the
    partial sums, to write. -/
abbrev goPay (d : Dev nD) (i : grid1.Coords) : sProp 𝕄 :=
  iprop((bigSep Finset.univ fun j : Fin 64 => pLoc d ↦[pieceSet m d (rowN (base i + j.val))]{fullShare.right} m (pLoc d))
    ∗ (tLoc d ↦[blkSet (wid i)]{fullShare.right} m (tLoc d))
    ∗ oLoc d ↦[outSet (wid i)]{fullShare} m (oLoc d))

/-- What it brings back: its row, at its partial sums. -/
abbrev tdPay (d : Dev nD) (i : grid1.Coords) : sProp 𝕄 := oLoc d ↦[outSet (wid i)]{fullShare} outVal m d

abbrev cV (i : grid1.Coords) : Fin τ.nSC := (i 0).castLE hcore1
abbrev jV (i : grid1.Coords) : Fin τ.nSub := (i 1).castLE hsub1

end Cert.Proof.Tile

end
-- ==== Proof.TileVals.lean ====
/- The numbers of a tile's copies: where each one starts, that it fits, which elements it reads and writes, and what it
   leaves. -/
module

public import proofs.«01_k».proof.Proof.Common

@[expose] public section

noncomputable section

namespace Cert.Proof.Tile

open Cert.KernelIdeal Cert.KernelIdeal.Gen
open Idealize.ShloMosaic
open Idealize.ShloMosaic.SparseCore (S V T)
open Idealize.ShloMosaic.ValueIdx (ix1 ix2 eq_ix1 eq_ix2)

variable {F : FTy → Type} [FloatOps F] [Named F]

/-! ## Word arithmetic -/

/-- Dividing a word below `2 ^ 31` by 16, as signed words. -/
theorem divsi_16 {v : BitVec 32} (h : v.toNat < 32000) : (Scalar.divsi v 16#32).toNat = v.toNat / 16 := by
  have hm : v.msb = false := by rw [BitVec.msb_eq_decide]; simp; omega
  have hc : ¬ IntOp.SDivCorner v 16#32 := by unfold IntOp.SDivCorner; simp
  show (IntOp.divsi _ v 16#32).toNat = _
  unfold IntOp.divsi
  rw [if_neg hc, BitVec.sdiv_eq, hm, show (16#32).msb = false by decide]
  show (v / 16#32).toNat = _
  rw [BitVec.toNat_udiv]; rfl

/-- No rounding correction is made for a word below `2 ^ 31`. -/
theorem down_eq {v : BitVec 32} (h : v.toNat < 32000) :
    Scalar.andi (Scalar.cmpi .ne (Scalar.subi (Scalar.extui (Scalar.cmpi .sgt v 0#32)) (Scalar.extui (Scalar.cmpi .slt v 0#32)))
      (Scalar.subi (Scalar.extui (Scalar.cmpi .sgt 16#32 0#32)) (Scalar.extui (Scalar.cmpi .slt 16#32 0#32)) : BitVec 32))
      (Scalar.cmpi .ne (Scalar.remsi v 16#32) 0#32) = 0#1 := by
  by_cases h0 : v = 0#32
  · subst h0; decide
  · have hm : v.msb = false := by rw [BitVec.msb_eq_decide]; simp; omega
    have hn : v.toNat ≠ 0 := fun e => h0 (BitVec.eq_of_toNat_eq (by simpa using e))
    have hs : BitVec.slt v 0#32 = false := by
      rw [BitVec.slt_eq_decide, BitVec.toInt_eq_toNat_of_msb hm]; simp
    have hg : BitVec.slt 0#32 v = true := by
      rw [BitVec.slt_eq_decide, BitVec.toInt_eq_toNat_of_msb hm]; simp; omega
    have e1 : Scalar.cmpi .sgt v 0#32 = 1#1 := by
      show BitVec.ofBool (BitVec.slt 0#32 v) = _; rw [hg]; rfl
    have e2 : Scalar.cmpi .slt v 0#32 = 0#1 := by
      show BitVec.ofBool (BitVec.slt v 0#32) = _; rw [hs]; rfl
    rw [e1, e2]
    show (Scalar.cmpi .ne _ _ : BitVec 1) &&& _ = 0#1
    rw [show (Scalar.cmpi .ne (Scalar.subi (Scalar.extui 1#1) (Scalar.extui 0#1))
      (Scalar.subi (Scalar.extui (Scalar.cmpi .sgt 16#32 0#32)) (Scalar.extui (Scalar.cmpi .slt 16#32 0#32)) : BitVec 32) : BitVec 1) = 0#1 by decide]
    exact BitVec.zero_and

/-- Copy `j` of tile `i` starts at row `base i + j`, at its target rounded down to a multiple of 16. -/
theorem offs_eq (i : grid1.Coords) {j : ℕ} (hj : j < 64) {v : BitVec 32} (h : v.toNat < 32000) :
    offs i (BitVec.ofNat 32 j) v = ![base i + j, v.toNat / 16 * 16] := by
  have h0 : (i 0).val < 2 := (i 0).isLt
  have h1 : (i 1).val < 16 := (i 1).isLt
  unfold offs
  dsimp only
  rw [down_eq h]
  have ha : (Scalar.addi (Scalar.muli (Scalar.addi (Scalar.muli (BitVec.ofNat 32 (i 1).val) 2#32) (BitVec.ofNat 32 (i 0).val)) 64#32) (BitVec.ofNat 32 j)).toNat
      = base i + j := by
    show ((BitVec.ofNat 32 (i 1).val * 2#32 + BitVec.ofNat 32 (i 0).val) * 64#32 + BitVec.ofNat 32 j).toNat = 64 * (2 * (i 1).val + (i 0).val) + j
    simp only [BitVec.toNat_add, BitVec.toNat_mul, BitVec.toNat_ofNat]
    omega
  have hb : (Scalar.muli (Scalar.select 0#1 (Scalar.subi (Scalar.divsi v 16#32) 1#32) (Scalar.divsi v 16#32)) 16#32).toNat = v.toNat / 16 * 16 := by
    show ((Scalar.select 0#1 (Scalar.subi (Scalar.divsi v 16#32) 1#32) (Scalar.divsi v 16#32) : BitVec 32) * 16#32).toNat = _
    rw [show (Scalar.select 0#1 (Scalar.subi (Scalar.divsi v 16#32) 1#32) (Scalar.divsi v 16#32) : BitVec 32) = Scalar.divsi v 16#32 from rfl,
      BitVec.toNat_mul, divsi_16 h]
    simp only [BitVec.toNat_ofNat]
    omega
  rw [ha, hb]

theorem base_lt (i : grid1.Coords) {j : ℕ} (hj : j < 64) : base i + j < 2048 := by
  have := wid_lt i
  show 64 * wid i + j < 2048
  omega

/-- A copy fits: its row is one of the 2048, its 16 columns lie among the 32000. -/
theorem fits_of_lt (i : grid1.Coords) {j : ℕ} (hj : j < 64) {v : BitVec 32} (h : v.toNat < 32000) : Fits i j v := by
  unfold Fits
  rw [offs_eq i hj h]
  have := base_lt i hj
  intro a; fin_cases a
  · show base i + j + 1 ≤ 2048; omega
  · show v.toNat / 16 * 16 + 16 ≤ 32000; omega

/-! ## A row of 16, read as a vector -/

theorem squeeze_idx : ∀ l : Fin 16, Shape.reshapeEquiv squeezes_S1x16_S16.numel_eq (ix1 l : S16.Idx) = (ix2 0 l : S1x16.Idx) := by
  decide +kernel

theorem squeeze_idx' (x : S16.Idx) : Shape.reshapeEquiv squeezes_S1x16_S16.numel_eq x = (ix2 0 (x 0) : S1x16.Idx) := by
  conv_lhs => rw [eq_ix1 x]
  exact squeeze_idx (x 0)

/-- Where element `x` of a copy's source lies. -/
theorem src_emb (i : grid1.Coords) {j : ℕ} (hj : j < 64) {v : BitVec 32} (h : v.toNat < 32000) (hf : Fits i j v) (x : S16.Idx) :
    (srcOf i pV j v hf).view.emb x = (ix2 (rowN (base i + j)) (colN (v.toNat / 16 * 16 + (x 0).val)) : S2048x32000.Idx) := by
  have hx : (x 0).val < 16 := (x 0).isLt
  show (Rect.unit (s := S2048x32000) (offs i (BitVec.ofNat 32 j) v) S1x16.size hf).emb (Shape.reshapeEquiv squeezes_S1x16_S16.numel_eq x) = _
  rw [squeeze_idx']
  have hb := base_lt i hj
  funext a; apply Fin.ext
  fin_cases a
  · show offs i (BitVec.ofNat 32 j) v 0 + 1 * 0 = (base i + j) % 2048
    rw [offs_eq i hj h]; show base i + j + 1 * 0 = _; omega
  · show offs i (BitVec.ofNat 32 j) v 1 + 1 * (x 0).val = (v.toNat / 16 * 16 + (x 0).val) % 32000
    rw [offs_eq i hj h]; show v.toNat / 16 * 16 + 1 * (x 0).val = _; omega

/-- Where element `x` of a copy's destination lies. -/
theorem dst_emb {j : ℕ} (hj : j < 64) (x : S16.Idx) : (dstOf sV j hj).view.emb x = (ix2 ⟨j, hj⟩ (x 0) : S64x16.Idx) := by
  show (Rect.unit (s := S64x16) ![j, 0] S1x16.size (row_inb hj)).emb (Shape.reshapeEquiv squeezes_S1x16_S16.numel_eq x) = _
  rw [squeeze_idx']
  funext a; apply Fin.ext
  fin_cases a
  · show j + 1 * 0 = j; omega
  · show 0 + 1 * (x 0).val = (x 0).val; omega

/-- Where element `x` of the tile's row of the partial sums lies. -/
theorem out_emb (i : grid1.Coords) (x : S16.Idx) : (outOf i oV).view.emb x = (ix2 ⟨wid i, wid_lt i⟩ (x 0) : S32x16.Idx) := by
  show (Rect.unit (s := S32x16) (k1_off129 i) S1x16.size (k1_off129_inb i)).emb (Shape.reshapeEquiv squeezes_S1x16_S16.numel_eq x) = _
  rw [squeeze_idx']
  funext a; apply Fin.ext
  fin_cases a
  · show k1_off129 i 0 + 1 * 0 = wid i
    rw [k1_off129_eq]; rfl
  · show k1_off129 i 1 + 1 * (x 0).val = (x 0).val
    rw [k1_off129_eq]; show 0 + 1 * (x 0).val = _; omega

/-- Where element `x` of the tile's block of the targets lies. -/
theorem tgt_emb (i : grid1.Coords) (x : S64.Idx) : (tgtOf i tV).view.emb x = (ix1 (rowN (base i + (x 0).val)) : S2048.Idx) := by
  have hx : (x 0).val < 64 := (x 0).isLt
  have hb := base_lt i hx
  show (Rect.unit (s := S2048) (k1_off1 i) S64.size (k1_off1_inb i)).emb x = _
  funext a; apply Fin.ext
  fin_cases a
  show k1_off1 i 0 + 1 * (x 0).val = (base i + (x 0).val) % 2048
  rw [k1_off1_eq]
  show 128 * (i 1).val + 64 * (i 0).val + 1 * (x 0).val = _
  rw [Nat.mod_eq_of_lt hb]
  show _ = 64 * (2 * (i 1).val + (i 0).val) + (x 0).val
  omega

variable (m : (ℓ : Loc nD τ sig) → Buf (Elt F) ℓ)

/-! ## Which elements -/

/-- Membership in the elements a view reaches. -/
theorem mem_view_set {κ : Kind} {sp : Space} {s : Shape} {e : EltTy} (v : View sig κ sp s e) (y : v.ty.Idx) : y ∈ v.set ↔ ∃ x, v.emb x = y := by
  unfold View.set; simp [Finset.mem_map]

theorem src_set (d : Dev nD) (i : grid1.Coords) {j : ℕ} (hj : j < 64) (h : (tgt m d (rowN (base i + j))).toNat < 32000)
    (hf : Fits i j (tgt m d (rowN (base i + j)))) :
    (srcOf i pV j (tgt m d (rowN (base i + j))) hf).view.set = pieceSet m d (rowN (base i + j)) := by
  ext y
  refine (mem_view_set _ y).trans ?_
  unfold pieceSet
  rw [Finset.mem_filter]
  constructor
  · rintro ⟨x, rfl⟩
    have hx : (x 0).val < 16 := (x 0).isLt
    rw [src_emb i hj h hf]
    refine ⟨Finset.mem_univ _, rfl, ?_⟩
    show ((tgt m d (rowN (base i + j))).toNat / 16 * 16 + (x 0).val) % 32000 / 16 = _
    omega
  · rintro ⟨-, h0, h1⟩
    have hy : (y 1).val < 32000 := (y 1).isLt
    refine ⟨ix1 ⟨(y 1).val % 16, Nat.mod_lt _ (by decide)⟩, ?_⟩
    rw [src_emb i hj h hf]
    funext a; apply Fin.ext
    fin_cases a
    · exact h0.symm
    · show ((tgt m d (rowN (base i + j))).toNat / 16 * 16 + (y 1).val % 16) % 32000 = (y 1).val
      omega

/-- Row `j` of the value scratch. -/
def valSet (j : ℕ) : Finset S64x16.Idx := Finset.univ.filter fun ix => (ix 0).val = j

theorem dst_set {j : ℕ} (hj : j < 64) : (dstOf sV j hj).view.set = valSet j := by
  ext y
  refine (mem_view_set _ y).trans ?_
  unfold valSet
  rw [Finset.mem_filter]
  constructor
  · rintro ⟨x, rfl⟩
    rw [dst_emb hj]
    exact ⟨Finset.mem_univ _, rfl⟩
  · rintro ⟨-, h0⟩
    refine ⟨ix1 (y 1), ?_⟩
    rw [dst_emb hj]
    funext a; apply Fin.ext
    fin_cases a
    · exact h0.symm
    · rfl

theorem out_set (i : grid1.Coords) : (outOf i oV).view.set = outSet (wid i) := by
  ext y
  refine (mem_view_set _ y).trans ?_
  unfold outSet
  rw [Finset.mem_filter]
  constructor
  · rintro ⟨x, rfl⟩
    rw [out_emb]
    exact ⟨Finset.mem_univ _, rfl⟩
  · rintro ⟨-, h0⟩
    refine ⟨ix1 (y 1), ?_⟩
    rw [out_emb]
    funext a; apply Fin.ext
    fin_cases a
    · exact h0.symm
    · rfl

theorem tgt_set (i : grid1.Coords) : (tgtOf i tV).view.set = blkSet (wid i) := by
  have hw := wid_lt i
  ext y
  refine (mem_view_set _ y).trans ?_
  unfold blkSet
  rw [Finset.mem_filter]
  constructor
  · rintro ⟨x, rfl⟩
    have hx : (x 0).val < 64 := (x 0).isLt
    rw [tgt_emb]
    refine ⟨Finset.mem_univ _, ?_⟩
    show (64 * wid i + (x 0).val) % 2048 / 64 = wid i
    omega
  · rintro ⟨-, h0⟩
    have hy : (y 0).val < 2048 := (y 0).isLt
    refine ⟨ix1 ⟨(y 0).val % 64, Nat.mod_lt _ (by decide)⟩, ?_⟩
    rw [tgt_emb]
    funext a; apply Fin.ext
    fin_cases a
    show (64 * wid i + (y 0).val % 64) % 2048 = (y 0).val
    have h0' : (y 0).val / 64 = wid i := h0
    omega

/-! ## What a load of 16 targets reads -/

theorem load_tgt (d : Dev nD) (i : grid1.Coords) {o : ℕ} (ho : ∀ a, (![o] : Fin 1 → Nat) a + S16.size a ≤ S64.size a) (x : S16.Idx) :
    (sT : Memref sig .scVector .vmem S64 .i32).view.readAt (Elt F) (Rect.unit (s := S64) ![o] S16.size ho).toLoadRect (tgtBuf m d i) x
      = tgt m d (rowN (base i + (o + (x 0).val))) := by
  simp only [View.readAt_apply, Memref.view_whole, View.read_whole]
  show tgt m d (rowN (base i + ((Rect.unit (s := S64) ![o] S16.size ho).toLoadRect.idx x 0).val)) = _
  rw [LoadRect.idx_apply]
  show tgt m d (rowN (base i + (o + 1 * (x 0).val))) = _
  rw [Nat.one_mul]

/-- Target `j` is `j`'s lane of the 16 around it. -/
theorem lane_load (d : Dev nD) (i : grid1.Coords) {j : ℕ} (hj : j < 64) :
    lane (F := F) j ((sT : Memref sig .scVector .vmem S64 .i32).view.readAt (Elt F) (Rect.unit (s := S64) ![j / 16 * 16] S16.size (grp_inb hj)).toLoadRect (tgtBuf m d i))
      = tgt m d (rowN (base i + j)) := by
  unfold lane extractAt extractStridedSlice
  rw [load_tgt]
  show tgt m d (rowN (base i + (j / 16 * 16 + (j % 16 + 0)))) = _
  congr 2
  omega

/-- The group's lanes name places inside the value scratch. -/
theorem chk_pick (c : ℕ) (hc : c + 16 ≤ 64) (x : Vec F S16 .i32) : k1_chk65 (rowIx (BitVec.ofNat 32 c)) (laneIx (F := F) x) := by
  intro a y
  have hy : (y 0).val < 16 := (y 0).isLt
  fin_cases a
  · show (BitVec.ofNat 32 c + BitVec.ofNat 32 ([0].foldl (fun n a => n * S16.size a + (y a).val) 0)).toNat < 64
    simp only [List.foldl, BitVec.toNat_add, BitVec.toNat_ofNat]
    show (c % 2 ^ 32 + (0 * _ + (y 0).val) % 2 ^ 32) % 2 ^ 32 < 64
    omega
  · show ((x y : BitVec 32) &&& 15#32).toNat < 16
    rw [BitVec.toNat_and]
    exact Nat.lt_succ_of_le Nat.and_le_right

/-- What a group picks: each row's prediction for its target. -/
theorem pick_val (d : Dev nD) (i : grid1.Coords) (hpre : PreOK m) {c : ℕ} {g : ℕ} (hcg : c = 16 * g) (hc : c + 16 ≤ 64)
    (ho : ∀ a, (![c] : Fin 1 → Nat) a + S16.size a ≤ S64.size a)
    (h : ∀ a y, ((![rowIx (BitVec.ofNat 32 c), laneIx (F := F) ((sT : Memref sig .scVector .vmem S64 .i32).view.readAt (Elt F) (Rect.unit (s := S64) ![c] S16.size ho).toLoadRect (tgtBuf m d i))] : Fin 2 → IVec S16 32) a y).toNat < S64x16.size a) :
    loadIdx (((sV : Memref sig .scVector .vmem S64x16 .f32).access (.whole S64x16)).read (Elt F) (valBuf m d i))
      ![rowIx (BitVec.ofNat 32 c), laneIx (F := F) ((sT : Memref sig .scVector .vmem S64 .i32).view.readAt (Elt F) (Rect.unit (s := S64) ![c] S16.size ho).toLoadRect (tgtBuf m d i))] h
      = gat m d (wid i) g := by
  funext x
  have hx : (x 0).val < 16 := (x 0).isLt
  unfold loadIdx
  set L := (sT : Memref sig .scVector .vmem S64 .i32).view.readAt (Elt F) (Rect.unit (s := S64) ![c] S16.size ho).toLoadRect (tgtBuf m d i) with hL
  have hrow : ((rowIx (BitVec.ofNat 32 c)) x).toNat = c + (x 0).val := by
    show (BitVec.ofNat 32 c + BitVec.ofNat 32 (0 * 16 + (x 0).val)).toNat = _
    simp only [BitVec.toNat_add, BitVec.toNat_ofNat]
    omega
  have hlane : ((laneIx (F := F) L) x).toNat = (tgt m d (rowN (base i + (c + (x 0).val)))).toNat % 16 := by
    show ((L x : BitVec 32) &&& 15#32).toNat = _
    rw [hL, load_tgt, BitVec.toNat_and]
    exact Nat.and_two_pow_sub_one_eq_mod _ 4
  have hread : ∀ y : S64x16.Idx, ((sV : Memref sig .scVector .vmem S64x16 .f32).access (.whole S64x16)).read (Elt F) (valBuf m d i) y = valBuf m d i y := by
    intro y
    rw [View.read_apply]
    show valBuf m d i ((Rect.whole S64x16).emb y) = _
    congr 1
    funext a; apply Fin.ext
    show 0 + 1 * (y a).val = (y a).val
    omega
  rw [hread]
  show predM m d (rowN (base i + ((rowIx (BitVec.ofNat 32 c)) x).toNat))
      (colN ((tgt m d (rowN (base i + ((rowIx (BitVec.ofNat 32 c)) x).toNat))).toNat / 16 * 16 + ((laneIx (F := F) L) x).toNat)) = _
  rw [hrow, hlane]
  unfold gat predAt
  have e : base i + (c + (x 0).val) = 64 * wid i + 16 * g + (x 0).val := by
    show 64 * wid i + (c + (x 0).val) = _
    omega
  rw [e]
  congr 2
  omega

end Cert.Proof.Tile

end
-- ==== Proof.Tile.lean ====
/- One tile's run: the 64 targets fetched, 64 copies issued on one semaphore and all waited for, the picked predictions
   added up and written out.  The copies are one batch: copy `j` delivers row `j` of the value scratch, and the rows are
   taken out once every wait is done. -/
module

public import proofs.«01_k».proof.Proof.TileVals

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 eq_ix1 eq_ix2)
open Idealize.ShloMosaic.Transfers (Batch pending pending_zero bigSep_pending_zero bigSep_pending_step)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (d : Dev nD) (i : grid1.Coords)

abbrev thr : Thread nD τ := V d (cV i) (jV i)

/-- What the tile owes, with the waits it has recorded so far. -/
def owesEx (O : CellTallies nD τ sig (HIx 1)) (W : Waits sig (HIx 1)) : sProp 𝕄 :=
  iprop(∃ W', ⌜∀ p ∈ W', p ∈ W ∨ p.2 = none⌝ ∗ owes (thr d i) O W')

theorem owesEx_intro {O : CellTallies nD τ sig (HIx 1)} {W W' : Waits sig (HIx 1)} (h : ∀ p ∈ W', p ∈ W ∨ p.2 = none) :
    (owes (thr d i) O W' : sProp 𝕄) ⊢ owesEx d i O W := by
  unfold owesEx
  iintro H
  iexists W'
  isplitr; · ipureintro; exact h
  iexact H

theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

/-! ## A copy waited for at once -/

/-- A copy and its wait: the destination comes back rewritten, stated as `R`. -/
theorem copy_wp {s : Shape} {e : EltTy} {sp sp' : Space} {src : Memref sig .scVector sp s e} {dst : Memref sig .scVector sp' s e} {sem : DmaSem sig}
    {h1 : src.view.WordExact} {h2 : dst.view.WordExact} {h3 : DmaTarget.Typed (nD := nD) (p := (thr d i).2) sp (.dma sem) (.here dst)}
    {h4 : src.view.WordExact} {h5 : dst.view.WordExact}
    {k : PUnit → TProg F i} {Q : PUnit → sProp 𝕄} {q : PosShare TreeShare}
    {fs : Buf (Elt F) (src.view.loc (thr d i))} {fd : Buf (Elt F) (dst.view.loc (thr d i))} {R : sProp 𝕄} [BI.Storable (upEmb : UEmb _ 𝕄) R]
    {N : ℕ} (hN : dst.view.dmaCredit = N) (hpos : 0 < N)
    {O : CellTallies nD τ sig (HIx 1)} {W : Waits sig (HIx 1)} (hO : ∀ g, O g none = 0)
    (hR : (dst.view.loc (thr d i) ↦[dst.view.set]{fullShare} (dst.view.write (Elt F) fd (src.view.read (Elt F) fs) Finset.univ)) ⊢ R) :
    iprop(levAts (K (F := F)).L (K (F := F)).lev ∗ (src.view.loc (thr d i) ↦[src.view.set]{q} fs) ∗ (dst.view.loc (thr d i) ↦[dst.view.set]{fullShare} fd)
        ∗ semVal (thr d i, .dma sem) 0 ∗ owesEx d i O W)
      ⊢ iprop((iprop(R ∗ (src.view.loc (thr d i) ↦[src.view.set]{q} fs) ∗ semVal (thr d i, .dma sem) 0 ∗ owesEx d i O W) -∗ wp frame (wpE (defs₀ (F := F)) 𝒱₀ (thr d i) none) Set.univ (k ⟨⟩) Q)
        -∗ wp frame (wpE (defs₀ (F := F)) 𝒱₀ (thr d i) none) Set.univ
            (.op (.enqueueDmaAs src (.here dst) .same (.dma sem) h1 h2 h3) fun _ => .op (.waitDma2 sem src dst h4 h5) k) Q) := by
  iintro ⟨#Hlv, Hs, Hd, Hsem, HO⟩ Hk
  imod (Transfers.batch_alloc' (Lvl := ℕ) EC (thr d i) none N (fun _ : Fin 1 => iprop(R ∗ (src.view.loc (thr d i) ↦[src.view.set]{q} fs))) (sm := .dma sem) (E := Set.univ)) $$ Hsem with HB
  iapply (Transfers.wp_dmaBatch EC 𝒱₀ (thr d i) none (src := src) (via := .same) (dst := dst) (sm := .dma sem) (hsrc := h1) (hdst := h2) (hsem := h3) (q := q) (fs := fs) (fd := fd) (Sd := dst.view.set) (D := fun _ : Fin 1 => iprop(R ∗ (src.view.loc (thr d i) ↦[src.view.set]{q} fs))) (j := 0) (u := 0) none
    N (show dst.view.amount (.dma sem) = N from hN) (Finset.Subset.refl _) Nat.zero_lt_one (Nat.zero_le _) (show _ ⊢ iprop(R ∗ (src.view.loc (thr d i) ↦[src.view.set]{q} fs)) from sep_mono hR .rfl)) $$ [Hs Hd HB]
  · isplitl [Hs]; · iexact Hs
    isplitl [Hd]; · iexact Hd
    iexact HB
  iintro HB
  unfold owesEx
  icases HO with ⟨%W', %hW', HO⟩
  iapply (Transfers.wp_waitBatchMulO EC 𝒱₀ (thr d i) none none 1 (N := N) (hN.trans (Nat.one_mul _).symm) (D := fun _ : Fin 1 => iprop(R ∗ (src.view.loc (thr d i) ↦[src.view.set]{q} fs))) (j := 1) (u := 0)
    (Nat.le_of_eq (by rw [Nat.zero_add, Nat.one_mul, Nat.mul_one])) (O := O) (W := W')) $$ [HB HO]
  · isplitl [HB]; · iexact HB
    isplitl [HO]; · iexact HO
    iapply ((K (F := F)).mayWait_none (SemLoc.dma sem) hO); iexact Hlv
  iintro ⟨HB, HO⟩
  rw [show 0 + 1 * N = N * 1 by rw [Nat.zero_add, Nat.one_mul, Nat.mul_one]]
  imod (Transfers.batch_collect' EC (thr d i) hpos) $$ HB with ⟨HD, Hsem⟩
  ihave HD' := (Entails.of_eq (bigSep_univ_of_subsingleton (Φ := fun _ : Fin 1 => iprop(R ∗ (src.view.loc (thr d i) ↦[src.view.set]{q} fs))) (0 : Fin 1))) $$ HD
  icases HD' with ⟨HR, Hs⟩
  iapply Hk
  isplitl [HR]; · iexact HR
  isplitl [Hs]; · iexact Hs
  isplitl [Hsem]; · iexact Hsem
  iexists (insert (SemLoc.dma sem, (none : HIx 1)) W')
  isplitr; · ipureintro; exact waits_insert hW' _
  iexact HO

/-! ## The 64 copies -/

abbrev NV : ℕ := sig.dmaCredit .scVector (Kind.scVector.table .vmem) (cc1_scratch1 : Ref sig .scVector).idx S16 .f32
theorem NV_pos : 0 < NV := sig.dmaCredit_pos _ _ _ _ _ (by decide)

abbrev srcPiece (j : ℕ) : sProp 𝕄 := pLoc d ↦[pieceSet m d (rowN (base i + j))]{fullShare.right} m (pLoc d)
abbrev valRow (f : Buf (Elt F) ((thr d i).loc cc1_scratch1)) (j : ℕ) : sProp 𝕄 := (thr d i).loc cc1_scratch1 ↦[valSet j]{fullShare} f
abbrev delivered (t : Fin 64) : sProp 𝕄 := valRow d i (valBuf m d i) t.val

abbrev tgtPts : sProp 𝕄 := (sT : Memref sig .scVector .vmem S64 .i32).view.loc (thr d i) ↦{fullShare} tgtBuf m d i

abbrev batch (k u : ℕ) : sProp 𝕄 := Batch EC (thr d i) (.dma cc1_scratch3.sem) none NV (delivered m d i) k u

/-- What copy `j` lands is row `j` of the value scratch. -/
theorem copy_lands (f6 : Buf (Elt F) ((thr d i).loc cc1_scratch1)) {j : ℕ} (hj : j < 64) (h : (tgt m d (rowN (base i + j))).toNat < 32000)
    (hf : Fits i j (tgt m d (rowN (base i + j)))) :
    ∀ y ∈ valSet j, ((dstOf sV j hj).view.write (Elt F) f6 ((srcOf i pV j (tgt m d (rowN (base i + j))) hf).view.read (Elt F) (m (pLoc d))) Finset.univ) y
      = valBuf m d i y := by
  intro y hy
  rw [← dst_set hj] at hy
  obtain ⟨x, rfl⟩ := (mem_view_set (dstOf sV j hj).view y).mp hy
  rw [View.write_emb_of_mem _ _ (Finset.mem_univ x), View.read_apply, src_emb i hj h hf, dst_emb hj]
  rfl

/-- Copy `j`'s issue. -/
theorem issue_wp (hpre : PreOK m) (f6 : Buf (Elt F) ((thr d i).loc cc1_scratch1)) {j : ℕ} (hj : j < 64) {v : BitVec 32} (hv : v = tgt m d (rowN (base i + j))) (hf : Fits i j v)
    {h1 : (srcOf i pV j v hf).view.WordExact} {h2 : (dstOf sV j hj).view.WordExact}
    {h3 : DmaTarget.Typed (nD := nD) (p := (thr d i).2) .hbm (.dma cc1_scratch3.sem) (.here (dstOf sV j hj))}
    {k : PUnit → TProg F i} {Q : PUnit → sProp 𝕄} :
    iprop(srcPiece m d i j ∗ valRow d i f6 j ∗ batch m d i j 0)
      ⊢ iprop((batch m d i (j + 1) 0 -∗ wp frame (wpE (defs₀ (F := F)) 𝒱₀ (thr d i) none) Set.univ (k ⟨⟩) Q)
        -∗ wp frame (wpE (defs₀ (F := F)) 𝒱₀ (thr d i) none) Set.univ
            (.op (.enqueueDmaAs (srcOf i pV j v hf) (.here (dstOf sV j hj)) .same (.dma cc1_scratch3.sem) h1 h2 h3) k) Q) := by
  subst hv
  have hlt := hpre d (rowN (base i + j))
  have key := Transfers.wp_dmaBatch (defs := defs₀ (F := F)) (Q := Q) (k := k) EC 𝒱₀ (thr d i) none (src := srcOf i pV j (tgt m d (rowN (base i + j))) hf) (via := .same) (dst := dstOf sV j hj)
    (hsrc := h1) (hdst := h2) (hsem := h3) (q := fullShare.right) (fs := m (pLoc d)) (fd := f6) (Sd := valSet j) (D := delivered m d i) (j := j) (u := 0)
    none NV rfl (by rw [dst_set hj]) hj (Nat.zero_le _)
    (sep_elim_left.trans (Entails.of_eq (pointsTo_congr (copy_lands m d i f6 hj hlt hf))))
  rw [src_set m d i hj hlt hf] at key
  exact key

/-- Before copy `k` is issued. -/
def Issuing (f6 : Buf (Elt F) ((thr d i).loc cc1_scratch1)) (R : sProp 𝕄) (O : CellTallies nD τ sig (HIx 1)) (W : Waits sig (HIx 1)) (k : ℕ) : sProp 𝕄 :=
  iprop(levAts (K (F := F)).L (K (F := F)).lev ∗ tgtPts m d i ∗ R ∗ (bigSep (pending k) fun t : Fin 64 => srcPiece m d i t.val)
    ∗ (bigSep (pending k) fun t : Fin 64 => valRow d i f6 t.val) ∗ batch m d i k 0 ∗ owesEx d i O W)

/-- Every copy issued, `u` of them waited for. -/
def Waiting (R : sProp 𝕄) (O : CellTallies nD τ sig (HIx 1)) (W : Waits sig (HIx 1)) (u : ℕ) : sProp 𝕄 :=
  iprop(levAts (K (F := F)).L (K (F := F)).lev ∗ tgtPts m d i ∗ R ∗ batch m d i 64 (u * NV) ∗ owesEx d i O W)

/-- One wait. -/
theorem wait_wp {R : sProp 𝕄} {O : CellTallies nD τ sig (HIx 1)} {W : Waits sig (HIx 1)} (hO : ∀ g, O g none = 0) {u : ℕ} (hu : u < 64)
    {sp' : Space} {s' : Shape} {e' : EltTy} {src : Memref sig .scVector sp' s' e'} {j : ℕ} (hj : j < 64) {h4 : src.view.WordExact} {h5 : (dstOf sV j hj).view.WordExact}
    {t : TProg F i} {Q : PUnit → sProp 𝕄}
    (h : Waiting m d i R O W (u + 1) ⊢ wp frame (wpE (defs₀ (F := F)) 𝒱₀ (thr d i) none) Set.univ t Q) :
    Waiting m d i R O W u ⊢ wp frame (wpE (defs₀ (F := F)) 𝒱₀ (thr d i) none) Set.univ
      (.op (.waitDma2 cc1_scratch3.sem src (dstOf sV j hj) h4 h5) fun _ => t) Q := by
  unfold Waiting owesEx
  unfold Waiting owesEx at h
  iintro ⟨#Hlv, Ht, HR, HB, %W', %hW', HO⟩
  iapply (Transfers.wp_waitBatchMulO EC 𝒱₀ (thr d i) none none 1 (N := NV) (show (dstOf sV j hj).view.dmaCredit = 1 * NV from (Nat.one_mul _).symm)
    (D := delivered m d i) (j := 64) (u := u * NV) (by rw [← Nat.add_mul, Nat.mul_comm NV]; exact Nat.mul_le_mul_right _ hu) (O := O) (W := W')) $$ [HB HO]
  · isplitl [HB]; · iexact HB
    isplitl [HO]; · iexact HO
    iapply ((K (F := F)).mayWait_none (SemLoc.dma cc1_scratch3.sem) hO); iexact Hlv
  rw [show u * NV + 1 * NV = (u + 1) * NV from (Nat.add_mul _ _ _).symm]
  iintro ⟨HB, HO⟩
  iapply h
  isplitr; · iexact Hlv
  isplitl [Ht]; · iexact Ht
  isplitl [HR]; · iexact HR
  isplitl [HB]; · iexact HB
  iexists (insert (SemLoc.dma cc1_scratch3.sem, (none : HIx 1)) W')
  isplitr; · ipureintro; exact waits_insert hW' _
  iexact HO

/-- The copies still to issue, the waits gathered, the tail. -/
theorem copies_wp (hpre : PreOK m) {f6 : Buf (Elt F) ((thr d i).loc cc1_scratch1)} {R : sProp 𝕄} {O : CellTallies nD τ sig (HIx 1)} {W : Waits sig (HIx 1)}
    (hO : ∀ g, O g none = 0) {tl : TProg F i} {Q : PUnit → sProp 𝕄}
    (htail : Waiting m d i R O W 64 ⊢ wp frame (wpE (defs₀ (F := F)) 𝒱₀ (thr d i) none) Set.univ tl Q) :
    ∀ (n : ℕ) (hn : n ≤ 64) (acc : TProg F i → TProg F i),
      (∀ t, (Waiting m d i R O W (64 - n) ⊢ wp frame (wpE (defs₀ (F := F)) 𝒱₀ (thr d i) none) Set.univ t Q)
        → Waiting m d i R O W 0 ⊢ wp frame (wpE (defs₀ (F := F)) 𝒱₀ (thr d i) none) Set.univ (acc t) Q)
      → Issuing m d i f6 R O W (64 - n) ⊢ wp frame (wpE (defs₀ (F := F)) 𝒱₀ (thr d i) none) Set.univ (copies i pV sT sV cc1_scratch3 tl n hn acc) Q
  | 0, hn, acc, hacc => by
      refine BIBase.Entails.trans ?_ (hacc tl htail)
      unfold Issuing Waiting
      iintro ⟨Hlv, Ht, HR, -, -, HB, HO⟩
      isplitl [Hlv]; · iexact Hlv
      isplitl [Ht]; · iexact Ht
      isplitl [HR]; · iexact HR
      isplitl [HB]; · rw [Nat.zero_mul]; iexact HB
      iexact HO
  | n + 1, hn, acc, hacc => by
      have hk : 64 - (n + 1) = 63 - n := by omega
      have hk1 : 64 - n = 63 - n + 1 := by omega
      have hlt : 63 - n < 64 := by omega
      have ih := copies_wp hpre (f6 := f6) hO htail n (by omega)
      rw [hk] at hacc ⊢
      unfold copies Issuing
      rw [bigSep_pending_step _ (63 - n) hlt, bigSep_pending_step _ (63 - n) hlt]
      iintro ⟨#Hlv, Ht, HR, ⟨Hs, Hss⟩, ⟨Hv, Hvs⟩, HB, HO⟩
      iapply (wp_load 𝒱₀ (thr d i) none Set.univ (m := (sT : Memref sig .scVector .vmem S64 .i32)) (S := Finset.univ) (Finset.subset_univ _)) $$ Ht; iintro Ht
      have hlane := lane_load m d i hlt
      have hf : Fits i (63 - n) (lane (F := F) (63 - n) ((sT : Memref sig .scVector .vmem S64 .i32).view.readAt (Elt F)
          (Rect.unit (s := S64) ![(63 - n) / 16 * 16] S16.size (grp_inb hlt)).toLoadRect (tgtBuf m d i))) := by
        rw [hlane]; exact fits_of_lt i hlt (hpre d _)
      rw [wp_assume_of _ _ _ _ (Chk.of_fits hf)]
      iapply (issue_wp m d i hpre f6 hlt hlane hf) $$ [Hs Hv HB]
      · isplitl [Hs]; · iexact Hs
        isplitl [Hv]; · iexact Hv
        iexact HB
      iintro HB
      iapply (ih _ ?hacc')
      case hacc' =>
        intro t ht
        refine hacc _ (wait_wp m d i hO hlt hlt ?_)
        rw [← hk1]; exact ht
      unfold Issuing
      rw [hk1]
      isplitr; · iexact Hlv
      isplitl [Ht]; · iexact Ht
      isplitl [HR]; · iexact HR
      isplitl [Hss]; · iexact Hss
      isplitl [Hvs]; · iexact Hvs
      isplitl [HB]; · iexact HB
      iexact HO

/-! ## What follows the waits -/

abbrev valPts : sProp 𝕄 := ((sV : Memref sig .scVector .vmem S64x16 .f32).access (.whole S64x16)).loc (thr d i) ↦{fullShare} valBuf m d i

/-- A group of 16: its targets loaded, its predictions picked. -/
theorem pick_wp (hpre : PreOK m) {c g : ℕ} (hcg : c = 16 * g) (hc : c + 16 ≤ 64) (ho : ∀ a, (![c] : Fin 1 → Nat) a + S16.size a ≤ S64.size a)
    {k : Vec F S16 .f32 → TProg F i} {Q : PUnit → sProp 𝕄} :
    iprop(tgtPts m d i ∗ valPts m d i)
      ⊢ iprop((iprop(tgtPts m d i ∗ valPts m d i) -∗ wp frame (wpE (defs₀ (F := F)) 𝒱₀ (thr d i) none) Set.univ (k (gat m d (wid i) g)) Q)
        -∗ wp frame (wpE (defs₀ (F := F)) 𝒱₀ (thr d i) none) Set.univ (pick i sT sV (BitVec.ofNat 32 c) c ho k) Q) := by
  unfold pick
  iintro ⟨Ht, Hv⟩ Hk
  iapply (wp_load 𝒱₀ (thr d i) none Set.univ (m := (sT : Memref sig .scVector .vmem S64 .i32)) (S := Finset.univ) (Finset.subset_univ _)) $$ Ht; iintro Ht
  rw [wp_assume_of _ _ _ _ (chk_pick c hc _)]
  iapply (SparseCore.wp_vectorLoadIdx 𝒱₀ (thr d i) none Set.univ (base := (sV : Memref sig .scVector .vmem S64x16 .f32)) (S := Finset.univ) (q := fullShare) (k := k) (Finset.subset_univ _)) $$ Hv; iintro Hv
  rw [pick_val m d i hpre hcg hc ho]
  iapply Hk
  isplitl [Ht]; · iexact Ht
  iexact Hv

abbrev rO : Rect S16 := Rect.unit (s := S16) ![0] S16.size inb_S16_S16_0

theorem rO_emb (x : S16.Idx) : ((sO : Memref sig .scVector .vmem S16 .f32).access rO).emb x = x := by
  funext a; apply Fin.ext
  obtain rfl : a = (0 : Fin 1) := Subsingleton.elim (α := Fin 1) _ _
  show 0 + 1 * (x 0).val = (x 0).val
  omega

/-- What the tile writes out is its row of the partial sums. -/
theorem out_lands (f7 : Buf (Elt F) ((thr d i).loc cc1_scratch2)) (g : Buf (Elt F) (oLoc d)) :
    ∀ y ∈ outSet (wid i), ((outOf i oV).view.write (Elt F) g ((sO : Memref sig .scVector .vmem S16 .f32).view.read (Elt F)
        (((sO : Memref sig .scVector .vmem S16 .f32).access rO).write (Elt F) f7
          (k1_pay73 (gat m d (wid i) 0) (gat m d (wid i) 1) (gat m d (wid i) 2) (gat m d (wid i) 3)) Finset.univ)) Finset.univ) y
      = outVal m d y := by
  intro y hy
  rw [← out_set i] at hy
  obtain ⟨x, rfl⟩ := (mem_view_set (outOf i oV).view y).mp hy
  rw [View.write_emb_of_mem _ _ (Finset.mem_univ x), View.read_apply, out_emb]
  show (((sO : Memref sig .scVector .vmem S16 .f32).access rO).write (Elt F) f7
          (k1_pay73 (gat m d (wid i) 0) (gat m d (wid i) 1) (gat m d (wid i) 2) (gat m d (wid i) 3)) Finset.univ) x
    = k1_pay73 (gat m d (wid i) 0) (gat m d (wid i) 1) (gat m d (wid i) 2) (gat m d (wid i) 3) (ix1 (x 0))
  conv_lhs => rw [← rO_emb x]
  rw [View.write_emb_of_mem _ _ (Finset.mem_univ x)]
  conv_lhs => rw [eq_ix1 x]
  rfl

theorem val_disjoint : ∀ a ∈ (Finset.univ : Finset (Fin 64)), ∀ b ∈ (Finset.univ : Finset (Fin 64)), a ≠ b → Disjoint (valSet a.val) (valSet b.val) := by
  intro a _ b _ h
  refine Finset.disjoint_left.mpr fun y h1 h2 => h (Fin.ext ?_)
  exact ((Finset.mem_filter.mp h1).2).symm.trans (Finset.mem_filter.mp h2).2

theorem val_cover : (Finset.univ : Finset (Fin 64)).biUnion (fun j => valSet j.val) = Finset.univ := by
  refine Finset.eq_univ_iff_forall.mpr fun y => Finset.mem_biUnion.mpr ⟨⟨(y 0).val, (y 0).isLt⟩, Finset.mem_univ _, ?_⟩
  exact Finset.mem_filter.mpr ⟨Finset.mem_univ _, rfl⟩

/-- The value scratch is its 64 rows. -/
theorem val_rows (f : Buf (Elt F) ((thr d i).loc cc1_scratch1)) :
    ((thr d i).loc cc1_scratch1 ↦{fullShare} f : sProp 𝕄) = bigSep Finset.univ fun j : Fin 64 => valRow d i f j.val := by
  rw [← pointsTo_biUnion Finset.univ (ℓ := (thr d i).loc cc1_scratch1) (fun j : Fin 64 => valSet j.val) val_disjoint, val_cover]; try rfl

abbrev NO : ℕ := sig.dmaCredit .scVector (Kind.scVector.table .hbm) (main_v1_scv : Ref sig .scVector).idx S16 .f32
theorem NO_pos : 0 < NO := sig.dmaCredit_pos _ _ _ _ _ (by decide)
abbrev NT : ℕ := (sT : Memref sig .scVector .vmem S64 .i32).view.dmaCredit
theorem NT_pos : 0 < NT := View.dmaCredit_pos _ (by decide)

abbrev oPts : sProp 𝕄 := oLoc d ↦[outSet (wid i)]{fullShare} m (oLoc d)
abbrev g3cell : GSem nD τ sig := (thr d i, .dma cc1_scratch3.sem)
abbrev g0cell : GSem nD τ sig := (thr d i, .dma cc1_scoped0.sem)
abbrev g1cell : GSem nD τ sig := (thr d i, .dma cc1_scoped1.sem)

theorem pts_out (f : Buf (Elt F) (oLoc d)) :
    ((outOf i oV).view.loc (thr d i) ↦[(outOf i oV).view.set]{fullShare} f : sProp 𝕄) = oLoc d ↦[outSet (wid i)]{fullShare} f := by
  rw [out_set]
theorem pts_sO (f : Buf (Elt F) ((thr d i).loc cc1_scratch2)) :
    ((sO : Memref sig .scVector .vmem S16 .f32).view.loc (thr d i) ↦[(sO : Memref sig .scVector .vmem S16 .f32).view.set]{fullShare} f : sProp 𝕄)
      = (thr d i).loc cc1_scratch2 ↦{fullShare} f := by
  simp only [Memref.view_whole, View.set_whole]
theorem pts_sT (f : Buf (Elt F) ((thr d i).loc cc1_scratch0)) :
    ((sT : Memref sig .scVector .vmem S64 .i32).view.loc (thr d i) ↦[(sT : Memref sig .scVector .vmem S64 .i32).view.set]{fullShare} f : sProp 𝕄)
      = (thr d i).loc cc1_scratch0 ↦{fullShare} f := by
  simp only [Memref.view_whole, View.set_whole]
theorem pts_tgt (q : PosShare TreeShare) (f : Buf (Elt F) (tLoc d)) :
    ((tgtOf i tV).view.loc (thr d i) ↦[(tgtOf i tV).view.set]{q} f : sProp 𝕄) = tLoc d ↦[blkSet (wid i)]{q} f := by
  rw [tgt_set]

/-- What the tile holds at its end. -/
def Done (X : sProp 𝕄) (O : CellTallies nD τ sig (HIx 1)) (W : Waits sig (HIx 1)) : sProp 𝕄 :=
  iprop(tdPay m d i ∗ ((thr d i).loc cc1_scratch0 ↦{fullShare} tgtBuf m d i) ∗ ((thr d i).loc cc1_scratch1 ↦{fullShare} valBuf m d i)
    ∗ (∃ f, (thr d i).loc cc1_scratch2 ↦{fullShare} f) ∗ semVal (g3cell d i) 0 ∗ semVal (g1cell d i) 0 ∗ X ∗ owesEx d i O W)

theorem tail_wp (hpre : PreOK m) {X : sProp 𝕄} {O : CellTallies nD τ sig (HIx 1)} {W : Waits sig (HIx 1)} (hO : ∀ g, O g none = 0) :
    Waiting m d i iprop(oPts m d i ∗ (∃ f, (thr d i).loc cc1_scratch2 ↦{fullShare} f) ∗ semVal (g1cell d i) 0 ∗ X) O W 64
      ⊢ wp frame (wpE (defs₀ (F := F)) 𝒱₀ (thr d i) none) Set.univ (tail i oV sT sV sO cc1_scoped1 (Memref.isWhole_whole _)) fun _ => Done m d i X O W := by
  unfold Waiting tail
  iintro ⟨#Hlv, Ht, ⟨Ho, ⟨%f7, Hc⟩, Hsem1, HX⟩, HB, HO⟩
  rw [Nat.mul_comm 64 NV]
  imod (Transfers.batch_collect' EC (thr d i) NV_pos) $$ HB with ⟨HD, Hsem3⟩
  ihave Hv := (Entails.of_eq (val_rows d i (valBuf m d i)).symm) $$ HD
  iapply (pick_wp m d i hpre (c := 0) (g := 0) rfl (by decide) _) $$ [Ht Hv]
  · isplitl [Ht] <;> iassumption
  iintro ⟨Ht, Hv⟩
  iapply (pick_wp m d i hpre (c := 16) (g := 1) rfl (by decide) _) $$ [Ht Hv]
  · isplitl [Ht] <;> iassumption
  iintro ⟨Ht, Hv⟩
  iapply (pick_wp m d i hpre (c := 32) (g := 2) rfl (by decide) _) $$ [Ht Hv]
  · isplitl [Ht] <;> iassumption
  iintro ⟨Ht, Hv⟩
  iapply (pick_wp m d i hpre (c := 48) (g := 3) rfl (by decide) _) $$ [Ht Hv]
  · isplitl [Ht] <;> iassumption
  iintro ⟨Ht, Hv⟩
  ihave Hc' := (show ((thr d i).loc cc1_scratch2 ↦{fullShare} f7 : sProp 𝕄) ⊢ ((sO : Memref sig .scVector .vmem S16 .f32).view.loc (thr d i) ↦{fullShare} f7) from .rfl) $$ Hc
  iapply (wp_load 𝒱₀ (thr d i) none Set.univ (m := (sO : Memref sig .scVector .vmem S16 .f32)) (S := Finset.univ) (Finset.subset_univ _)) $$ Hc'; iintro Hc'
  ihave Hc := (show ((sO : Memref sig .scVector .vmem S16 .f32).view.loc (thr d i) ↦{fullShare} f7 : sProp 𝕄) ⊢ (((sO : Memref sig .scVector .vmem S16 .f32).access rO).loc (thr d i) ↦{fullShare} f7) from .rfl) $$ Hc'
  iapply (wp_store 𝒱₀ (thr d i) none Set.univ (m := (sO : Memref sig .scVector .vmem S16 .f32)) (r := rO) (Mk := Finset.univ) (S := Finset.univ) (Finset.subset_univ _)) $$ Hc; iintro Hc
  ihave Hc' := (Entails.of_eq (pts_sO (F := F) d i _).symm) $$ Hc
  ihave Ho' := (Entails.of_eq (pts_out (F := F) d i _).symm) $$ Ho
  iapply (copy_wp d i (R := tdPay m d i) (q := fullShare) (fd := m (oLoc d)) (N := NO) rfl NO_pos (O := O) (W := W) hO ?hR) $$ [Hc' Ho' Hsem1 HO]
  case hR =>
    rw [pts_out]
    exact Entails.of_eq (pointsTo_congr (out_lands m d i f7 (m (oLoc d))))
  · isplitr; · iexact Hlv
    isplitl [Hc']; · iexact Hc'
    isplitl [Ho']; · iexact Ho'
    isplitl [Hsem1]; · iexact Hsem1
    iexact HO
  iintro ⟨Ho, Hc', Hsem1, HO⟩
  ihave Hc := (Entails.of_eq (pts_sO (F := F) d i _)) $$ Hc'
  rw [wp_ret]; imodintro
  unfold Done
  isplitl [Ho]; · iexact Ho
  isplitl [Ht]; · iexact Ht
  isplitl [Hv]; · iexact Hv
  isplitl [Hc]; · iexists _; iexact Hc
  isplitl [Hsem3]; · iexact Hsem3
  isplitl [Hsem1]; · iexact Hsem1
  isplitl [HX]; · iexact HX
  iexact HO

/-! ## The whole tile -/

theorem ownSems0_V :
    (ownSems0 (thr d i) : sProp 𝕄)
      = iprop(semVal (g3cell d i) 0 ∗ semVal (g0cell d i) 0 ∗ semVal (g1cell d i) 0
          ∗ bigSep ((((ownCells (thr d i)).erase (g3cell d i)).erase (g0cell d i)).erase (g1cell d i)) fun g => semVal g 0) := by
  unfold SparseCore.Cfg.ownSems0
  rw [SparseCore.bigSep_erase' ((mem_ownCells (g := g3cell d i)).mpr ⟨rfl, by
      show (SemLoc.dma cc1_scratch3.sem : SemLoc sig).isScoped .scVector = true; decide⟩),
    SparseCore.bigSep_erase' (Finset.mem_erase.mpr ⟨by simp [g3cell, g0cell]; decide, (mem_ownCells (g := g0cell d i)).mpr ⟨rfl, by
      show (SemLoc.dma cc1_scoped0.sem : SemLoc sig).isScoped .scVector = true; decide⟩⟩),
    SparseCore.bigSep_erase' (Finset.mem_erase.mpr ⟨by simp [g0cell, g1cell]; decide, Finset.mem_erase.mpr ⟨by simp [g3cell, g1cell]; decide,
      (mem_ownCells (g := g1cell d i)).mpr ⟨rfl, by show (SemLoc.dma cc1_scoped1.sem : SemLoc sig).isScoped .scVector = true; decide⟩⟩⟩)]

theorem ownBufs_V :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV i) (jV i)) (b := (Proc.scVector (cV i) (jV i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV i) (jV i)) (b := (Proc.scVector (cV i) (jV i)).devRef cc1_scratch2) rfl⟩⟩)]

/-- The fetch lands the tile's 64 targets. -/
theorem fetch_lands (f5 : Buf (Elt F) ((thr d i).loc cc1_scratch0)) :
    (sT : Memref sig .scVector .vmem S64 .i32).view.write (Elt F) f5 ((tgtOf i tV).view.read (Elt F) (m (tLoc d))) Finset.univ = tgtBuf m d i := by
  refine (View.write_whole_univ _ _ _).trans (funext fun x => ?_)
  rw [View.read_apply, tgt_emb]
  rfl

/-- What the tile holds and does not use after its first wait. -/
def Rest : sProp 𝕄 :=
  iprop(semVal (g0cell d i) 0
      ∗ (bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f))
      ∗ bigSep ((((ownCells (thr d i)).erase (g3cell d i)).erase (g0cell d i)).erase (g1cell d i)) fun g => semVal g 0)

theorem done_post (O : CellTallies nD τ sig (HIx 1)) (W : Waits sig (HIx 1)) :
    Done m d i (Rest d i) O W ⊢ iprop(tdPay m d i
      ∗ ((∃ f, (thr d i).loc cc1_scratch0 ↦{fullShare} f) ∗ (∃ f, (thr d i).loc cc1_scratch1 ↦{fullShare} f)
          ∗ (∃ f, (thr d i).loc cc1_scratch2 ↦{fullShare} f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f))
      ∗ (semVal (g3cell d i) 0 ∗ semVal (g0cell d i) 0 ∗ semVal (g1cell d i) 0
          ∗ bigSep ((((ownCells (thr d i)).erase (g3cell d i)).erase (g0cell d i)).erase (g1cell d i)) fun g => semVal g 0)
      ∗ ∃ W', ⌜∀ p ∈ W', p ∈ W ∨ p.2 = none⌝ ∗ owes (thr d i) O W') := by
  unfold Done Rest owesEx
  iintro ⟨Ho, Hs, Hv, Hc, Hsem3, Hsem1, ⟨Hsem0, Hbufs, Hsems⟩, HO⟩
  isplitl [Ho]; · iexact Ho
  isplitl [Hs Hv Hc Hbufs]
  · isplitl [Hs]; · iexists _; iexact Hs
    isplitl [Hv]; · iexists _; iexact Hv
    isplitl [Hc]; · iexact Hc
    iexact Hbufs
  isplitl [Hsem3 Hsem0 Hsem1 Hsems]
  · isplitl [Hsem3]; · iexact Hsem3
    isplitl [Hsem0]; · iexact Hsem0
    isplitl [Hsem1]; · iexact Hsem1
    iexact Hsems
  iexact HO

/-- The tile's run: from its pieces of the predictions, its block of targets and its row of the partial sums, to that
    row at its partial sums. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ goPay m d i
        ∗ scopedBufs (thr d i) ∗ scopedSems0 (thr d i) ∗ owes (thr d i) O W)
      ⊢ wp frame (wpE (defs₀ (F := F)) 𝒱₀ (thr d i) none) Set.univ
          (cc1__sc_gather i pV (Memref.isWhole_whole _) tV (Memref.isWhole_whole _) oV (Memref.isWhole_whole _)
            sT (Memref.isWhole_whole _) sV (Memref.isWhole_whole _) sO (Memref.isWhole_whole _) cc1_scratch3 cc1_scoped0 cc1_scoped1)
          fun _ => iprop(tdPay m d i ∗ scopedBufs (thr d i) ∗ scopedSems0 (thr d i)
            ∗ ∃ W', ⌜∀ p ∈ W', p ∈ W ∨ p.2 = none⌝ ∗ owes (thr d i) O W') := by
  rw [gather_eq]
  unfold gather
  rw [(K (F := F)).scopedBufs_V hF d (cV i) (jV i), SparseCore.Cfg.scopedSems0_V (Val := Elt F) d (cV i) (jV i), ownSems0_V, ownBufs_V]
  iintro ⟨#Hlv, ⟨Hp, Ht, Ho⟩, ⟨⟨%f5, Hs⟩, ⟨%f6, Hv⟩, ⟨%f7, Hc⟩, Hbufs⟩, ⟨Hsem3, Hsem0, Hsem1, Hsems⟩, HO⟩
  ihave HO := (owesEx_intro (F := F) d i (W := W) (fun p hp => Or.inl hp)) $$ HO
  ihave Ht' := (Entails.of_eq (pts_tgt (F := F) d i _ _).symm) $$ Ht
  ihave Hs' := (Entails.of_eq (pts_sT (F := F) d i _).symm) $$ Hs
  iapply (copy_wp d i (R := tgtPts m d i) (q := fullShare.right) (fs := m (tLoc d)) (fd := f5) (N := NT) rfl NT_pos (O := O) (W := W) hO ?hR) $$ [Hs' Ht' Hsem0 HO]
  case hR =>
    rw [pts_sT, fetch_lands]
  · isplitr; · iexact Hlv
    isplitl [Ht']; · iexact Ht'
    isplitl [Hs']; · iexact Hs'
    isplitl [Hsem0]; · iexact Hsem0
    iexact HO
  iintro ⟨Ht, -, Hsem0, HO⟩
  imod (Transfers.batch_alloc' (Lvl := ℕ) EC (thr d i) none NV (delivered m d i) (sm := .dma cc1_scratch3.sem) (E := Set.univ)) $$ Hsem3 with HB
  ihave Hv' := (Entails.of_eq ((val_rows d i f6).trans (bigSep_pending_zero _))) $$ Hv
  ihave Hp' := (Entails.of_eq (bigSep_pending_zero (fun t : Fin 64 => srcPiece m d i t.val))) $$ Hp
  iapply ((copies_wp m d i hpre (f6 := f6) (O := O) (W := W) hO (tail_wp m d i hpre (X := Rest d i) hO) 64 le_rfl (fun t => t) (fun t h => h)).trans
    (wp_mono frame _ _ fun _ => done_post m d i O W))
  unfold Issuing Rest
  isplitr; · iexact Hlv
  isplitl [Ht]; · iexact Ht
  isplitl [Ho Hc Hsem1 Hsem0 Hbufs Hsems]
  · isplitl [Ho]; · iexact Ho
    isplitl [Hc]; · iexists _; iexact Hc
    isplitl [Hsem1]; · iexact Hsem1
    isplitl [Hsem0]; · iexact Hsem0
    isplitl [Hbufs]; · iexact Hbufs
    iexact Hsems
  isplitl [Hp']; · iexact Hp'
  isplitl [Hv']; · iexact Hv'
  isplitl [HB]; · iexact HB
  iexact HO

end Cert.Proof.Tile

end
-- ==== Proof.TcBody.lean ====
/- What the TensorCore's body leaves at a grid point: the running sum plus the block's partial loss. -/
module

public import proofs.«01_k».proof.Proof.Common
public import proofs.«01_k».proof.Proof.Gen.KernelIdeal.Skeleton
public import Idealize.ShloMosaic.Lib.Pipeline.FrameBody
public import Idealize.ShloMosaic.Lib.VecWindow

@[expose] public section

noncomputable section

namespace Cert.Proof.Tc

open Cert.KernelIdeal Cert.KernelIdeal.Gen
open Cert.Proof.Tile
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The contents of a memref's buffer, and the whole buffer held at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The condition under which the body resets the running sum. -/
abbrev cond1 (i : grid0.Coords) : BitVec 1 := Scalar.cmpi .ne (Scalar.extui (Scalar.cmpi .eq (BitVec.ofNat 32 (i 0).val) 0#32) : BitVec 32) 0#32

theorem chunk_inb (k : Fin 10) : ∀ a, (![0, 3200 * k.val] : Fin 2 → ℕ) a + S128x3200.size a ≤ S128x32000.size a := by
  intro a; have := k.isLt
  fin_cases a
  · show 0 + 128 ≤ 128; omega
  · show 3200 * k.val + 3200 ≤ 32000; omega

/-- Columns `3200 k … 3200 k + 3199` of a block. -/
def chunk (b : Vec F S128x32000 .f32) (k : Fin 10) : Vec F S128x3200 .f32 :=
  View.ld (Val := Elt F) (e' := .f32) b (Rect.unit (s := S128x32000) ![0, 3200 * k.val] S128x3200.size (chunk_inb k))

/-- The running sum after a block `b`: `old` plus the block's partial loss. -/
def accNext (b : Vec F S128x32000 .f32) (old : Vec F S1x1 .f32) : Vec F S1x1 .f32 :=
  k0_pay18
    (k0_pay14 (k0_pay8 (k0_pay5 (chunk b 0) (chunk b 1) (chunk b 2)) (chunk b 3) (chunk b 4)) (k0_pay11 (chunk b 5)) (chunk b 6) (chunk b 7))
    (chunk b 8)
    (k0_pay15 (k0_pay9 (k0_pay3 (chunk b 0) (chunk b 1) (chunk b 2)) (chunk b 3) (chunk b 4) (chunk b 5)) (chunk b 6) (chunk b 7) (chunk b 8))
    (k0_pay16 (k0_pay9 (k0_pay3 (chunk b 0) (chunk b 1) (chunk b 2)) (chunk b 3) (chunk b 4) (chunk b 5))
      (k0_pay10 (k0_pay3 (chunk b 0) (chunk b 1) (chunk b 2)) (k0_pay4 (chunk b 0) (chunk b 1) (chunk b 2)) (chunk b 3) (chunk b 4) (chunk b 5))
      (chunk b 6) (chunk b 7) (chunk b 8))
    (chunk b 9) old

/-- A buffer whose last store covered it reads what was stored. -/
theorem held_at (c : Dev nD) (M : Memref sig .tc .vmem S1x1 .f32) (f : Bf (F := F) c M) (off : Fin 2 → ℕ) (inb : ∀ a, off a + S1x1.size a ≤ S1x1.size a)
    (w v : Vec F S1x1 .f32) (L : List (View.Piece (Elt F) S1x1 .f32)) (h : w = v) :
    (pt c M (M.view.writes (Elt F) f (⟨Rect.unit off S1x1.size inb, w⟩ :: L)) : sProp 𝕄)
      ⊢ iprop(∃ f' : Bf (F := F) c M, ⌜M.view.read (Elt F) f' = v⌝ ∗ pt c M f') := by
  iintro H
  iexists (M.view.writes (Elt F) f (⟨Rect.unit off S1x1.size inb, w⟩ :: L))
  isplitr
  · ipureintro
    rw [← h]
    exact View.read_writes_full _ _ _ _ _
  · iexact H

/-- The first point resets the running sum. -/
theorem body_first (c : Dev nD) (i : grid0.Coords) (M0 : Memref sig .tc .vmem S128x32000 .f32) (h0 : M0.IsWhole) (M1 : Memref sig .tc .vmem S1x1 .f32) (h1 : M1.IsWhole)
    (M2 : Memref sig .tc .vmem S1x1 .f32) (h2 : M2.IsWhole) (hc1 : cond1 i = 1#1) (hc2 : ¬ k0_cond2 i = 1#1)
    (f0 : Bf (F := F) c M0) (f1 : Bf (F := F) c M1) (f2 : Bf (F := F) c M2) (Q : PUnit → sProp 𝕄) :
    iprop(pt c M0 f0 ∗ pt c M1 f1 ∗ pt c M2 f2
        ∗ (iprop(pt c M0 f0 ∗ pt c M1 f1
            ∗ (∃ f2' : Bf (F := F) c M2, ⌜M2.view.read (Elt F) f2' = accNext (M0.view.read (Elt F) f0) (k0_pay17 (F := F))⌝ ∗ pt c M2 f2')) -∗ Q ⟨⟩))
      ⊢ wp frame (wpE (defs₀ (F := F)) Variants.none c none) Set.univ (cc0__tc_body i M0 h0 M1 h1 M2 h2) Q := by
  rw [cc0__tc_body_eq_skeleton]
  unfold cc0__tc_body_skel
  rw [k0_part4_eq_skeleton]; unfold k0_part4_skel
  rw [k0_part1_eq_skeleton, k0_part2_eq_skeleton, k0_part3_eq_skeleton]; unfold k0_part1_skel k0_part2_skel k0_part3_skel
  iintro ⟨H0, H1, H2, Hk⟩
  sl_exec!
  sl_unfold_run_names
  sl_step
  iapply Hk
  isplitl [H0]
  · iexact H0
  isplitl [H1]
  · iexact H1
  iapply (held_at c M2 _ _ _ _ _ _ ?h) $$ H2
  exact (congrArg (accNext (F := F) (M0.view.read (Elt F) f0)) (View.readCov_full M2.view _ _ _ _))

/-- A point between adds its block. -/
theorem body_mid (c : Dev nD) (i : grid0.Coords) (M0 : Memref sig .tc .vmem S128x32000 .f32) (h0 : M0.IsWhole) (M1 : Memref sig .tc .vmem S1x1 .f32) (h1 : M1.IsWhole)
    (M2 : Memref sig .tc .vmem S1x1 .f32) (h2 : M2.IsWhole) (hc1 : ¬ cond1 i = 1#1) (hc2 : ¬ k0_cond2 i = 1#1)
    (f0 : Bf (F := F) c M0) (f1 : Bf (F := F) c M1) (f2 : Bf (F := F) c M2) (Q : PUnit → sProp 𝕄) :
    iprop(pt c M0 f0 ∗ pt c M1 f1 ∗ pt c M2 f2
        ∗ (iprop(pt c M0 f0 ∗ pt c M1 f1
            ∗ (∃ f2' : Bf (F := F) c M2, ⌜M2.view.read (Elt F) f2' = accNext (M0.view.read (Elt F) f0) (M2.view.read (Elt F) f2)⌝ ∗ pt c M2 f2')) -∗ Q ⟨⟩))
      ⊢ wp frame (wpE (defs₀ (F := F)) Variants.none c none) Set.univ (cc0__tc_body i M0 h0 M1 h1 M2 h2) Q := by
  rw [cc0__tc_body_eq_skeleton]
  unfold cc0__tc_body_skel
  rw [k0_part4_eq_skeleton]; unfold k0_part4_skel
  rw [k0_part1_eq_skeleton, k0_part2_eq_skeleton, k0_part3_eq_skeleton]; unfold k0_part1_skel k0_part2_skel k0_part3_skel
  iintro ⟨H0, H1, H2, Hk⟩
  sl_exec!
  sl_unfold_run_names
  sl_step
  iapply Hk
  isplitl [H0]
  · iexact H0
  isplitl [H1]
  · iexact H1
  iapply (held_at c M2 _ _ _ _ _ _ ?h) $$ H2
  exact (congrArg (accNext (F := F) (M0.view.read (Elt F) f0)) (View.readAt_full M2.view f2 _))

/-- The last point also stores the sum as the result. -/
theorem body_last (c : Dev nD) (i : grid0.Coords) (M0 : Memref sig .tc .vmem S128x32000 .f32) (h0 : M0.IsWhole) (M1 : Memref sig .tc .vmem S1x1 .f32) (h1 : M1.IsWhole)
    (M2 : Memref sig .tc .vmem S1x1 .f32) (h2 : M2.IsWhole) (hc1 : ¬ cond1 i = 1#1) (hc2 : k0_cond2 i = 1#1)
    (f0 : Bf (F := F) c M0) (f1 : Bf (F := F) c M1) (f2 : Bf (F := F) c M2) (Q : PUnit → sProp 𝕄) :
    iprop(pt c M0 f0 ∗ pt c M1 f1 ∗ pt c M2 f2
        ∗ (iprop(pt c M0 f0 ∗ (∃ f1 : Bf (F := F) c M1, ⌜M1.view.read (Elt F) f1 = accNext (M0.view.read (Elt F) f0) (M2.view.read (Elt F) f2)⌝ ∗ pt c M1 f1)
            ∗ (∃ f2' : Bf (F := F) c M2, ⌜M2.view.read (Elt F) f2' = accNext (M0.view.read (Elt F) f0) (M2.view.read (Elt F) f2)⌝ ∗ pt c M2 f2')) -∗ Q ⟨⟩))
      ⊢ wp frame (wpE (defs₀ (F := F)) Variants.none c none) Set.univ (cc0__tc_body i M0 h0 M1 h1 M2 h2) Q := by
  rw [cc0__tc_body_eq_skeleton]
  unfold cc0__tc_body_skel
  rw [k0_part4_eq_skeleton]; unfold k0_part4_skel
  rw [k0_part1_eq_skeleton, k0_part2_eq_skeleton, k0_part3_eq_skeleton]; unfold k0_part1_skel k0_part2_skel k0_part3_skel
  iintro ⟨H0, H1, H2, Hk⟩
  sl_exec!
  sl_unfold_run_names
  sl_step
  iapply Hk
  isplitl [H0]
  · iexact H0
  isplitl [H1]
  · iapply (held_at c M1 _ _ _ _ _ _ ?k) $$ H1
    refine Eq.trans (View.readCov_full M2.view _ _ _ _) ?_
    exact (congrArg (accNext (F := F) (M0.view.read (Elt F) f0)) (View.readAt_full M2.view f2 _))
  iapply (held_at c M2 _ _ _ _ _ _ ?h) $$ H2
  exact (congrArg (accNext (F := F) (M0.view.read (Elt F) f0)) (View.readAt_full M2.view f2 _))

end Cert.Proof.Tc

end
-- ==== Proof.TcRegion.lean ====
/- The TensorCore's pallas_call as a region of @main: what each grid point finds and leaves, and what the call leaves. -/
module

public import proofs.«01_k».proof.Proof.TcBody
public import proofs.«01_k».proof.Proof.Gen.KernelIdeal.Launch
public import proofs.«01_k».proof.Proof.Gen.KernelIdeal.Points
public import Idealize.ShloMosaic.Lib.Pipeline.RegionArrays

@[expose] public section

noncomputable section

namespace Cert.Proof.Tc

open Cert.KernelIdeal Cert.KernelIdeal.Gen
open Cert.Proof.Tile
open Idealize.ShloMosaic
open Idealize.ShloMosaic.TcCoe Idealize.ShloMosaic.Tactic
open Idealize.ShloMosaic.SparseCore (T)
open Idealize.ShloMosaic.SparseCore.Cfg (HIx)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

variable (m : (ℓ : Loc nD τ sig) → Buf (Elt F) ℓ)

/-! ## What the points find and leave -/

/-- Block `n` of the predictions: rows `128 n … 128 n + 127`. -/
def blkM (d : Dev nD) (n : ℕ) : Vec F S128x32000 .f32 := fun ix => predM m d (rowN (128 * n + (ix 0).val)) (ix 1)

/-- The running sum before point `n`. -/
def accAt (d : Dev nD) : ℕ → Vec F S1x1 .f32
  | 0 => k0_pay17 (F := F)
  | n + 1 => accNext (blkM m d n) (accAt d n)

/-- What a pair of a cell and an index may be, for the waits recorded so far. -/
def recd (d : Dev nD) : Set (SemLoc sig × HIx 1) := {p | (K (F := F)).lev (T d, p.1) p.2 ≤ 8 * SparseCore.Cfg.Blocks.fst (Q := 1) (N := 1) 0}

abbrev scrLoc (d : Dev nD) : Loc nD τ sig := (d : Thread nD τ).loc cc0_scratch0

/-- The scratch before point `t`: anything before the first, then the running sum. -/
def Φat (d : Dev nD) (n : ℕ) : sProp 𝕄 :=
  iprop(∃ f : Buf (Elt F) (scrLoc d), ⌜n ≠ 0 → f = accAt m d n⌝ ∗ scrLoc d ↦{fullShare} f)

/-- The proof data of the pallas_call on device `d`. -/
def dat (d : Dev nD) : Dat τ (Elt F) (HIx 1) ℕ UU ℕ cfg0 d where
  A w := m ((d : Thread nD τ).loc (Pipeline.arrRef spec0 w))
  after w t := match w with
    | ⟨0, _⟩ => blkM m d t.val
    | ⟨1, _⟩ => accAt m d (t.val + 1)
  Φ t := Φat m d t.val
  q _ := fullShare
  owed _ := (K (F := F)).Otc d 0
  recorded _ := recd (F := F) d

/-! ## The conditions at a point -/

theorem cond1_iff (t : Fin cfg0.N) : cond1 (grid0.coords t) = 1#1 ↔ t.val = 0 := by
  revert t; decide +kernel
theorem cond2_iff (t : Fin cfg0.N) : k0_cond2 (grid0.coords t) = 1#1 ↔ t.val = 15 := by
  revert t; decide +kernel
theorem coords_val (t : Fin cfg0.N) : (grid0.coords t 0).val = t.val := by
  revert t; decide +kernel

theorem idle_iff (t : Fin cfg0.N) : idle0 1 (grid0.coords t) = true ↔ t.val ≠ 15 := by
  show (!(k0_cond2 (grid0.coords t) == 1#1)) = true ↔ _
  rw [Bool.not_eq_true', beq_eq_false_iff_ne]
  exact not_congr (cond2_iff t)

/-- The fetched window's buffer holds the point's block when the body runs. -/
theorem before_in (d : Dev nD) (t : Fin cfg0.N) (x : (cfg0.win 0).block.Idx → Elt F (cfg0.win 0).elt) : (dat m d).before 0 t x = blkM m d t.val := by
  unfold Dat.before; rw [if_pos (fetch0_0 t)]
  have ht : t.val < 16 := lt_of_lt_of_eq t.isLt N_0
  funext ix
  show m (pLoc d) (((cfg0.win 0).blk t).view.emb ix) = m (pLoc d) (ix2 (rowN (128 * t.val + (ix 0).val)) (ix 1))
  congr 1
  have h0 : (ix 0).val < 128 := (ix 0).isLt
  funext a; apply Fin.ext
  fin_cases a
  · show (BitVec.ofNat 32 (grid0.coords t 0).val).toNat * 128 + 1 * (ix 0).val = (128 * t.val + (ix 0).val) % 2048
    rw [coords_val, BitVec.toNat_ofNat]; omega
  · show 0 * 32000 + 1 * (ix 1).val = (ix 1).val
    omega

/-- A memref's whole buffer, held at what it reads. -/
theorem owns_intro (d : Dev nD) {sp : Space} {S : Shape} {e : EltTy} (M : Memref sig .tc sp S e) (h : M.IsWhole) (f : Bf (F := F) d M) (X : S.Idx → Elt F e)
    (hf : M.view.read (Elt F) f = X) : (pt d M f : sProp 𝕄) ⊢ owns (d : Thread nD τ) M fullShare X := by
  unfold owns
  iintro H
  iexists f
  isplitr; · ipureintro; exact hf
  rw [h.set_eq_univ]; iexact H

theorem owns_elim (d : Dev nD) {sp : Space} {S : Shape} {e : EltTy} (M : Memref sig .tc sp S e) (h : M.IsWhole) (X : S.Idx → Elt F e) :
    (owns (d : Thread nD τ) M fullShare X : sProp 𝕄) ⊢ iprop(∃ f : Bf (F := F) d M, ⌜M.view.read (Elt F) f = X⌝ ∗ pt d M f) := by
  unfold owns
  rw [h.set_eq_univ]

/-- The body's obligation at every point. -/
theorem body_obligation (d : Dev nD) : BodyObligation (dat m d) (defs₀ (F := F)) 𝒱₀ none Set.univ := fun t => by
  have ht : t.val < 16 := lt_of_lt_of_eq t.isLt N_0
  rw [bigSep_W0, bigSep_W0]
  rw [show (dat m d).Φ t.castSucc = Φat m d t.val from rfl, show (dat m d).Φ t.succ = Φat m d (t.val + 1) from rfl,
    show (dat m d).owesAt none t.succ = (dat m d).owesAt none t.castSucc from rfl]
  dsimp only
  show _ ⊢ wp frame _ Set.univ (bodyAt0 t) _
  have hb : ∀ x, (dat m d).before 0 t x = blkM m d t.val := before_in m d t
  simp only [hb]
  by_cases h15 : t.val = 15
  · have hi : idle0 1 (grid0.coords t) = false := by
      rw [← Bool.not_eq_true, idle_iff]; omega
    rw [hi]
    dsimp only
    iintro ⟨HΦ, Howes, ⟨%x0, H0⟩, ⟨%x1, H1⟩⟩
    icases (owns_elim d _ (hstage0_0 _) _) $$ H0 with ⟨%f0, %hf0, H0⟩
    icases (owns_elim d _ (hstage0_1 _) _) $$ H1 with ⟨%f1, %hf1, H1⟩
    unfold Φat
    icases HΦ with ⟨%f2, %hf2, H2⟩
    have hold : f2 = accAt m d t.val := hf2 (by omega)
    iapply (body_last d (grid0.coords t) _ (hstage0_0 _) _ (hstage0_1 _) (Memref.whole cc0_scratch0) (Memref.isWhole_whole _)
      (fun h => by have := (cond1_iff t).mp h; omega) ((cond2_iff t).mpr h15) f0 f1 f2 _)
    have HV : accNext ((win0_0.stage (cfg0.slots t 0)).view.read (Elt F) f0) ((Memref.whole cc0_scratch0 : Memref sig .tc .vmem S1x1 .f32).view.read (Elt F) f2) = accAt m d (t.val + 1) := by
      rw [hf0]; subst hold; rfl
    isplitl [H0]; · iexact H0
    isplitl [H1]; · iexact H1
    isplitl [H2]; · iexact H2
    iintro ⟨H0, H1, ⟨%f2', %hf2', H2⟩⟩
    isplitl [H2]
    · iexists f2'
      isplitr; · ipureintro; intro _; exact (hf2'.trans HV : f2' = _)
      iexact H2
    isplitl [Howes]; · iexact Howes
    isplitl [H0]; · iapply (owns_intro d _ (hstage0_0 _) f0 _ hf0) $$ H0
    icases H1 with ⟨%f1', %hf1', H1⟩
    iapply (owns_intro d _ (hstage0_1 _) f1' _ (hf1'.trans HV)) $$ H1
  · have hi : idle0 1 (grid0.coords t) = true := (idle_iff t).mpr h15
    have hfl : (win0 1).flush t = false := by
      rw [← Bool.not_eq_true]; intro h; have := (flush0_1 t).mp h; omega
    rw [hi, hfl]
    dsimp only
    have hc2 : ¬ k0_cond2 (grid0.coords t) = 1#1 := fun h => h15 ((cond2_iff t).mp h)
    by_cases h0 : t.val = 0
    · iintro ⟨HΦ, Howes, ⟨%x0, H0⟩, ⟨%x1, H1⟩⟩
      icases (owns_elim d _ (hstage0_0 _) _) $$ H0 with ⟨%f0, %hf0, H0⟩
      icases (owns_elim d _ (hstage0_1 _) _) $$ H1 with ⟨%f1, %hf1, H1⟩
      unfold Φat
      icases HΦ with ⟨%f2, %hf2, H2⟩
      iapply (body_first d (grid0.coords t) _ (hstage0_0 _) _ (hstage0_1 _) (Memref.whole cc0_scratch0) (Memref.isWhole_whole _)
        ((cond1_iff t).mpr h0) hc2 f0 f1 f2 _)
      have HV : accNext ((win0_0.stage (cfg0.slots t 0)).view.read (Elt F) f0) (k0_pay17 (F := F)) = accAt m d (t.val + 1) := by
        rw [hf0, h0]; rfl
      isplitl [H0]; · iexact H0
      isplitl [H1]; · iexact H1
      isplitl [H2]; · iexact H2
      iintro ⟨H0, H1, ⟨%f2', %hf2', H2⟩⟩
      isplitl [H2]
      · iexists f2'
        isplitr; · ipureintro; intro _; exact (hf2'.trans HV : f2' = _)
        iexact H2
      isplitl [Howes]; · iexact Howes
      isplitl [H0]; · iapply (owns_intro d _ (hstage0_0 _) f0 _ hf0) $$ H0
      iexists x1
      iapply (owns_intro d _ (hstage0_1 _) f1 _ hf1) $$ H1
    · iintro ⟨HΦ, Howes, ⟨%x0, H0⟩, ⟨%x1, H1⟩⟩
      icases (owns_elim d _ (hstage0_0 _) _) $$ H0 with ⟨%f0, %hf0, H0⟩
      icases (owns_elim d _ (hstage0_1 _) _) $$ H1 with ⟨%f1, %hf1, H1⟩
      unfold Φat
      icases HΦ with ⟨%f2, %hf2, H2⟩
      have hold : f2 = accAt m d t.val := hf2 h0
      iapply (body_mid d (grid0.coords t) _ (hstage0_0 _) _ (hstage0_1 _) (Memref.whole cc0_scratch0) (Memref.isWhole_whole _)
        (fun h => h0 ((cond1_iff t).mp h)) hc2 f0 f1 f2 _)
      have HV : accNext ((win0_0.stage (cfg0.slots t 0)).view.read (Elt F) f0) ((Memref.whole cc0_scratch0 : Memref sig .tc .vmem S1x1 .f32).view.read (Elt F) f2) = accAt m d (t.val + 1) := by
        rw [hf0]; subst hold; rfl
      isplitl [H0]; · iexact H0
      isplitl [H1]; · iexact H1
      isplitl [H2]; · iexact H2
      iintro ⟨H0, H1, ⟨%f2', %hf2', H2⟩⟩
      isplitl [H2]
      · iexists f2'
        isplitr; · ipureintro; intro _; exact (hf2'.trans HV : f2' = _)
        iexact H2
      isplitl [Howes]; · iexact Howes
      isplitl [H0]; · iapply (owns_intro d _ (hstage0_0 _) f0 _ hf0) $$ H0
      iexists x1
      iapply (owns_intro d _ (hstage0_1 _) f1 _ hf1) $$ H1

/-! ## What the call leaves -/

abbrev rLoc (d : Dev nD) : Loc nD τ sig := (d : Thread nD τ).loc main_v0

/-- The call's result: the running sum after the last point. -/
def tcOut (d : Dev nD) : Buf (Elt F) (rLoc d) := accAt m d 16

theorem arrAt_out (d : Dev nD) : (dat m d).arrAt 1 cfg0.N = tcOut m d := by
  show (dat m d).arrAt 1 (15 + 1) = _
  unfold Dat.arrAt
  dsimp only
  rw [dif_pos (show 15 < cfg0.N by rw [show cfg0.N = 16 from N_0]; decide), if_pos ((flush0_1 _).mpr rfl)]
  funext y
  have hy : y = ((cfg0.win 1).blk ⟨15, by show 15 < grid0.N; rw [N_0]; decide⟩).view.emb (ix2 0 0 : S1x1.Idx) := by
    funext a; apply Fin.ext
    fin_cases a
    · have h : (y 0).val < 1 := (y 0).isLt
      show (y 0).val = 0 * 1 + 1 * 0; omega
    · have h : (y 1).val < 1 := (y 1).isLt
      show (y 1).val = 0 * 1 + 1 * 0; omega
  rw [hy, View.write_emb_of_mem _ _ (Finset.mem_univ _)]
  show accAt m d 16 _ = accAt m d 16 _
  congr 1
  funext a; fin_cases a <;> rfl

/-! ## The region -/

abbrev adm : (p : Fin 1) → (pcfgs (F := F) p).Adm := fun p => (cfgs p).toPCfg_adm
abbrev pdats : (p : Fin 1) → (d : Dev nD) → Dat τ (Elt F) (HIx 1) ℕ UU ℕ (Pipeline.pin (pcfgs (F := F)) adm p) d := fun _ d => dat m d

theorem Otc_none (d : Dev nD) (g : GSem nD τ sig) : (K (F := F)).Otc d 0 g none = (0 : ℕ) := by
  by_contra h
  have h1 := SparseCore.Cfg.lev_of_Otc_pos (K := K (F := F)) (Nat.pos_of_ne_zero h)
  exact absurd (le_trans (Nat.le_add_left 1 _) h1) (Nat.not_succ_le_zero 0)

set_option backward.isDefEq.respectTransparency.types false in
/-- The region: entered with what the TensorCore owes and the call's two arrays, left with the result at the running
    sum after the last point. -/
def reg : Pipeline.RegionSeg (pcfgs (F := F)) adm (pdats m) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody d := (body_obligation m d).loose
  hwaits d := Pipeline.cellsWaits_intro _ _ _ _ _ fun w s t => (K (F := F)).mayWait_none _ (Otc_none d)
  pre d := iprop((∃ W, ⌜(K (F := F)).WBelow (T d) W (8 * SparseCore.Cfg.Blocks.fst (Q := 1) (N := 1) 0)⌝ ∗ owes (d : Thread nD τ) ((K (F := F)).Otc d 0) W)
    ∗ (pLoc d ↦{fullShare} m (pLoc d)) ∗ (rLoc d ↦{fullShare} m (rLoc d)))
  post d := iprop((∃ W, ⌜(K (F := F)).WBelow (T d) W (8 * SparseCore.Cfg.Blocks.fst (Q := 1) (N := 1) 0)⌝ ∗ owes (d : Thread nD τ) ((K (F := F)).Otc d 0) W)
    ∗ (pLoc d ↦{fullShare} m (pLoc d)) ∗ (rLoc d ↦{fullShare} tcOut m d))
  X _ := BI.emp
  Y _ := BI.emp
  Z _ := BI.emp
  hentry d := by
    rw [Pipeline.ownSems0_none, Pipeline.arrays_eq (Pipeline.pin (pcfgs (F := F)) adm) (pdats m) 0 d (launch0).arr_whole ((pdats m 0 d).share_full fun _ => rfl)]
    rw [Pipeline.prefHeld_of_none _ rfl]
    rw [bigSep_W0]
    iintro ⟨⟨⟨%W, %hW, HO⟩, HA, HR⟩, -, -⟩
    imodintro
    isplitl [HA HR]
    · isplitl [HA]; · iexact HA
      iexact HR
    isplitr; · iempintro
    isplitl [HO]
    · unfold Pipeline.Dat.owesAt Pipeline.owesWithin
      iexists W; isplitr; · ipureintro; exact fun p hp => Or.inl (hW p hp)
      iexact HO
    isplitr <;> iempintro
  hin d := by
    rw [show (pdats m 0 d).Φ 0 = Φat m d 0 from rfl]
    rw [scopedRest0_eq]
    unfold Φat
    iintro ⟨-, -, ⟨%f, Hr⟩⟩
    iexists f
    isplitr; · ipureintro; exact fun h => absurd rfl h
    iexact Hr
  hout d := by
    rw [Pipeline.ownSems0_none, show (pdats m 0 d).Φ (Fin.last _) = Φat m d cfg0.N from rfl]
    rw [scopedRest0_eq]
    unfold Φat
    iintro ⟨%f, -, Hr⟩
    isplitr; · iempintro
    isplitr; · iempintro
    iexists f
    iexact Hr
  hexit d := by
    rw [Pipeline.arrays_eq (Pipeline.pin (pcfgs (F := F)) adm) (pdats m) 0 d (launch0).arr_whole ((pdats m 0 d).share_full fun _ => rfl)]
    rw [bigSep_W0]
    iintro ⟨⟨HA, HR⟩, HO, -, -⟩
    imodintro
    unfold Pipeline.Dat.owesAt Pipeline.owesWithin
    icases HO with ⟨%W, %hW, HO⟩
    isplitl [HO]
    · iexists W; isplitr
      · ipureintro
        intro p hp
        rcases hW hp with h | ⟨w, s, rfl⟩
        · exact h
        · exact Nat.zero_le _
      · iexact HO
    have e0 : (pdats m 0 d).arrAt 0 (Pipeline.pin (pcfgs (F := F)) adm 0).N = m (pLoc d) := (pdats m 0 d).arrAt_in 0 rfl _
    have e1 : (pdats m 0 d).arrAt 1 (Pipeline.pin (pcfgs (F := F)) adm 0).N = tcOut m d := arrAt_out m d
    isplitl [HA]
    · rw [← e0]; iexact HA
    · rw [← e1]; iexact HR

end Cert.Proof.Tc

end
-- ==== Proof.Launch.lean ====
/- What the launch theorem asks of the SparseCore call: what its handshakes carry, the tiles' obligation, how the
   operands split among the tiles and the results join, and the ghost state the launch starts from. -/
module

public import proofs.«01_k».proof.Proof.Tile
public import proofs.«01_k».proof.Proof.TcRegion
public import Idealize.ShloMosaic.Lib.Pipeline.Sound

@[expose] public section

noncomputable section

namespace Cert.Proof.Run

open Cert.KernelIdeal Cert.KernelIdeal.Gen
open Cert.Proof.Tile Cert.Proof.Tc
open Idealize.ShloMosaic
open Idealize.ShloMosaic.TcCoe
open Idealize.ShloMosaic.SparseCore (S V T)
open Idealize.ShloMosaic.SparseCore.Cfg (HIx Pay)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

/-! ## What the handshakes carry -/

/-- The tile on vector subcore `s` of SparseCore `c`. -/
def tileAt (c : Fin 2) (s : Fin 16) : grid1.Coords :=
  fun | 0 => c | 1 => s | ⟨_ + 2, h⟩ => absurd h (Nat.not_lt.2 (Nat.le_add_left _ _))

/-- A SparseCore is handed what its 16 tiles are, and brings back what they do. -/
def P : (K (F := F)).Pay (nD := nD) (Val := Elt F) (Name := ℕ) (U := UU) where
  st := fun q d c => match q with | 0 => bigSep Finset.univ fun s : Fin 16 => goPay m d (tileAt (Fin.cast nCore_zero c) s)
  dn := fun q d c => match q with | 0 => bigSep Finset.univ fun s : Fin 16 => tdPay m d (tileAt (Fin.cast nCore_zero c) s)
  go := fun q d c s => match q with | 0 => goPay m d (tileAt (Fin.cast nCore_zero c) (Fin.cast nSub_zero s))
  td := fun q d c s => match q with | 0 => tdPay m d (tileAt (Fin.cast nCore_zero c) (Fin.cast nSub_zero s))
  x := fun _ _ => iprop(emp)

instance P_storable : (P (F := F) m).IsStorable where
  st q d c := match q with
    | 0 => (inferInstance : BI.Storable (upEmb : UEmb _ 𝕄) (bigSep Finset.univ fun s : Fin 16 => goPay m d (tileAt (Fin.cast nCore_zero c) s)))
  dn q d c := match q with
    | 0 => (inferInstance : BI.Storable (upEmb : UEmb _ 𝕄) (bigSep Finset.univ fun s : Fin 16 => tdPay m d (tileAt (Fin.cast nCore_zero c) s)))
  go q d c s := match q with
    | 0 => (inferInstance : BI.Storable (upEmb : UEmb _ 𝕄) (goPay m d (tileAt (Fin.cast nCore_zero c) (Fin.cast nSub_zero s))))
  td q d c s := match q with
    | 0 => (inferInstance : BI.Storable (upEmb : UEmb _ 𝕄) (tdPay m d (tileAt (Fin.cast nCore_zero c) (Fin.cast nSub_zero s))))

/-! ## The tiles' obligation -/

theorem defs₀_tile (c : Fin τ.nSC) (s : Fin τ.nSub) :
    defs₀ (F := F) (.scVector c s) 1 ()
      = SparseCore.onTile hcore1 hsub1 (fun c s => cc1__sc_gather (tileAt c s)
          pV (Memref.isWhole_whole _) tV (Memref.isWhole_whole _) oV (Memref.isWhole_whole _)
          sT (Memref.isWhole_whole _) sV (Memref.isWhole_whole _) sO (Memref.isWhole_whole _) cc1_scratch3 cc1_scoped0 cc1_scoped1) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A B : sProp 𝕄} : iprop(A ∗ emp ∗ B) ⊢ iprop(A ∗ B) := by
  iintro ⟨HA, -, HB⟩
  isplitl [HA] <;> iassumption

set_option maxRecDepth 65536 in
theorem tileObl (hF : (K (F := F)).Facts) (hpre : PreOK m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 1 ())) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 s).val < grid1.bound 1 := ⟨c.isLt, s.isLt⟩
  rw [defs₀_tile]; simp only [SparseCore.onTile, hc, and_self, ↓reduceDIte]
  refine drop_emp.trans ((tile_body m d (tileAt ⟨_, hc.1⟩ ⟨_, hc.2⟩) hF hpre O W hO).trans ?_)
  have hpost : ∀ x : PUnit, iprop(tdPay m d (tileAt (Fin.cast nCore_zero c) (Fin.cast nSub_zero s)) ∗ scopedBufs (V d ((K (F := F)).core 0 c) ((K (F := F)).sub 0 s))
      ∗ scopedSems0 (V d ((K (F := F)).core 0 c) ((K (F := F)).sub 0 s)) ∗ ∃ W', ⌜∀ p ∈ W', p ∈ W ∨ p.2 = none⌝ ∗ owes (V d ((K (F := F)).core 0 c) ((K (F := F)).sub 0 s)) O W') ⊢ _ :=
    fun _ => post_weaken (F := F) (q := 0)
  exact wp_mono (p := cc1__sc_gather (tileAt ⟨((K (F := F)).core 0 c).val, hc.1⟩ ⟨((K (F := F)).sub 0 s).val, hc.2⟩) pV (Memref.isWhole_whole _) tV (Memref.isWhole_whole _) oV (Memref.isWhole_whole _)
          sT (Memref.isWhole_whole _) sV (Memref.isWhole_whole _) sO (Memref.isWhole_whole _) cc1_scratch3 cc1_scoped0 cc1_scoped1) Idealize.ShloMosaic.frame (wpE (defs₀ (F := F)) 𝒱₀ (V d ((K (F := F)).core 0 c) ((K (F := F)).sub 0 s)) none) Set.univ hpost

/-- A SparseCore's share is its tiles' shares. -/
theorem vecSplit : (K (F := F)).VecSplit' (P m) 0 := by
  intro d c
  show (bigSep Finset.univ fun s : Fin 16 => goPay m d (tileAt (Fin.cast nCore_zero c) s)) ⊢ |={Set.univ}=> iprop(
      (bigSep Finset.univ fun s : Fin 16 => goPay m d (tileAt (Fin.cast nCore_zero c) s))
      ∗ ((bigSep Finset.univ fun s : Fin 16 => tdPay m d (tileAt (Fin.cast nCore_zero c) s))
          -∗ bigSep Finset.univ fun s : Fin 16 => tdPay m d (tileAt (Fin.cast nCore_zero c) s)))
  iintro H; imodintro
  isplitl [H]; · iexact H
  iintro H; iexact H

/-! ## The operands among all tiles -/

/-- An array held at some share gives the pieces of a disjoint family, the rest dropped. -/
theorem deal {I : Type} [Fintype I] {ℓ : Loc nD τ sig} {q : PosShare TreeShare} {f : Buf (Elt F) ℓ} (X : I → Finset (Idx ℓ))
    (h : ∀ a ∈ (Finset.univ : Finset I), ∀ b ∈ (Finset.univ : Finset I), a ≠ b → Disjoint (X a) (X b)) :
    (ℓ ↦{q} f : sProp 𝕄) ⊢ bigSep Finset.univ fun a => ℓ ↦[X a]{q} f := by
  rw [← pointsTo_biUnion Finset.univ X h]
  exact (pointsTo_split_subset (Finset.subset_univ _)).1.trans sep_elim_left

theorem wid_tile (c : Fin 2) (s : Fin 16) : wid (tileAt c s) = 2 * s.val + c.val := rfl

theorem piece_row (d : Dev nD) (r : Fin 2048) (ix : S2048x32000.Idx) (h : ix ∈ pieceSet m d r) : (ix 0).val = r.val :=
  (Finset.mem_filter.mp h).2.1

theorem pieces_disjoint (d : Dev nD) : ∀ a ∈ (Finset.univ : Finset ((Fin 2 × Fin 16) × Fin 64)), ∀ b ∈ (Finset.univ : Finset ((Fin 2 × Fin 16) × Fin 64)), a ≠ b →
    Disjoint (pieceSet m d (rowN (base (tileAt a.1.1 a.1.2) + a.2.val))) (pieceSet m d (rowN (base (tileAt b.1.1 b.1.2) + b.2.val))) := by
  rintro ⟨⟨c, s⟩, j⟩ _ ⟨⟨c', s'⟩, j'⟩ _ hne
  refine Finset.disjoint_left.mpr fun ix h h' => hne ?_
  have e : (64 * (2 * s.val + c.val) + j.val) % 2048 = (64 * (2 * s'.val + c'.val) + j'.val) % 2048 :=
    (piece_row m d _ ix h).symm.trans (piece_row m d _ ix h')
  have := c.isLt; have := s.isLt; have := j.isLt; have := c'.isLt; have := s'.isLt; have := j'.isLt
  have h1 : c = c' := Fin.ext (by omega)
  have h2 : s = s' := Fin.ext (by omega)
  have h3 : j = j' := Fin.ext (by omega)
  rw [h1, h2, h3]

theorem blks_disjoint : ∀ a ∈ (Finset.univ : Finset (Fin 2 × Fin 16)), ∀ b ∈ (Finset.univ : Finset (Fin 2 × Fin 16)), a ≠ b →
    Disjoint (blkSet (wid (tileAt a.1 a.2))) (blkSet (wid (tileAt b.1 b.2))) := by
  rintro ⟨c, s⟩ _ ⟨c', s'⟩ _ hne
  refine Finset.disjoint_left.mpr fun ix h h' => hne ?_
  have e : 2 * s.val + c.val = 2 * s'.val + c'.val := (Finset.mem_filter.mp h).2.symm.trans (Finset.mem_filter.mp h').2
  have h1 : c = c' := Fin.ext (by omega)
  have h2 : s = s' := Fin.ext (by omega)
  rw [h1, h2]

theorem outs_disjoint : ∀ a ∈ (Finset.univ : Finset (Fin 2 × Fin 16)), ∀ b ∈ (Finset.univ : Finset (Fin 2 × Fin 16)), a ≠ b →
    Disjoint (outSet (wid (tileAt a.1 a.2))) (outSet (wid (tileAt b.1 b.2))) := by
  rintro ⟨c, s⟩ _ ⟨c', s'⟩ _ hne
  refine Finset.disjoint_left.mpr fun ix h h' => hne ?_
  have e : 2 * s.val + c.val = 2 * s'.val + c'.val := (Finset.mem_filter.mp h).2.symm.trans (Finset.mem_filter.mp h').2
  have h1 : c = c' := Fin.ext (by omega)
  have h2 : s = s' := Fin.ext (by omega)
  rw [h1, h2]

theorem outs_cover : (Finset.univ : Finset (Fin 2 × Fin 16)).biUnion (fun a => outSet (wid (tileAt a.1 a.2))) = Finset.univ := by
  refine Finset.eq_univ_iff_forall.mpr fun ix => Finset.mem_biUnion.mpr ?_
  have h : (ix 0).val < 32 := (ix 0).isLt
  refine ⟨(⟨(ix 0).val % 2, by omega⟩, ⟨(ix 0).val / 2, by omega⟩), Finset.mem_univ _, Finset.mem_filter.mpr ⟨Finset.mem_univ _, ?_⟩⟩
  show (ix 0).val = 2 * ((ix 0).val / 2) + (ix 0).val % 2
  omega

/-- The three arrays, dealt to the tiles. -/
theorem deal_all (d : Dev nD) :
    iprop((pLoc d ↦{fullShare.right} m (pLoc d)) ∗ (tLoc d ↦{fullShare.right} m (tLoc d)) ∗ (oLoc d ↦{fullShare} m (oLoc d)))
      ⊢ (bigSep Finset.univ fun c : Fin 2 => bigSep Finset.univ fun s : Fin 16 => goPay m d (tileAt c s) : sProp 𝕄) := by
  rw [← SparseCore.bigSep_product Finset.univ Finset.univ (fun a : Fin 2 × Fin 16 => goPay m d (tileAt a.1 a.2)), Finset.univ_product_univ, bigSep_sep', bigSep_sep',
    ← SparseCore.bigSep_product Finset.univ Finset.univ (fun a : (Fin 2 × Fin 16) × Fin 64 =>
      (pLoc d ↦[pieceSet m d (rowN (base (tileAt a.1.1 a.1.2) + a.2.val))]{fullShare.right} m (pLoc d) : sProp 𝕄)), Finset.univ_product_univ]
  exact BI.sep_mono (deal _ (pieces_disjoint m d)) (BI.sep_mono (deal _ blks_disjoint) (deal _ outs_disjoint))

/-- The tiles' rows, joined. -/
theorem join_all (d : Dev nD) :
    (bigSep Finset.univ fun c : Fin 2 => bigSep Finset.univ fun s : Fin 16 => tdPay m d (tileAt c s)) ⊢ (oLoc d ↦{fullShare} outVal m d : sProp 𝕄) := by
  rw [← SparseCore.bigSep_product Finset.univ Finset.univ (fun a : Fin 2 × Fin 16 => tdPay m d (tileAt a.1 a.2)), Finset.univ_product_univ,
    ← pointsTo_biUnion Finset.univ _ outs_disjoint, outs_cover]

/-! ## The ghost state of the launch -/

abbrev pCells : Finset (GSem nD τ sig) := Pipeline.cells (nD := nD) (τ := τ) (Pipeline.pin (pcfgs (F := F)) adm) cellOf_inj
abbrev pToks : Finset (GSem nD τ sig × ℕ × Unit) := Pipeline.launchToks (nD := nD) (τ := τ) (Pipeline.pin (pcfgs (F := F)) adm) cellOf_inj

def u₀ : UU := (initOf (K (F := F)).hsCells (K (F := F)).hsToks, (initOf (pCells (F := F)) (pToks (F := F)), 1))

/-- What @main is handed for the pallas_call: its pipeline's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀ G
  rw [bigSep_sep']
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · isplitl [Hg]
    · iapply (Entails.of_eq (bigSep_congr fun (d : Dev nD) _ => bigSep_univ_of_subsingleton (Φ := fun p => Pipeline.cellsGhost (Pipeline.pin (pcfgs (F := F)) adm) EP p d) (0 : Fin 1))) $$ Hg
    · iapply (Entails.of_eq (bigSep_congr fun (d : Dev nD) _ => bigSep_univ_of_subsingleton (Φ := fun p => Pipeline.toksInit (Pipeline.pin (pcfgs (F := F)) adm) EP p d) (0 : Fin 1))) $$ Ht
  rw [show (fun thr : Thread nD τ => bigSep Finset.univ fun q : Fin 1 => (P m).x q thr) = fun _ => (iprop(emp) : sProp 𝕄) from
    funext fun thr => bigSep_univ_of_subsingleton (Φ := fun q => (P m).x q thr) (0 : Fin 1), show (bigSep Finset.univ fun _ : Thread nD τ => (iprop(emp) : sProp 𝕄)) = iprop(emp) from bigSep_emp_const _]
  iempintro

end Cert.Proof.Run

end
-- ==== Proof.Main.lean ====
/- @main's run: the TensorCore's pallas_call, the SparseCore call, the host's operations after them; and the program's
   run from any launch memory whose targets name classes. -/
module

public import proofs.«01_k».proof.Proof.Launch

@[expose] public section

noncomputable section

namespace Cert.Proof.Run

open Cert.KernelIdeal Cert.KernelIdeal.Gen
open Cert.Proof.Tile Cert.Proof.Tc
open Idealize.ShloMosaic
open Idealize.ShloMosaic.TcCoe
open Idealize.ShloMosaic.SparseCore (S V)
open Idealize.ShloMosaic.SparseCore.Cfg (HIx Pay)
open Idealize.ShloMosaic.StableHlo (held wp_seq seq after after_cons after_nil)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host's operations -/

/-- The operations after the two calls. -/
abbrev hostOps : List (HloOp τ sig (Elt F)) :=
  [ StableHlo.reshape main_v0 main_v2 (rfl : (.f32 : EltTy) = .f32) shapeCasts_S1x1_S_,
    StableHlo.nullary main_cst (constant S_ .f32 0x00000000#32),
    StableHlo.binary main_v1 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v2 main_v3 main_v4 (subf : (⟨S_, .f32⟩ : BufTy).Contents (Elt F) → (⟨S_, .f32⟩ : BufTy).Contents (Elt F) → (⟨S_, .f32⟩ : BufTy).Contents (Elt F)),
    StableHlo.nullary main_cst_0 (constant S_ .f32 0x3A000000#32),
    StableHlo.binary main_v4 main_cst_0 main_v5 (mulf : (⟨S_, .f32⟩ : BufTy).Contents (Elt F) → (⟨S_, .f32⟩ : BufTy).Contents (Elt F) → (⟨S_, .f32⟩ : BufTy).Contents (Elt F)) ]

/-- @main: the pallas_call, the SparseCore call, the operations. -/
theorem main_eq (d : Dev nD) :
    main (F := F) d = (SparseCore.liftProg (Prog.op (.customCall (Pipeline.entry 0) ()) fun _ => .ret (⟨⟩ : PUnit))) >>= fun _ => (sc (F := F)).run d 0 >>= fun _ => seq hostOps >>= fun _ => pure ⟨⟩ := by
  simp only [main, seq, bind_assoc, pure_bind]
  rfl

abbrev bRef (b : Ref sig .tc) : DevRef τ sig := Proc.devRef .tc b

/-- The arrays the operations touch. -/
abbrev S8 : Finset (DevRef τ sig) := {bRef main_v0, bRef main_v1, bRef main_v2, bRef main_cst, bRef main_v3, bRef main_v4, bRef main_cst_0, bRef main_v5}

theorem held_S8 (d : Dev nD) (W : Valuation τ sig (Elt F)) :
    (held (SparseCore.T d) S8 W : sProp 𝕄)
      = iprop(((SparseCore.T d).loc main_v0 ↦{fullShare} W (bRef main_v0)) ∗ ((SparseCore.T d).loc main_v1 ↦{fullShare} W (bRef main_v1)) ∗ ((SparseCore.T d).loc main_v2 ↦{fullShare} W (bRef main_v2))
          ∗ ((SparseCore.T d).loc main_cst ↦{fullShare} W (bRef main_cst)) ∗ ((SparseCore.T d).loc main_v3 ↦{fullShare} W (bRef main_v3)) ∗ ((SparseCore.T d).loc main_v4 ↦{fullShare} W (bRef main_v4))
          ∗ ((SparseCore.T d).loc main_cst_0 ↦{fullShare} W (bRef main_cst_0)) ∗ ((SparseCore.T d).loc main_v5 ↦{fullShare} W (bRef main_v5))) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((pLoc d ↦{fullShare} W main_arg0) ∗ (tLoc d ↦{fullShare} W main_arg1)
          ∗ ((SparseCore.T d).loc main_v0 ↦{fullShare} W main_v0) ∗ ((SparseCore.T d).loc main_v1 ↦{fullShare} W main_v1) ∗ ((SparseCore.T d).loc main_v2 ↦{fullShare} W main_v2)
          ∗ ((SparseCore.T d).loc main_cst ↦{fullShare} W main_cst) ∗ ((SparseCore.T d).loc main_v3 ↦{fullShare} W main_v3) ∗ ((SparseCore.T d).loc main_v4 ↦{fullShare} W main_v4)
          ∗ ((SparseCore.T d).loc main_cst_0 ↦{fullShare} W main_cst_0) ∗ ((SparseCore.T d).loc main_v5 ↦{fullShare} W main_v5)) := by
  unfold unscopedBufs
  rw [show (Finset.univ.filter fun b : Ref sig .tc => ¬ b.isScoped)
      = {main_arg0, main_arg1, main_v0, main_v1, main_v2, main_cst, main_v3, main_v4, main_cst_0, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The arrays after the two calls. -/
def V2 (d : Dev nD) : Valuation τ sig (Elt F) :=
  Function.update (Function.update (fun b => m (d, b)) (bRef main_v0) (tcOut m d)) (bRef main_v1) (outVal m d)

/-- The result. -/
def resVal (d : Dev nD) : Vec F S_ .f32 :=
  mulf (subf (shapeCast S_ (tcOut m d) shapeCasts_S1x1_S_) (Host.reduceAdd (outVal m d) (constant S_ .f32 0x00000000#32) reducesTo_S32x16_S_d0_1 h_S_))
    (constant S_ .f32 0x3A000000#32)

theorem after_res (d : Dev nD) : after hostOps (V2 m d) (bRef main_v5) = resVal m d := by
  simp only [after_cons, after_nil]
  rfl

theorem V2_v0 (d : Dev nD) : V2 m d (bRef main_v0) = tcOut m d :=
  (Function.update_of_ne (show bRef main_v0 ≠ bRef main_v1 by decide) _ _).trans (Function.update_self _ _ _)
theorem V2_v1 (d : Dev nD) : V2 m d (bRef main_v1) = outVal m d := Function.update_self _ _ _
theorem V2_ne (d : Dev nD) (b : Ref sig .tc) (h0 : bRef b ≠ bRef main_v0) (h1 : bRef b ≠ bRef main_v1) : V2 m d (bRef b) = m ((SparseCore.T d).loc b) :=
  (Function.update_of_ne h1 _ _).trans (Function.update_of_ne h0 _ _)

theorem ops_sub : ∀ op ∈ (hostOps : List (HloOp τ sig (Elt F))), op.bufs ⊆ S8 := by
  refine List.forall_iff_forall_mem.mp (?_ : List.Forall _ _)
  exact ⟨(show ({bRef main_v0, bRef main_v2} : Finset (DevRef τ sig)) ⊆ S8 by decide), (show ({bRef main_cst} : Finset (DevRef τ sig)) ⊆ S8 by decide),
    (show ({bRef main_v1, bRef main_cst, bRef main_v3} : Finset (DevRef τ sig)) ⊆ S8 by decide),
    (show ({bRef main_v2, bRef main_v3, bRef main_v4} : Finset (DevRef τ sig)) ⊆ S8 by decide), (show ({bRef main_cst_0} : Finset (DevRef τ sig)) ⊆ S8 by decide),
    (show ({bRef main_v4, bRef main_cst_0, bRef main_v5} : Finset (DevRef τ sig)) ⊆ S8 by decide)⟩

theorem ops_fresh : ∀ op ∈ (hostOps : List (HloOp τ sig (Elt F))), op.fresh = ∅ := by
  refine List.forall_iff_forall_mem.mp (?_ : List.Forall _ _)
  exact ⟨rfl, rfl, rfl, rfl, rfl, rfl⟩

/-! ## @main -/

theorem st_eq (d : Dev nD) : (bigSep Finset.univ fun c : Fin ((K (F := F)).nCore 0) => (P m).st 0 d c)
    = (bigSep Finset.univ fun c : Fin 2 => bigSep Finset.univ fun s : Fin 16 => goPay m d (tileAt c s)) := rfl
theorem dn_eq (d : Dev nD) : (bigSep Finset.univ fun c : Fin ((K (F := F)).nCore 0) => (P m).dn 0 d c)
    = (bigSep Finset.univ fun c : Fin 2 => bigSep Finset.univ fun s : Fin 16 => tdPay m d (tileAt c s)) := rfl

/-- What @main leaves: the arguments at their launch contents, the result. -/
abbrev FIN (d : Dev nD) : sProp 𝕄 :=
  iprop((pLoc d ↦{fullShare.left} m (pLoc d)) ∗ (tLoc d ↦{fullShare.left} m (tLoc d)) ∗ ((SparseCore.T d).loc main_v5 ↦{fullShare} resVal m d))

theorem reg_pre (d : Dev nD) : (reg m).pre d
    = iprop((∃ W, ⌜(K (F := F)).WBelow (SparseCore.T d) W (8 * SparseCore.Cfg.Blocks.fst (Q := 1) (N := 1) 0)⌝ ∗ owes (SparseCore.T d) ((K (F := F)).Otc d 0) W)
        ∗ (pLoc d ↦{fullShare} m (pLoc d)) ∗ (rLoc d ↦{fullShare} m (rLoc d))) := rfl
theorem reg_post (d : Dev nD) : (reg m).post d
    = iprop((∃ W, ⌜(K (F := F)).WBelow (SparseCore.T d) W (8 * SparseCore.Cfg.Blocks.fst (Q := 1) (N := 1) 0)⌝ ∗ owes (SparseCore.T d) ((K (F := F)).Otc d 0) W)
        ∗ (pLoc d ↦{fullShare} m (pLoc d)) ∗ (rLoc d ↦{fullShare} tcOut m d)) := rfl

/-- The pallas_call's step: what the TensorCore owes goes in and comes back; the result comes out. -/
theorem region_wp [∀ e, Nonempty (Elt F e)] (d : Dev nD) (Q : PUnit → sProp 𝕄) :
    iprop((iprop(boundary (d.tc : Thread nD τ) ∗ (reg m).post d) -∗ Q ⟨⟩)
        ∗ boundary (d.tc : Thread nD τ) ∗ (reg m).pre d ∗ levAts (K (F := F)).L (K (F := F)).lev ∗ G (F := F) d)
      ⊢ wp frame (wpE ((K (F := F)).defs (D (F := F))) 𝒱 (SparseCore.T d) none) Set.univ
          (SparseCore.liftProg (Prog.op (.customCall (Pipeline.entry 0) ()) fun _ => .ret (⟨⟩ : PUnit))) Q := by
  refine BIBase.Entails.trans ?_ ((K (F := F)).wp_liftProg (D (F := F)) 𝒱 (SparseCore.T d) Set.univ none _ Q)
  refine BIBase.Entails.trans ?_ (Pipeline.RegionSeg.wp (pcfgs (F := F)) adm (pdats m) none cellOf_inj EP defs₀ 𝒱₀ (K (F := F)).L (K (F := F)).lev (reg m) d none (fun _ h => nomatch h) (fun _ => .ret (⟨⟩ : PUnit)) Q)
  unfold G
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

/-- The SparseCore call's step: its tiles are given the two arguments at half a share and the array of their rows, which
    comes back with every tile's sums. -/
theorem call_wp (κ : GSem nD τ sig → ℕ) (d : Dev nD) (Φ : PUnit → sProp 𝕄) :
    iprop((K (F := F)).ctx EH (P m) κ ∗ (K (F := F)).tcSt EH d 0
        ∗ (pLoc d ↦{fullShare.right} m (pLoc d)) ∗ (tLoc d ↦{fullShare.right} m (tLoc d)) ∗ (oLoc d ↦{fullShare} m (oLoc d))
        ∗ (iprop((K (F := F)).tcSt EH d 1 ∗ (oLoc d ↦{fullShare} outVal m d)) -∗ Φ ⟨⟩))
      ⊢ wp frame (wpE ((K (F := F)).defs (D (F := F))) 𝒱 (SparseCore.T d) none) Set.univ ((K (F := F)).run d 0) Φ := by
  refine BIBase.Entails.trans ?_ ((K (F := F)).wp_run (D (F := F)) 𝒱 (EH := EH) (P := P m) κ d 0)
  rw [st_eq, dn_eq]
  iintro ⟨Hctx, Htc, Hp, Ht, Ho, Hk⟩
  isplitl [Hctx]; · iexact Hctx
  isplitl [Htc]; · iexact Htc
  isplitl [Hp Ht Ho]
  · iapply (deal_all m d)
    isplitl [Hp]; · iexact Hp
    isplitl [Ht]; · iexact Ht
    iexact Ho
  iintro ⟨Htc, Hdn⟩
  iapply Hk
  isplitl [Htc]; · iexact Htc
  iapply (join_all m d); iexact Hdn

/-- The TensorCore's tokens, positions and credit before the call. -/
abbrev stRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

theorem tcSt_zero (d : Dev nD) : ((K (F := F)).tcSt EH d 0 : sProp 𝕄)
    = iprop((∃ W, ⌜(K (F := F)).WBelow (SparseCore.T d) W (8 * SparseCore.Cfg.Blocks.fst (Q := 1) (N := 1) 0)⌝ ∗ owes (SparseCore.T d) ((K (F := F)).Otc d 0) W)
        ∗ stRest d) := rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  rw [main_eq, wp_bind]
  unfold SparseCore.Cfg.tcRes
  rw [unscopedBufs_eq d, tcSt_zero]
  iintro ⟨#Hctx, Htc, ⟨Hb, ⟨Hp, Ht, H0, H1, H2, Hc, H3, H4, Hc0, H5⟩, Hsem, -⟩, HG⟩
  icases Htc with ⟨Howe, Htc⟩
  iapply (region_wp m d _)
  isplitr [Hb Howe Hp H0 HG]
  rotate_left 1
  · isplitl [Hb]; · iexact Hb
    rw [reg_pre]
    isplitl [Howe Hp H0]
    · isplitl [Howe]; · iexact Howe
      isplitl [Hp]; · iexact Hp
      iexact H0
    isplitr
    · iapply (SparseCore.Cfg.ctx_levAts κ); iexact Hctx
    iexact HG
  rw [reg_post]
  iintro ⟨Hb, Howe, Hp, H0⟩
  ihave Hp2 := (pointsTo_share (PosShare.mem_left_op_right fullShare)).1 $$ Hp
  icases Hp2 with ⟨Hpl, Hpr⟩
  ihave Ht2 := (pointsTo_share (PosShare.mem_left_op_right fullShare)).1 $$ Ht
  icases Ht2 with ⟨Htl, Htr⟩
  rw [wp_bind]
  iapply (call_wp m κ d _)
  isplitr; · iexact Hctx
  isplitl [Howe Htc]
  · rw [tcSt_zero]
    isplitl [Howe]; · iexact Howe
    iexact Htc
  isplitl [Hpr]; · iexact Hpr
  isplitl [Htr]; · iexact Htr
  isplitl [H1]; · iexact H1
  iintro ⟨Htc, H1⟩
  iapply (wp_seq (defs := (K (F := F)).defs (D (F := F))) 𝒱 none Set.univ d S8 _ hostOps ops_sub ops_fresh (V2 m d)) $$ [Hb H0 H1 H2 Hc H3 H4 Hc0 H5]
  · isplitl [Hb]; · iexact Hb
    rw [held_S8, V2_v0, V2_v1, V2_ne m d main_v2 (by decide) (by decide), V2_ne m d main_cst (by decide) (by decide), V2_ne m d main_v3 (by decide) (by decide),
      V2_ne m d main_v4 (by decide) (by decide), V2_ne m d main_cst_0 (by decide) (by decide), V2_ne m d main_v5 (by decide) (by decide)]
    isplitl [H0]; · iexact H0
    isplitl [H1]; · iexact H1
    isplitl [H2]; · iexact H2
    isplitl [Hc]; · iexact Hc
    isplitl [H3]; · iexact H3
    isplitl [H4]; · iexact H4
    isplitl [Hc0]; · iexact Hc0
    iexact H5
  iintro ⟨Hb, Hheld⟩
  ihave Hheld := (Entails.of_eq (held_S8 d (after hostOps (V2 m d)))) $$ Hheld
  rw [after_res]
  icases Hheld with ⟨-, -, -, -, -, -, -, H5⟩
  rw [show (pure ⟨⟩ : Prog (TpuEff nD τ sig (Elt F) (SparseCore.Sig ΛP 1) .tc) PUnit) = .ret ⟨⟩ from rfl, wp_ret]; imodintro
  isplitl [Htc]; · iexact Htc
  isplitl [Hpl Htl H5]
  · isplitl [Hpl]; · iexact Hpl
    isplitl [Htl]; · iexact Htl
    iexact H5
  unfold SparseCore.Cfg.tcEnd
  isplitl [Hb]; · iexact Hb
  iexact Hsem

/-- What the final memory of a device holds. -/
def fq (d : Dev nD) (s' : Phys nD τ sig (Elt F)) : Prop :=
  s'.mem.mem (pLoc d) = m (pLoc d) ∧ s'.mem.mem (tLoc d) = m (tLoc d) ∧ s'.mem.mem ((SparseCore.T d).loc main_v5) = resVal m d

theorem hfin (d : Dev nD) (s' : Phys nD τ sig (Elt F)) : iprop(FIN m d ∗ SI s') ⊢ (⌜fq m d s'⌝ : sProp 𝕄) := by
  iintro ⟨⟨Hp, Ht, Hr⟩, HSI⟩
  ihave H := (persistent_entails_right (SI_pointsTo_agree (st := s') (ℓ := pLoc d) (I := Finset.univ) (q := fullShare.left) (f := m (pLoc d)))) $$ [HSI Hp]
  · isplitl [HSI] <;> iassumption
  icases H with ⟨%hp, HSI, -⟩
  ihave H := (persistent_entails_right (SI_pointsTo_agree (st := s') (ℓ := tLoc d) (I := Finset.univ) (q := fullShare.left) (f := m (tLoc d)))) $$ [HSI Ht]
  · isplitl [HSI] <;> iassumption
  icases H with ⟨%ht, HSI, -⟩
  ihave H := (SI_pointsTo_agree (st := s') (ℓ := (SparseCore.T d).loc main_v5) (I := Finset.univ) (q := fullShare) (f := resVal m d)) $$ [HSI Hr]
  · isplitl [HSI] <;> iassumption
  icases H with %hr
  ipureintro
  exact ⟨funext fun i => hp i (Finset.mem_univ i), funext fun i => ht i (Finset.mem_univ i), funext fun i => hr i (Finset.mem_univ i)⟩

/-- How the program ends: on every device the arguments unchanged and the result, every semaphore at zero. -/
def QC : PUnit × MemSt nD τ sig (Elt F) → Prop := fun r =>
  (∀ d : Dev nD, r.2.mem (pLoc d) = m (pLoc d) ∧ r.2.mem (tLoc d) = m (tLoc d) ∧ r.2.mem ((SparseCore.T d).loc main_v5) = resVal m d) ∧ r.2.sem = fun _ => 0

set_option maxRecDepth 65536 in
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

end
-- ==== Proof.Frames.lean ====
/- The frames: what the two preconditions say of the arrays, and the runs of the kernel as printed, of its idealization and of the
   reference, each with every semaphore back at zero. -/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_range
public import proofs.«01_k».proof.Proof.Gen.Pre_finite_in_range
public import Idealize.ShloMosaic.Lib.ReduceAll

@[expose] public section

noncomputable section

namespace Cert.Proof

open Idealize.ShloMosaic Idealize.SL.Sem
open Idealize.ShloMosaic.TcCoe
open Idealize.ShloMosaic.ValueIdx (ix1 ix2 ix0)

/-! ## What the preconditions say -/

/-- A word between 0 and 32000 as a signed number is below 32000 as a natural number. -/
theorem toNat_lt_of_cmpi {x : BitVec 32} (h : IntOp.andi (IntOp.cmpi .sge x 0#32) (IntOp.cmpi .slt x 32000#32) = 1#1) : x.toNat < 32000 := by
  obtain ⟨h1, h2⟩ := IntOp.andi_eq_one.1 h
  have h1 := IntOp.cmpi_sge.1 h1
  have h2 := IntOp.cmpi_slt.1 h2
  rw [show (0#32).toInt = 0 by decide] at h1
  rw [show (32000#32).toInt = 32000 by decide] at h2
  rw [BitVec.toInt_eq_toNat_cond] at h1 h2
  split at h1 <;> omega

theorem in_range_lt {F : FTy → Type} [FloatOps F] (x : FVec F Cert.Pre_in_range.S2048x32000 .f32) (t : IVec Cert.Pre_in_range.S2048 32)
    (h : Cert.Pre_in_range.fn (F := F) x t = fun _ => 1#1) (r : Fin 2048) : (t (ix1 r)).toNat < 32000 := by
  have e := congrFun h ix0
  simp only [Cert.Pre_in_range.fn] at e
  exact toNat_lt_of_cmpi (Host.reduce_andi_all _ _ _ _ _ e (ix1 r))

theorem finite_in_range_lt {F : FTy → Type} [FloatOps F] (x : FVec F Cert.Pre_finite_in_range.S2048x32000 .f32) (t : IVec Cert.Pre_finite_in_range.S2048 32)
    (h : Cert.Pre_finite_in_range.fn (F := F) x t = fun _ => 1#1) (r : Fin 2048) : (t (ix1 r)).toNat < 32000 := by
  have e := congrFun h ix0
  simp only [Cert.Pre_finite_in_range.fn] at e
  exact toNat_lt_of_cmpi (Host.reduce_andi_all _ _ _ _ _ (IntOp.andi_eq_one.1 e).2 (ix1 r))

theorem real_of_abs_lt {a : EReal} (h : max a (-a) < ⊤) : ∃ y : ℝ, a = (y : EReal) := by
  obtain ⟨h1, h2⟩ := max_lt_iff.1 h
  refine ⟨a.toReal, (EReal.coe_toReal h1.ne ?_).symm⟩
  rintro rfl
  exact absurd h2 (by simp)

/-- Under `finite_in_range`, at the ideal instance, every logit is a real number. -/
theorem finite_in_range_real (x : FVec Ideal Cert.Pre_finite_in_range.S2048x32000 .f32) (t : IVec Cert.Pre_finite_in_range.S2048 32)
    (h : Cert.Pre_finite_in_range.fn (F := Ideal) x t = fun _ => 1#1) (r : Fin 2048) (c : Fin 32000) : ∃ y : ℝ, x (ix2 r c) = (y : EReal) := by
  have e := congrFun h ix0
  simp only [Cert.Pre_finite_in_range.fn] at e
  have e2 := Host.reduce_andi_all _ _ _ _ _ (IntOp.andi_eq_one.1 e).1 (ix2 r c)
  have htop : Ideal.ofBits .f32 0x7F800000#32 = ⊤ := by simp [Ideal.ofBits, Ideal.ieee]
  have e3 : Ideal.cmp .olt (max (x (ix2 r c) : EReal) (-(x (ix2 r c) : EReal))) (Ideal.ofBits .f32 0x7F800000#32) = 1#1 := e2
  rw [htop] at e3
  have e4 : max (x (ix2 r c) : EReal) (-(x (ix2 r c) : EReal)) < ⊤ := by
    by_contra hn
    simp only [Ideal.cmp, decide_eq_false hn] at e3
    exact absurd e3 (by decide)
  exact real_of_abs_lt e4

theorem preOK {F : FTy → Type} [FloatOps F] [Named F] (m : (ℓ : Loc Cert.KernelIdeal.nD Cert.KernelIdeal.τ Cert.KernelIdeal.sig) → Buf (Elt F) ℓ)
    (h : ∀ c : Dev Cert.KernelIdeal.nD, (Cert.Pre_in_range.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)) :
    Tile.PreOK m := fun d r => in_range_lt _ _ (h d) r

theorem preOK_finite {F : FTy → Type} [FloatOps F] [Named F] (m : (ℓ : Loc Cert.KernelIdeal.nD Cert.KernelIdeal.τ Cert.KernelIdeal.sig) → Buf (Elt F) ℓ)
    (h : ∀ c : Dev Cert.KernelIdeal.nD, (Cert.Pre_finite_in_range.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)) :
    Tile.PreOK m := fun d r => finite_in_range_lt _ _ (h d) r

/-! ## The idealization and the reference -/

theorem frame_pi : Cert.quiescent_KernelIdeal := fun m g hpre =>
  (θ_run Cert.KernelIdeal.defs _ _).mono (fun r h => ⟨fun c => ⟨(h.1 c).1, (h.1 c).2.1⟩, h.2⟩) (Run.run_main (F := Ideal) m g (preOK m hpre))

theorem frame_pi_finite : Cert.quiescent_KernelIdeal_pre_finite_in_range := fun m g hpre =>
  (θ_run Cert.KernelIdeal.defs _ _).mono (fun r h => ⟨fun c => ⟨(h.1 c).1, (h.1 c).2.1⟩, h.2⟩) (Run.run_main (F := Ideal) m g (preOK_finite m hpre))

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_finite : Cert.quiescent_ReferenceIdeal_pre_finite_in_range := fun m g _ => frame_ri m g trivial

/-- The named constants: each names the rational its word rounds. -/
theorem preserves : Cert.preserves_Kernel_KernelIdeal :=
  ⟨IdealRules.named_const.statement _ _ _ _ _ rfl, IdealRules.named_const.statement _ _ _ _ _ rfl⟩

end Cert.Proof

end
-- ==== Proof.FrameBits.lean ====
/- The frame of the kernel as printed. The run of Main.lean is stated for every float values with a reading of the named
   constants; read at the machine's floats, each named constant at its word, it is the run of the kernel as printed. -/
module

public import proofs.«01_k».proof.Proof.Frames

@[expose] public section

noncomputable section

namespace Cert.Proof

open Idealize.ShloMosaic Idealize.SL.Sem
open Idealize.ShloMosaic.TcCoe

/-- At the machine's floats a named constant is its word. -/
abbrev wordNamed : Named Bits where
  named _ _ {φ} bits := Scalar.ofBits (F := Bits) φ bits

set_option maxRecDepth 65536 in
theorem tc_body_eq : Cert.Kernel.cc0__tc_body (F := Bits) = @Cert.KernelIdeal.cc0__tc_body Bits _ wordNamed _ := rfl

set_option maxHeartbeats 8000000 in
set_option maxRecDepth 65536 in
theorem sc_gather_eq : Cert.Kernel.cc1__sc_gather (F := Bits) = @Cert.KernelIdeal.cc1__sc_gather Bits _ wordNamed _ := rfl

theorem defs₀_eq : Cert.Kernel.defs₀ (F := Bits) = @Cert.KernelIdeal.defs₀ Bits _ wordNamed _ := by
  unfold Cert.Kernel.defs₀ Cert.KernelIdeal.defs₀
  rw [tc_body_eq, sc_gather_eq]
  funext p ℓ a
  match p, ℓ, a with
  | .tc, 0, (t, s) => rfl
  | .scVector c s, 1, _ => rfl
  | .tc, 1, _ => rfl
  | .scVector c s, 0, _ => rfl
  | .scScalar c, 0, _ => rfl
  | .scScalar c, 1, _ => rfl

theorem defs_eq : Cert.Kernel.defs (F := Bits) = @Cert.KernelIdeal.defs Bits _ wordNamed _ := by
  unfold Cert.Kernel.defs Cert.KernelIdeal.defs
  rw [defs₀_eq]
  rfl

theorem threads_eq : Cert.Kernel.threads (F := Bits) = @Cert.KernelIdeal.threads Bits _ _ := rfl

theorem frame_p : Cert.quiescent_Kernel := fun m g hpre => by
  have h := @Run.run_main Bits _ wordNamed m g _ (@preOK Bits _ wordNamed m hpre)
  rw [← defs_eq] at h
  exact (θ_run Cert.Kernel.defs _ _).mono (fun r h => ⟨fun c => ⟨(h.1 c).1, (h.1 c).2.1⟩, h.2⟩) h

end Cert.Proof

end
-- ==== Proof.TcValue.lean ====
/-
  The TensorCore kernel's result as a real number. One block's rows are read ten chunks of columns at a time, with a
  running maximum, a running sum of exponentials taken against that maximum and a running plain sum; over real entries
  the three end at the row's log-sum-exp and its sum, whatever real number the maximum is.
-/
module

public import proofs.«01_k».proof.Proof.TcRegion
public import Idealize.ShloMosaic.Lib.Pointwise
public import Idealize.ShloMosaic.Lib.Pointwise.IndexBridge

@[expose] public section

namespace Cert.Proof.Tc

open Cert.KernelIdeal Cert.KernelIdeal.Gen
open Idealize.ShloMosaic
open scoped BigOperators

variable {F : FTy → Type} [FloatOps F] [Named F]

/-! ## The kernel's steps on a chunk -/

/-- A chunk's row maxima. -/
noncomputable def rmax (c : FVec F S128x3200 .f32) : FVec F S128x1 .f32 :=
  shapeCast S128x1 (multiReduction .maximumf [1] S128 c 0xFF800000#32 reduces_S128x3200_S128 (.inl rfl) rfl) shapeCasts_S128_S128x1

/-- A chunk's row sums. -/
noncomputable def rsum (c : FVec F S128x3200 .f32) : FVec F S128x1 .f32 :=
  shapeCast S128x1 (multiReduction .add [1] S128 c 0x00000000#32 reduces_S128x3200_S128 (.inl rfl) rfl) shapeCasts_S128_S128x1

/-- A chunk's row sums of exponentials, taken against `m`. -/
noncomputable def rexp (c : FVec F S128x3200 .f32) (m : FVec F S128x1 .f32) : FVec F S128x1 .f32 :=
  rsum (exp (subf c (broadcastTo S128x3200 m broadcasts_S128x1_S128x3200)))

/-- The running maxima after chunk `k`. -/
noncomputable def stM (c : ℕ → FVec F S128x3200 .f32) : ℕ → FVec F S128x1 .f32
  | 0 => rmax (c 0)
  | k + 1 => maximumf (stM c k) (rmax (c (k + 1)))

/-- The running sums of exponentials after chunk `k`. -/
noncomputable def stE (c : ℕ → FVec F S128x3200 .f32) : ℕ → FVec F S128x1 .f32
  | 0 => rexp (c 0) (stM c 0)
  | k + 1 => addf (mulf (stE c k) (exp (subf (stM c k) (stM c (k + 1))))) (rexp (c (k + 1)) (stM c (k + 1)))

/-- The running plain sums after chunk `k`. -/
noncomputable def stS (c : ℕ → FVec F S128x3200 .f32) : ℕ → FVec F S128x1 .f32
  | 0 => rsum (c 0)
  | k + 1 => addf (stS c k) (rsum (c (k + 1)))

/-- One block's rows: log-sum-exp less the off weight times the sum. -/
noncomputable def rowsOut (c : ℕ → FVec F S128x3200 .f32) : FVec F S128x1 .f32 :=
  subf (addf (stM c 9) (log (stE c 9))) (mulf (broadcast S128x1 (Named.named κ "off" 0x3651B8C5#32)) (stS c 9))

/-- A block's contribution added to the accumulator. -/
noncomputable def accOf (v : FVec F S128x1 .f32) (old : FVec F S1x1 .f32) : FVec F S1x1 .f32 :=
  shapeCast S1x1 (addf old (broadcast S1x1 (extractAt ![0, 0, 0] (shapeCast S1x1x1 (multiReduction .add [1, 2] S1 (shapeCast S1x128x1 v
    shapeCasts_S128x1_S1x128x1) 0x00000000#32 reduces_S1x128x1_S1 (.inl rfl) rfl) shapeCasts_S1_S1x1x1) inpos_S1x1x1_p0_0_0))) shapeCasts_S1x1_S1x1

theorem accNext_eq (b : Vec F S128x32000 .f32) (old : Vec F S1x1 .f32) : accNext b old = accOf (rowsOut fun k => chunk b (Fin.ofNat 10 k)) old := rfl

/-! ## Sums and maxima of real numbers -/

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- The maximum of finitely many reals, at least one, is a real. -/
theorem fold_max_real {ι : Type} (s : Finset ι) (hs : s.Nonempty) (f : ι → ℝ) :
    ∃ μ : ℝ, s.fold max (⊥ : EReal) (fun i => (f i : EReal)) = μ := by
  induction hs using Finset.Nonempty.cons_induction with
  | singleton a => exact ⟨f a, by simp⟩
  | cons a s ha hs ih =>
    obtain ⟨μ, h⟩ := ih
    rw [Finset.fold_cons, h]
    rcases max_choice (f a : EReal) μ with e | e
    · exact ⟨_, e⟩
    · exact ⟨_, e⟩

/-- A sum over `a` runs of `k` numbers each is the sum over all `a * k`. -/
theorem sum_runs (f : ℕ → ℝ) (k a n : ℕ) (hn : k * a = n) : ∑ l ∈ Finset.range a, ∑ j : Fin k, f (k * l + j.val) = ∑ n ∈ Finset.range n, f n := by
  subst hn
  induction a with
  | zero => simp
  | succ a ih => rw [Finset.sum_range_succ, ih, Nat.mul_succ, Finset.sum_range_add, Fin.sum_univ_eq_sum_range fun j => f (k * a + j)]

theorem ofBits_bot : Ideal.ofBits .f32 0xFF800000#32 = ⊥ := by simp [Ideal.ofBits, Ideal.ieee]

theorem exp_coe (r : ℝ) : Ideal.exp (r : EReal) = (Real.exp r : EReal) := rfl

theorem log_coe {r : ℝ} (h : 0 < r) : Ideal.log (r : EReal) = (Real.log r : EReal) := by
  show (if r ≤ 0 then (⊥ : EReal) else _) = _
  rw [if_neg (not_le.mpr h)]

/-! ## A row of a chunk -/

theorem rmax_apply (c : FVec Ideal S128x3200 .f32) (i : Fin 128) :
    rmax c (ix2 i 0) = Finset.univ.fold max (Ideal.ofBits .f32 0xFF800000#32) (fun j => c (ix2 i j)) := by
  unfold rmax
  pointwise

theorem rsum_apply (c : FVec Ideal S128x3200 .f32) (i : Fin 128) : rsum c (ix2 i 0) = ∑ j, c (ix2 i j) := by
  unfold rsum
  pointwise

theorem rexp_apply (c : FVec Ideal S128x3200 .f32) (m : FVec Ideal S128x1 .f32) (i : Fin 128) :
    rexp c m (ix2 i 0) = ∑ j, Ideal.exp (c (ix2 i j) - m (ix2 i 0)) := by
  unfold rexp rsum
  pointwise

theorem univ_nonempty {n : ℕ} (h : 0 < n) : (Finset.univ : Finset (Fin n)).Nonempty := ⟨⟨0, h⟩, Finset.mem_univ _⟩

section Row

variable (c : FVec Ideal S128x3200 .f32) (i : Fin 128) (x : Fin 3200 → ℝ) (hc : ∀ j, c (ix2 i j) = (x j : EReal))
include hc

theorem rmax_row : ∃ μ : ℝ, rmax c (ix2 i 0) = μ := by
  rw [rmax_apply, ofBits_bot, funext hc]
  exact fold_max_real Finset.univ (univ_nonempty (by norm_num)) x

theorem rsum_row : rsum c (ix2 i 0) = ((∑ j, x j : ℝ) : EReal) := by
  rw [rsum_apply, coe_sum]
  exact Finset.sum_congr rfl fun j _ => hc j

theorem rexp_row (m : FVec Ideal S128x1 .f32) (μ : ℝ) (hm : m (ix2 i 0) = μ) :
    rexp c m (ix2 i 0) = ((∑ j, Real.exp (x j - μ) : ℝ) : EReal) := by
  rw [rexp_apply, coe_sum, hm]
  refine Finset.sum_congr rfl fun j _ => ?_
  rw [hc, ← EReal.coe_sub, exp_coe]

end Row

theorem stM_succ_apply (c : ℕ → FVec Ideal S128x3200 .f32) (k : ℕ) (i : Fin 128) :
    stM c (k + 1) (ix2 i 0) = max (stM c k (ix2 i 0)) (rmax (c (k + 1)) (ix2 i 0)) := by
  rw [stM]
  pointwise

theorem stE_succ_apply (c : ℕ → FVec Ideal S128x3200 .f32) (k : ℕ) (i : Fin 128) :
    stE c (k + 1) (ix2 i 0) = stE c k (ix2 i 0) * Ideal.exp (stM c k (ix2 i 0) - stM c (k + 1) (ix2 i 0))
      + rexp (c (k + 1)) (stM c (k + 1)) (ix2 i 0) := by
  rw [stE]
  pointwise

theorem stS_succ_apply (c : ℕ → FVec Ideal S128x3200 .f32) (k : ℕ) (i : Fin 128) :
    stS c (k + 1) (ix2 i 0) = stS c k (ix2 i 0) + rsum (c (k + 1)) (ix2 i 0) := by
  rw [stS]
  pointwise

theorem named_off : (Named.named κ "off" 0x3651B8C5#32 : Ideal .f32) = ((1 / 319990 : ℝ) : EReal) := rfl

theorem lse_apply (a b e : FVec Ideal S128x1 .f32) (q : Ideal .f32) (i : Fin 128) :
    subf (addf a (log b)) (mulf (broadcast S128x1 q) e) (ix2 i 0) = (a (ix2 i 0) + Ideal.log (b (ix2 i 0))) - q * e (ix2 i 0) := by
  pointwise

theorem rowsOut_apply (c : ℕ → FVec Ideal S128x3200 .f32) (i : Fin 128) :
    rowsOut c (ix2 i 0) = (stM c 9 (ix2 i 0) + Ideal.log (stE c 9 (ix2 i 0))) - ((1 / 319990 : ℝ) : EReal) * stS c 9 (ix2 i 0) := by
  rw [← named_off]
  exact lse_apply (stM c 9) (stE c 9) (stS c 9) _ i

/-- After chunk `k`: a real maximum, the sum of exponentials against it, the plain sum. -/
theorem row_inv (c : ℕ → FVec Ideal S128x3200 .f32) (i : Fin 128) (x : ℕ → Fin 3200 → ℝ) (hc : ∀ k j, c k (ix2 i j) = (x k j : EReal)) (k : ℕ) :
    ∃ μ : ℝ, stM c k (ix2 i 0) = μ
      ∧ stE c k (ix2 i 0) = ((∑ l ∈ Finset.range (k + 1), ∑ j, Real.exp (x l j - μ) : ℝ) : EReal)
      ∧ stS c k (ix2 i 0) = ((∑ l ∈ Finset.range (k + 1), ∑ j, x l j : ℝ) : EReal) := by
  induction k with
  | zero =>
    obtain ⟨μ, h⟩ := rmax_row (c 0) i (x 0) (hc 0)
    refine ⟨μ, h, ?_, ?_⟩
    · rw [zero_add, Finset.sum_range_one]
      exact rexp_row (c 0) i (x 0) (hc 0) _ μ h
    · rw [zero_add, Finset.sum_range_one]
      exact rsum_row (c 0) i (x 0) (hc 0)
  | succ k ih =>
    obtain ⟨μ, hM, hE, hS⟩ := ih
    obtain ⟨ν, hν⟩ := rmax_row (c (k + 1)) i (x (k + 1)) (hc (k + 1))
    have hM' : ∃ μ' : ℝ, stM c (k + 1) (ix2 i 0) = μ' := by
      rw [stM_succ_apply, hM, hν]
      rcases max_choice (μ : EReal) ν with e | e
      · exact ⟨_, e⟩
      · exact ⟨_, e⟩
    obtain ⟨μ', hM'⟩ := hM'
    refine ⟨μ', hM', ?_, ?_⟩
    · rw [stE_succ_apply, rexp_row (c (k + 1)) i (x (k + 1)) (hc (k + 1)) _ μ' hM', hE, hM, hM', ← EReal.coe_sub, exp_coe,
        ← EReal.coe_mul, ← EReal.coe_add]
      refine congrArg Real.toEReal ?_
      rw [Finset.sum_range_succ _ (k + 1), Finset.sum_mul]
      refine congrArg₂ (· + ·) (Finset.sum_congr rfl fun l _ => ?_) rfl
      rw [Finset.sum_mul]
      refine Finset.sum_congr rfl fun j _ => ?_
      rw [← Real.exp_add]
      exact congrArg Real.exp (by ring)
    · rw [stS_succ_apply, rsum_row (c (k + 1)) i (x (k + 1)) (hc (k + 1)), hS, Finset.sum_range_succ _ (k + 1), ← EReal.coe_add]

/-- A row's log-sum-exp less the off weight times its sum, over the columns `0 … 31999`. -/
noncomputable def rowReal (y : ℕ → ℝ) : ℝ :=
  Real.log (∑ n ∈ Finset.range 32000, Real.exp (y n)) - 1 / 319990 * ∑ n ∈ Finset.range 32000, y n

theorem rowsOut_row (c : ℕ → FVec Ideal S128x3200 .f32) (i : Fin 128) (y : ℕ → ℝ)
    (hc : ∀ k (j : Fin 3200), c k (ix2 i j) = (y (3200 * (k % 10) + j.val) : EReal)) : rowsOut c (ix2 i 0) = (rowReal y : EReal) := by
  obtain ⟨μ, hM, hE, hS⟩ := row_inv c i (fun k j => y (3200 * (k % 10) + j.val)) hc 9
  have h1 : ∑ l ∈ Finset.range (9 + 1), ∑ j : Fin 3200, Real.exp (y (3200 * (l % 10) + j.val) - μ) = ∑ n ∈ Finset.range 32000, Real.exp (y n - μ) :=
    (Finset.sum_congr rfl fun l hl => by rw [Nat.mod_eq_of_lt (Finset.mem_range.mp hl)]).trans (sum_runs (fun n => Real.exp (y n - μ)) 3200 10 32000 (by norm_num))
  have h2 : ∑ l ∈ Finset.range (9 + 1), ∑ j : Fin 3200, y (3200 * (l % 10) + j.val) = ∑ n ∈ Finset.range 32000, y n :=
    (Finset.sum_congr rfl fun l hl => by rw [Nat.mod_eq_of_lt (Finset.mem_range.mp hl)]).trans (sum_runs y 3200 10 32000 (by norm_num))
  have hp : 0 < ∑ n ∈ Finset.range 32000, Real.exp (y n) :=
    Finset.sum_pos (fun n _ => Real.exp_pos _) ⟨0, Finset.mem_range.mpr (by norm_num)⟩
  have h3 : ∑ n ∈ Finset.range 32000, Real.exp (y n - μ) = (∑ n ∈ Finset.range 32000, Real.exp (y n)) * Real.exp (-μ) := by
    rw [Finset.sum_mul]
    exact Finset.sum_congr rfl fun n _ => by rw [← Real.exp_add, sub_eq_add_neg]
  rw [rowsOut_apply, hM, hE, hS, h1, h2, h3, log_coe (mul_pos hp (Real.exp_pos _)), Real.log_mul hp.ne' (Real.exp_pos _).ne', Real.log_exp,
    ← EReal.coe_mul, ← EReal.coe_add, ← EReal.coe_sub]
  refine congrArg Real.toEReal ?_
  unfold rowReal
  ring

/-! ## Blocks and the whole sum -/

theorem accOf_apply (v : FVec Ideal S128x1 .f32) (old : FVec Ideal S1x1 .f32) :
    accOf v old (ix2 0 0) = old (ix2 0 0) + ∑ i : Fin 128, v (ix2 i 0) := by
  unfold accOf
  pointwise
  simp

theorem accNext_real (b : FVec Ideal S128x32000 .f32) (old : FVec Ideal S1x1 .f32) (y : ℕ → ℕ → ℝ) (o : ℝ)
    (hb : ∀ (i : Fin 128) (n : Fin 32000), b (ix2 i n) = (y i.val n.val : EReal)) (ho : old (ix2 0 0) = o) :
    accNext (F := Ideal) b old (ix2 0 0) = ((o + ∑ i : Fin 128, rowReal (y i.val) : ℝ) : EReal) := by
  rw [accNext_eq, accOf_apply, ho, EReal.coe_add, coe_sum]
  refine congrArg ((o : EReal) + ·) (Finset.sum_congr rfl fun i _ => rowsOut_row _ i _ fun k j => ?_)
  refine Eq.trans ?_ (hb i ⟨3200 * (k % 10) + j.val, by omega⟩)
  unfold chunk
  pointwise
  rfl

/-- The call's result, over real entries: the sum over all 2048 rows. -/
theorem tcOut_real (m : (ℓ : Loc nD τ sig) → Buf (Elt Ideal) ℓ) (d : Dev nD) (y : ℕ → ℕ → ℝ)
    (hy : ∀ r c, Tile.predM m d (Tile.rowN r) (Tile.colN c) = (y r c : EReal)) :
    tcOut (F := Ideal) m d (ix2 0 0) = ((∑ r ∈ Finset.range 2048, rowReal (y r) : ℝ) : EReal) := by
  have h : ∀ n, n ≤ 16 → accAt (F := Ideal) m d n (ix2 0 0) = ((∑ a ∈ Finset.range n, ∑ i : Fin 128, rowReal (y (128 * a + i.val)) : ℝ) : EReal) := by
    intro n
    induction n with
    | zero =>
      intro _
      rw [Finset.sum_range_zero]
      show Ideal.ofBits .f32 0x00000000#32 = _
      rw [Ideal.ofBits_zero_f32]
      rfl
    | succ n ih =>
      intro hn
      rw [Finset.sum_range_succ]
      refine accNext_real _ _ (fun i c => y (128 * n + i) c) _ (fun i c => ?_) (ih (by omega))
      refine Eq.trans ?_ (hy (128 * n + i.val) c.val)
      unfold blkM
      refine congrArg (Tile.predM m d (Tile.rowN (128 * n + i.val))) (Fin.ext ?_)
      exact (Nat.mod_eq_of_lt c.isLt).symm
  have h16 := h 16 le_rfl
  rw [sum_runs (fun r => rowReal (y r)) 128 16 2048 (by norm_num)] at h16
  exact h16

end Cert.Proof.Tc
-- ==== Proof.ScValue.lean ====
/-
  The whole kernel's result as a real number: the SparseCore's partial sums, added up, are the gap weight times the sum of
  the gathered target logits, and the host subtracts them from the TensorCore's sum and scales by 1/2048.
-/
module

public import proofs.«01_k».proof.Proof.TcValue
public import proofs.«01_k».proof.Proof.Main

@[expose] public section

namespace Cert.Proof.Run

open Cert.KernelIdeal Cert.KernelIdeal.Gen
open Cert.Proof.Tc (coe_sum sum_runs rowReal tcOut_real)
open Idealize.ShloMosaic
open scoped BigOperators

/-- 2⁻¹¹ as the host's word. -/
theorem ofBits_scale : Ideal.ofBits .f32 0x3A000000#32 = ((1 / 2048 : ℝ) : EReal) := by
  simp [Ideal.ofBits, Ideal.ieee]
  rw [← EReal.coe_mul]
  exact congrArg Real.toEReal (by norm_num)

/-- A lane of a tile's partial sum. -/
theorem outVal_real (m : (ℓ : Loc nD τ sig) → Buf (Elt Ideal) ℓ) (d : Dev nD) (z : ℕ → ℝ) (hz : ∀ r, Tile.predAt m d (Tile.rowN r) = (z r : EReal))
    (w : Fin 32) (l : Fin 16) :
    Tile.outVal (F := Ideal) m d (ix2 w l) = ((28799 / 31999 * ∑ g ∈ Finset.range 4, z (64 * w.val + 16 * g + l.val) : ℝ) : EReal) := by
  show ((28799 / 31999 : ℝ) : EReal) * ((((Ideal.ofBits .f32 0x00000000#32 + Tile.predAt m d (Tile.rowN (64 * w.val + 16 * 0 + l.val)))
    + Tile.predAt m d (Tile.rowN (64 * w.val + 16 * 1 + l.val))) + Tile.predAt m d (Tile.rowN (64 * w.val + 16 * 2 + l.val)))
    + Tile.predAt m d (Tile.rowN (64 * w.val + 16 * 3 + l.val))) = _
  rw [Ideal.ofBits_zero_f32, zero_add, hz, hz, hz, hz]
  show ((28799 / 31999 * (z _ + z _ + z _ + z _) : ℝ) : EReal) = _
  refine congrArg Real.toEReal ?_
  simp only [Finset.sum_range_succ, Finset.sum_range_zero, zero_add]

theorem sc_sum (z : ℕ → ℝ) :
    ∑ w : Fin 32, ∑ l : Fin 16, (28799 / 31999 * ∑ g ∈ Finset.range 4, z (64 * w.val + 16 * g + l.val))
      = 28799 / 31999 * ∑ r ∈ Finset.range 2048, z r := by
  have h2 : ∀ w : ℕ, ∑ l : Fin 16, ∑ g ∈ Finset.range 4, z (64 * w + 16 * g + l.val) = ∑ j : Fin 64, z (64 * w + j.val) := fun w => by
    rw [Finset.sum_comm, Fin.sum_univ_eq_sum_range fun j => z (64 * w + j)]
    simp only [Nat.add_assoc]
    exact sum_runs (fun n => z (64 * w + n)) 16 4 64 (by norm_num)
  simp only [← Finset.mul_sum]
  refine congrArg (28799 / 31999 * ·) ?_
  rw [← sum_runs z 64 32 2048 (by norm_num), ← Fin.sum_univ_eq_sum_range fun w => ∑ j : Fin 64, z (64 * w + j.val)]
  exact Finset.sum_congr rfl fun w _ => h2 w.val

/-- The host's last lines: the tiles' sums subtracted, and the scale. -/
theorem tail_apply (a : FVec Ideal S1x1 .f32) (o : FVec Ideal S32x16 .f32) (j : S_.Idx) :
    mulf (subf (shapeCast S_ a shapeCasts_S1x1_S_) (Host.reduceAdd o (constant S_ .f32 0x00000000#32) reducesTo_S32x16_S_d0_1 h_S_))
      (constant S_ .f32 0x3A000000#32) j = (a (ix2 0 0) - ∑ w : Fin 32, ∑ l : Fin 16, o (ix2 w l)) * Ideal.ofBits .f32 0x3A000000#32 := by
  pointwise

/-- The kernel's result over real entries. -/
theorem resVal_real (m : (ℓ : Loc nD τ sig) → Buf (Elt Ideal) ℓ) (d : Dev nD) (y : ℕ → ℕ → ℝ) (z : ℕ → ℝ)
    (hy : ∀ r c, Tile.predM m d (Tile.rowN r) (Tile.colN c) = (y r c : EReal)) (hz : ∀ r, Tile.predAt m d (Tile.rowN r) = (z r : EReal)) (j : S_.Idx) :
    resVal (F := Ideal) m d j
      = (((∑ r ∈ Finset.range 2048, rowReal (y r) - 28799 / 31999 * ∑ r ∈ Finset.range 2048, z r) * (1 / 2048) : ℝ) : EReal) := by
  refine (tail_apply (Tc.tcOut (F := Ideal) m d) (Tile.outVal (F := Ideal) m d) j).trans ?_
  rw [tcOut_real m d y hy, ofBits_scale, ← sc_sum]
  simp only [outVal_real m d z hz]
  simp only [← coe_sum]
  rfl

end Cert.Proof.Run
-- ==== Proof.RefValue.lean ====
/-
  The reference's result as a real number. Every row of the target distribution is the off weight but for the on weight at
  the row's target; the rows sum to one, so a row of the loss is its log-sum-exp less the off weight times the row's sum
  less the gap times the target's logit.
-/
module

public import proofs.«01_k».proof.Proof.TcValue
public import proofs.«01_k».proof.Proof.Gen.ReferenceIdeal.Run
public import Idealize.ShloMosaic.Lib.Routing.OpsSet

@[expose] public section

namespace Cert.Proof.Ref

open Cert.ReferenceIdeal Cert.ReferenceIdeal.Gen
open Cert.Proof.Tc (coe_sum fold_max_real ofBits_bot exp_coe log_coe univ_nonempty rowReal)
open Idealize.ShloMosaic
open scoped BigOperators

/-! ## The operations of the reference, in stages -/

section Terms

variable {F : FTy → Type} [FloatOps F] (x : FVec F S2048x32000 .f32) (t : IVec S2048 32)

/-- The rows' maxima, along the columns. -/
noncomputable def rowMax : FVec F S2048x32000 .f32 :=
  broadcastInDim S2048x32000 ![0, 1] bcast_S2048x1_S2048x32000_0_1 (broadcastInDim S2048x1 ![0] bcast_S2048_S2048x1_0 (maximumf
    (broadcastInDim S2048 ![] bcast_S_S2048 (constant S_ .f32 0xFF800000#32))
    (Host.reduce FloatOps.maximumf x (constant S_ .f32 0xFF800000#32) reducesTo_S2048x32000_S2048_d1 h_S_)))

/-- The logarithm of the softmax of the rows. -/
noncomputable def logSoftmax : FVec F S2048x32000 .f32 :=
  subf (subf x (rowMax x)) (broadcastInDim S2048x32000 ![0, 1] bcast_S2048x1_S2048x32000_0_1 (Host.log (broadcastInDim S2048x1 ![0]
    bcast_S2048_S2048x1_0 (Host.reduceAdd (Host.exp (subf x (rowMax x))) (constant S_ .f32 0x00000000#32) reducesTo_S2048x32000_S2048_d1 h_S_))))

/-- The pairs of a row's number and its target. -/
noncomputable def pairs : IVec S2048x2 32 :=
  concatenate S2048x2 1 [⟨S2048x1, broadcastInDim S2048x1 ![0] bcast_S2048_S2048x1_0 (select
      (cmpi .slt (iotaInDim S2048 32 0) (broadcastInDim S2048 ![] bcast_S_S2048 (constantI S_ 32 0#32)))
      (addi (iotaInDim S2048 32 0) (broadcastInDim S2048 ![] bcast_S_S2048 (constantI S_ 32 2048#32))) (iotaInDim S2048 32 0))⟩,
    ⟨S2048x1, broadcastInDim S2048x1 ![0] bcast_S2048_S2048x1_0 (select
      (cmpi .slt t (broadcastInDim S2048 ![] bcast_S_S2048 (constantI S_ 32 0#32)))
      (addi t (broadcastInDim S2048 ![] bcast_S_S2048 (constantI S_ 32 32000#32))) t)⟩] concatenates_S2048x1_S2048x1_S2048x2_d1

/-- The smoothed target distribution. -/
noncomputable def trueDist : FVec F S2048x32000 .f32 :=
  Host.scatter scatter_S2048x32000_S2048x2_S2048_n_01_01_1 (fun _ b => b)
    (broadcastInDim S2048x32000 ![] bcast_S_S2048x32000 (Host.divf (constant S_ .f32 0x3F800000#32) (constant S_ .f32 0x489C3EC0#32)))
    (pairs t) (broadcastInDim S2048 ![] bcast_S_S2048 (Host.divf (constant S_ .f32 0x41100000#32) (constant S_ .f32 0x41200000#32)))

/-- The mean over the rows of the products' sums. -/
noncomputable def meanOf (p l : FVec F S2048x32000 .f32) : FVec F S_ .f32 :=
  Host.divf (Host.reduceAdd (Host.reduceAdd (mulf (Host.negf p) l) (constant S_ .f32 0x00000000#32) reducesTo_S2048x32000_S2048_d1 h_S_)
    (constant S_ .f32 0x00000000#32) reducesTo_S2048_S_d0 h_S_) (constant S_ .f32 0x45000000#32)

/-- The reference's result. -/
noncomputable def out : FVec F S_ .f32 := meanOf (trueDist t) (logSoftmax x)

end Terms

/-! ## Constants -/

theorem ofBits_off_num : Ideal.ofBits .f32 0x3F800000#32 = ((1 : ℝ) : EReal) := by
  simp [Ideal.ofBits, Ideal.ieee, ← EReal.coe_mul]
  norm_num

theorem ofBits_off_den : Ideal.ofBits .f32 0x489C3EC0#32 = ((319990 : ℝ) : EReal) := by
  simp [Ideal.ofBits, Ideal.ieee]
  rw [← EReal.coe_mul]
  exact congrArg Real.toEReal (by norm_num)

theorem ofBits_on_num : Ideal.ofBits .f32 0x41100000#32 = ((9 : ℝ) : EReal) := by
  simp [Ideal.ofBits, Ideal.ieee]
  rw [← EReal.coe_mul]
  exact congrArg Real.toEReal (by norm_num)

theorem ofBits_on_den : Ideal.ofBits .f32 0x41200000#32 = ((10 : ℝ) : EReal) := by
  simp [Ideal.ofBits, Ideal.ieee]
  rw [← EReal.coe_mul]
  exact congrArg Real.toEReal (by norm_num)

theorem ofBits_rows : Ideal.ofBits .f32 0x45000000#32 = ((2048 : ℝ) : EReal) := by
  simp [Ideal.ofBits, Ideal.ieee]
  rw [← EReal.coe_mul]
  exact congrArg Real.toEReal (by norm_num)

theorem div_coe (a b : ℝ) (h : b ≠ 0) : Ideal.div (a : EReal) (b : EReal) = ((a / b : ℝ) : EReal) := by
  unfold Ideal.div
  rw [if_neg fun e => h (by exact_mod_cast e), ← EReal.coe_inv, ← EReal.coe_mul]
  rfl

/-! ## The scatter -/

/-- Update `k` lands at `(r, c)` exactly when its pair, read signed, is `(r, c)`. -/
theorem lands (idx : IVec S2048x2 32) (k r : Fin 2048) (c : Fin 32000) :
    scatter_S2048x32000_S2048x2_S2048_n_01_01_1.resultIdx? (ix1 k) idx = some (ix2 r c)
      ↔ (idx (ix2 k 0)).toInt = r.val ∧ (idx (ix2 k 1)).toInt = c.val := by
  have h0 : scatter_S2048x32000_S2048x2_S2048_n_01_01_1.start (ix1 k) idx 0 = (idx (ix2 k 0)).toInt := by
    unfold ScatterDims.start
    rw [dif_pos (by decide)]
    refine congrArg (fun j => (idx j).toInt) (funext fun b => ?_)
    fin_cases b <;> rfl
  have h1 : scatter_S2048x32000_S2048x2_S2048_n_01_01_1.start (ix1 k) idx 1 = (idx (ix2 k 1)).toInt := by
    unfold ScatterDims.start
    rw [dif_pos (by decide)]
    refine congrArg (fun j => (idx j).toInt) (funext fun b => ?_)
    fin_cases b <;> rfl
  have w0 : scatter_S2048x32000_S2048x2_S2048_n_01_01_1.window (ix1 k) 0 = 0 := rfl
  have w1 : scatter_S2048x32000_S2048x2_S2048_n_01_01_1.window (ix1 k) 1 = 0 := rfl
  rw [ix2_eq_valueIdx r c, Routing.resultIdx?_ix2, h0, h1, w0, w1]
  omega

theorem pairs_row (t : IVec S2048 32) (k : Fin 2048) : pairs t (ix2 k 0) = BitVec.ofNat 32 k.val := by
  unfold pairs
  pointwise
  exact Routing.wrap_of_lt _ _ (by rw [BitVec.toNat_ofNat, Nat.mod_eq_of_lt (by omega)]; omega)

theorem pairs_target (t : IVec S2048 32) (k : Fin 2048) (h : (t (ix1 k)).toNat < 32000) : pairs t (ix2 k 1) = t (ix1 k) := by
  unfold pairs
  pointwise
  exact Routing.wrap_of_lt _ _ (by omega)

/-- The target distribution: the on weight at the row's target, the off weight elsewhere. -/
theorem trueDist_apply (t : IVec S2048 32) (ht : ∀ k : Fin 2048, (t (ix1 k)).toNat < 32000) (r : Fin 2048) (c : Fin 32000) :
    trueDist (F := Ideal) t (ix2 r c) = ((if c.val = (t (ix1 r)).toNat then 9 / 10 else 1 / 319990 : ℝ) : EReal) := by
  have hl : ∀ k : Fin 2048, scatter_S2048x32000_S2048x2_S2048_n_01_01_1.resultIdx? (ix1 k) (pairs t) = some (ix2 r c)
      ↔ k = r ∧ c.val = (t (ix1 r)).toNat := fun k => by
    rw [lands, pairs_row, pairs_target t k (ht k)]
    have e1 : (BitVec.ofNat 32 k.val).toInt = k.val := by
      rw [BitVec.toInt_eq_toNat_of_lt] <;> rw [BitVec.toNat_ofNat, Nat.mod_eq_of_lt (by omega)]
      omega
    have e2 : (t (ix1 k)).toInt = (t (ix1 k)).toNat := BitVec.toInt_eq_toNat_of_lt (by have := ht k; omega)
    rw [e1, e2]
    constructor
    · rintro ⟨a, b⟩
      obtain rfl : k = r := Fin.ext (by omega)
      exact ⟨rfl, by omega⟩
    · rintro ⟨rfl, b⟩
      exact ⟨rfl, by omega⟩
  unfold trueDist
  by_cases h : c.val = (t (ix1 r)).toNat
  · rw [if_pos h, Routing.scatter_set_hit _ _ _ _ _ ((9 / 10 : ℝ) : EReal) (fun k _ => ?_) (ix1 r) ((hl r).2 ⟨rfl, h⟩)]
    show Ideal.div (Ideal.ofBits .f32 0x41100000#32) (Ideal.ofBits .f32 0x41200000#32) = _
    rw [ofBits_on_num, ofBits_on_den, div_coe _ _ (by norm_num)]
  · rw [if_neg h, Routing.scatter_set_miss _ _ _ _ _ fun k e => h ?_]
    · show Ideal.div (Ideal.ofBits .f32 0x3F800000#32) (Ideal.ofBits .f32 0x489C3EC0#32) = _
      rw [ofBits_off_num, ofBits_off_den, div_coe _ _ (by norm_num)]
    · rw [eq_ix1 k] at e
      exact ((hl _).1 e).2

/-! ## The operations at an index -/

theorem spread_apply {F : FTy → Type} [FloatOps F] (v : FVec F S2048 .f32) (r : Fin 2048) (c : Fin 32000) :
    broadcastInDim S2048x32000 ![0, 1] bcast_S2048x1_S2048x32000_0_1 (broadcastInDim S2048x1 ![0] bcast_S2048_S2048x1_0 v) (ix2 r c)
      = v (ix1 r) := by
  pointwise

theorem atLeast_apply (v : FVec Ideal S2048 .f32) (r : Fin 2048) :
    maximumf (broadcastInDim S2048 ![] bcast_S_S2048 (constant S_ .f32 0xFF800000#32)) v (ix1 r) = max (Ideal.ofBits .f32 0xFF800000#32) (v (ix1 r)) := by
  pointwise

theorem logd_apply (v : FVec Ideal S2048 .f32) (r : Fin 2048) (c : Fin 32000) :
    broadcastInDim S2048x32000 ![0, 1] bcast_S2048x1_S2048x32000_0_1 (Host.log (broadcastInDim S2048x1 ![0] bcast_S2048_S2048x1_0 v)) (ix2 r c)
      = Ideal.log (v (ix1 r)) := by
  pointwise

theorem sum_apply (x : FVec Ideal S2048x32000 .f32) (r : Fin 2048) :
    Host.reduceAdd x (constant S_ .f32 0x00000000#32) reducesTo_S2048x32000_S2048_d1 h_S_ (ix1 r) = ∑ n : Fin 32000, x (ix2 r n) := by
  pointwise

theorem total_apply (x : FVec Ideal S2048 .f32) (j : S_.Idx) :
    Host.reduceAdd x (constant S_ .f32 0x00000000#32) reducesTo_S2048_S_d0 h_S_ j = ∑ n : Fin 2048, x (ix1 n) := by
  pointwise

theorem hostMax_apply (x : FVec Ideal S2048x32000 .f32) (r : Fin 2048) :
    (Host.reduce FloatOps.maximumf x (constant S_ .f32 0xFF800000#32) reducesTo_S2048x32000_S2048_d1 h_S_ : FVec Ideal S2048 .f32) (ix1 r)
      = Finset.univ.fold max (Ideal.ofBits .f32 0xFF800000#32) (fun n : Fin 32000 => x (ix2 r n)) := by
  pointwise

/-! ## The logarithm of the softmax -/

theorem rowMax_apply (x : FVec Ideal S2048x32000 .f32) (r : Fin 2048) (c : Fin 32000) :
    rowMax x (ix2 r c) = max (Ideal.ofBits .f32 0xFF800000#32)
      (Finset.univ.fold max (Ideal.ofBits .f32 0xFF800000#32) (fun n => x (ix2 r n))) := by
  unfold rowMax
  rw [spread_apply, atLeast_apply, hostMax_apply]

/-- Over real entries a row's maximum is a real. -/
theorem rowMax_real (x : FVec Ideal S2048x32000 .f32) (r : Fin 2048) (y : Fin 32000 → ℝ) (hx : ∀ c, x (ix2 r c) = (y c : EReal)) :
    ∃ μ : ℝ, ∀ c, rowMax x (ix2 r c) = (μ : EReal) := by
  obtain ⟨μ, h⟩ := fold_max_real Finset.univ (univ_nonempty (n := 32000) (by norm_num)) y
  refine ⟨μ, fun c => ?_⟩
  rw [rowMax_apply, ofBits_bot, funext hx, h]
  exact max_eq_right bot_le

theorem logSoftmax_apply (x : FVec Ideal S2048x32000 .f32) (r : Fin 2048) (c : Fin 32000) :
    logSoftmax x (ix2 r c) = x (ix2 r c) - rowMax x (ix2 r c) - Ideal.log (∑ n, Ideal.exp (x (ix2 r n) - rowMax x (ix2 r n))) := by
  unfold logSoftmax
  generalize rowMax x = m
  pointwise

/-- Over real entries: an entry less its row's log-sum-exp. -/
theorem logSoftmax_real (x : FVec Ideal S2048x32000 .f32) (r : Fin 2048) (y : Fin 32000 → ℝ) (hx : ∀ c, x (ix2 r c) = (y c : EReal))
    (c : Fin 32000) : logSoftmax x (ix2 r c) = ((y c - Real.log (∑ n, Real.exp (y n)) : ℝ) : EReal) := by
  obtain ⟨μ, hμ⟩ := rowMax_real x r y hx
  have hp : 0 < ∑ n, Real.exp (y n) := Finset.sum_pos (fun n _ => Real.exp_pos _) (univ_nonempty (by norm_num))
  have h1 : ∑ n, Ideal.exp (x (ix2 r n) - rowMax x (ix2 r n)) = (((∑ n, Real.exp (y n)) * Real.exp (-μ) : ℝ) : EReal) := by
    rw [Finset.sum_mul, coe_sum]
    refine Finset.sum_congr rfl fun n _ => ?_
    rw [hx, hμ, ← EReal.coe_sub, exp_coe, ← Real.exp_add, sub_eq_add_neg]
  rw [logSoftmax_apply, h1, hx, hμ, log_coe (mul_pos hp (Real.exp_pos _)), Real.log_mul hp.ne' (Real.exp_pos _).ne', Real.log_exp,
    ← EReal.coe_sub, ← EReal.coe_sub]
  exact congrArg Real.toEReal (by ring)

/-! ## The mean -/

theorem meanOf_apply (p l : FVec Ideal S2048x32000 .f32) (j : S_.Idx) :
    meanOf p l j = Ideal.div (∑ r : Fin 2048, ∑ c : Fin 32000, -(p (ix2 r c)) * l (ix2 r c)) (Ideal.ofBits .f32 0x45000000#32) := by
  unfold meanOf
  pointwise

/-- A row of the loss, the weights adding up to one. -/
theorem row_loss {n : ℕ} (y : Fin n → ℝ) (a : Fin n) (L off on : ℝ) (h : (on - off) + n * off = 1) :
    ∑ c, -(if c = a then on else off) * (y c - L) = L - off * ∑ c, y c - (on - off) * y a := by
  have e : ∀ c, -(if c = a then on else off) * (y c - L) = (if c = a then -(on - off) * (y c - L) else 0) + (off * L - off * y c) := fun c => by
    split <;> ring
  rw [Finset.sum_congr rfl fun c _ => e c, Finset.sum_add_distrib, Finset.sum_sub_distrib, Finset.sum_ite_eq' Finset.univ a, if_pos (Finset.mem_univ _),
    Finset.sum_const, Finset.card_univ, Fintype.card_fin, nsmul_eq_mul, ← Finset.mul_sum]
  linear_combination L * h

/-- A row of the reference's loss over real entries. -/
theorem row_real (x : FVec Ideal S2048x32000 .f32) (t : IVec S2048 32) (r : Fin 2048) (y : ℕ → ℝ) (a : Fin 2048 → Fin 32000)
    (hx : ∀ c : Fin 32000, x (ix2 r c) = (y c.val : EReal)) (ht : ∀ k : Fin 2048, (t (ix1 k)).toNat = (a k).val) :
    ∑ c : Fin 32000, -(trueDist (F := Ideal) t (ix2 r c)) * logSoftmax x (ix2 r c) = ((rowReal y - 28799 / 31999 * y (a r).val : ℝ) : EReal) := by
  have h := row_loss (fun c : Fin 32000 => y c.val) (a r) (Real.log (∑ c : Fin 32000, Real.exp (y c.val))) (1 / 319990) (9 / 10) (by norm_num)
  have e : rowReal y - 28799 / 31999 * y (a r).val
      = ∑ c : Fin 32000, -(if c = a r then (9 / 10 : ℝ) else 1 / 319990) * (y c.val - Real.log (∑ c : Fin 32000, Real.exp (y c.val))) := by
    rw [h]
    unfold rowReal
    rw [Fin.sum_univ_eq_sum_range fun n => Real.exp (y n), Fin.sum_univ_eq_sum_range fun n => y n]
    ring
  rw [e, coe_sum]
  refine Finset.sum_congr rfl fun c _ => ?_
  rw [trueDist_apply t (fun k => by rw [ht k]; exact (a k).isLt) r c, logSoftmax_real x r (fun c => y c.val) hx c, ht r,
    ← EReal.coe_neg, ← EReal.coe_mul]
  simp only [Fin.ext_iff]

/-- The reference's result over real entries and targets in range. -/
theorem out_real (x : FVec Ideal S2048x32000 .f32) (t : IVec S2048 32) (y : ℕ → ℕ → ℝ) (a : Fin 2048 → Fin 32000)
    (hx : ∀ (r : Fin 2048) (c : Fin 32000), x (ix2 r c) = (y r.val c.val : EReal)) (ht : ∀ k : Fin 2048, (t (ix1 k)).toNat = (a k).val) (j : S_.Idx) :
    out (F := Ideal) x t j = (((∑ r : Fin 2048, (rowReal (y r.val) - 28799 / 31999 * y r.val (a r).val)) / 2048 : ℝ) : EReal) := by
  have hs : ∑ r : Fin 2048, ∑ c : Fin 32000, -(trueDist (F := Ideal) t (ix2 r c)) * logSoftmax x (ix2 r c)
      = ((∑ r : Fin 2048, (rowReal (y r.val) - 28799 / 31999 * y r.val (a r).val) : ℝ) : EReal) := by
    rw [coe_sum]
    exact Finset.sum_congr rfl fun r _ => row_real x t r (y r.val) a (hx r) ht
  unfold out
  rw [meanOf_apply, hs, ofBits_rows, div_coe _ _ (by norm_num)]

end Cert.Proof.Ref
-- ==== Proof.Algebra.lean ====
/- The kernel's idealization and the reference's leave one value: over real logits and targets in range both are the mean, over
   the rows, of the log-sum-exp less the off weight times the row's sum less the gap times the target's logit. -/
module

public import proofs.«01_k».proof.Proof.ScValue
public import proofs.«01_k».proof.Proof.RefValue
public import proofs.«01_k».proof.Proof.Frames

@[expose] public section

namespace Cert.Proof

open Idealize.ShloMosaic
open Cert.Proof.Tc (rowReal)
open scoped BigOperators

theorem rowN_val (r : Fin 2048) : Tile.rowN r.val = r := Fin.ext (Nat.mod_eq_of_lt r.isLt)

theorem colN_val (c : Fin 32000) : Tile.colN c.val = c := Fin.ext (Nat.mod_eq_of_lt c.isLt)

/-- The two ways of adding the rows up. -/
theorem mean_eq (L z : ℕ → ℝ) :
    (∑ r ∈ Finset.range 2048, L r - 28799 / 31999 * ∑ r ∈ Finset.range 2048, z r) * (1 / 2048)
      = (∑ r : Fin 2048, (L r.val - 28799 / 31999 * z r.val)) / 2048 := by
  rw [Fin.sum_univ_eq_sum_range fun r => L r - 28799 / 31999 * z r, Finset.sum_sub_distrib, ← Finset.mul_sum]
  ring

/-- On each device the reference's result, of the kernel's arguments, is the kernel's result. -/
theorem value_eq (m : (ℓ : Loc Cert.KernelIdeal.nD Cert.KernelIdeal.τ Cert.KernelIdeal.sig) → Buf (Elt Ideal) ℓ) (d : Dev Cert.KernelIdeal.nD)
    (x : FVec Ideal Cert.ReferenceIdeal.S2048x32000 .f32) (t : IVec Cert.ReferenceIdeal.S2048 32)
    (hx : ∀ r c, Tile.predM m d r c = x (ix2 r c)) (ht : ∀ r, Tile.tgt m d r = t (ix1 r))
    (hlt : ∀ r : Fin 2048, (t (ix1 r)).toNat < 32000) (hreal : ∀ (r : Fin 2048) (c : Fin 32000), ∃ y : ℝ, x (ix2 r c) = (y : EReal)) :
    Ref.out (F := Ideal) x t = Run.resVal (F := Ideal) m d := by
  choose y hy using hreal
  funext j
  have hk := Run.resVal_real m d (fun r c => y (Tile.rowN r) (Tile.colN c)) (fun r => y (Tile.rowN r) (Tile.colN (t (ix1 (Tile.rowN r))).toNat))
    (fun r c => by rw [hx, hy]) (fun r => by unfold Tile.predAt; rw [hx, hy, ht]) j
  have hr := Ref.out_real x t (fun r c => y (Tile.rowN r) (Tile.colN c)) (fun k => ⟨(t (ix1 k)).toNat, hlt k⟩)
    (fun r c => by rw [hy, rowN_val, colN_val]) (fun k => rfl) j
  rw [hk, hr, mean_eq]
  simp only [rowN_val]

theorem algebraic : Cert.algebraic_KernelIdeal_ReferenceIdeal_pre_finite_in_range := by
  intro m g m' g' hpre hargs
  refine ⟨fun c => Run.resVal (F := Ideal) m c, ?_, ?_⟩
  · exact (θ_run Cert.KernelIdeal.defs _ _).mono (fun r h c => ⟨(h.1 c).2.2, (h.1 c).1, (h.1 c).2.1⟩)
      (Run.run_main (F := Ideal) m g (preOK_finite m hpre))
  · refine (θ_run Cert.ReferenceIdeal.defs _ _).mono (fun r h c => ⟨(h c).1.trans ?_, (h c).2⟩) (Cert.ReferenceIdeal.Value.run (F := Ideal) m' g')
    have hv := value_eq m c (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (fun r k => by rw [(hargs c).1, ix2_eq_valueIdx]; rfl) (fun r => by rw [(hargs c).2, ix1_eq_valueIdx]; rfl)
      (fun r => by rw [(hargs c).2, ix1_eq_valueIdx]; exact finite_in_range_lt _ _ (hpre c) r)
      (fun r k => by rw [(hargs c).1, ix2_eq_valueIdx]; exact finite_in_range_real _ _ (hpre c) r k)
    exact hv

end Cert.Proof

end
-- ==== Proof.lean ====
/- The proof of the certificate's claims: the two kernels' runs, the reference's run, the named constants, and the equality of
   the two results at the ideal instance. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_in_range
public import proofs.«01_k».proof.Proof.FrameBits
public import proofs.«01_k».proof.Proof.Algebra
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.Gen.facts, Cert.Pre_finite_in_range.Gen.facts,
    frame_p, frame_pi, frame_pi_finite, frame_ri, frame_ri_finite, preserves, algebraic⟩

end Cert.Proof

end
